-- ==== Defs.lean ====
def Pre_Kernel [hPre_rows_in_range : Cert.Pre_rows_in_range.Facts] (m : (ℓ : Loc Cert.Kernel.nD Cert.Kernel.τ Cert.Kernel.sig) → Buf (Elt Bits) ℓ) : Prop :=
  ∀ c : Dev Cert.Kernel.nD,
    (Cert.Pre_rows_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_rows_in_range : Cert.Pre_rows_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_in_range [hPre_rows_in_range : Cert.Pre_rows_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_rows_in_range : Cert.Pre_rows_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_rows_in_range [hReferenceIdeal : Cert.ReferenceIdeal.Facts] [hPre_rows_in_range : Cert.Pre_rows_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_rows_in_range : Cert.Pre_rows_in_range.Facts),
    quiescent_Kernel (hKernel := hKernel) (hPre_rows_in_range := hPre_rows_in_range)
    ∧ quiescent_KernelIdeal (hKernelIdeal := hKernelIdeal) (hPre_rows_in_range := hPre_rows_in_range)
    ∧ quiescent_ReferenceIdeal (hReferenceIdeal := hReferenceIdeal)
    ∧ quiescent_ReferenceIdeal_pre_rows_in_range (hReferenceIdeal := hReferenceIdeal) (hPre_rows_in_range := hPre_rows_in_range)
    ∧ preserves_Kernel_KernelIdeal
    ∧ algebraic_KernelIdeal_ReferenceIdeal (hKernelIdeal := hKernelIdeal) (hReferenceIdeal := hReferenceIdeal) (hPre_rows_in_range := hPre_rows_in_range)
-- ==== Pre_rows_in_range.lean ====
abbrev S16384x2 : Shape := ⟨2, ![16384, 2]⟩
abbrev S58416x4 : Shape := ⟨2, ![58416, 4]⟩
abbrev S4x64 : Shape := ⟨2, ![4, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S16384x2 : S_.BroadcastsInDim S16384x2 (![] : Fin 0 → Fin S16384x2.rank)
  reducesTo_S16384x2_S_d0_1 : S16384x2.ReducesTo [0, 1] S_
  h_S_ : 0 < S_.numel

variable [Facts]

def fn {F : FTy → Type} [FloatOps F] (main_arg0 : IVec S16384x2 32) (main_arg1 : FVec F S58416x4 .f32) (main_arg2 : FVec F S4x64 .f32) (main_arg3 : FVec F S64 .f32) (main_arg4 : FVec F S64x32 .f32) (main_arg5 : FVec F S32 .f32) (main_arg6 : FVec F S32x2 .f32) (main_arg7 : FVec F S2 .f32) : IVec S_ 1 :=
  let main_c : IVec S_ 32 := constantI S_ 32 0#32
  let main_v0 : IVec S16384x2 32 := broadcastInDim S16384x2 ![] bcast_S_S16384x2 main_c
  let main_v1 : IVec S16384x2 1 := cmpi .sge main_arg0 main_v0
  let main_c_0 : IVec S_ 32 := constantI S_ 32 58416#32
  let main_v2 : IVec S16384x2 32 := broadcastInDim S16384x2 ![] bcast_S_S16384x2 main_c_0
  let main_v3 : IVec S16384x2 1 := cmpi .slt main_arg0 main_v2
  let main_v4 : IVec S16384x2 1 := andi main_v1 main_v3
  let main_c_1 : IVec S_ 1 := constantI S_ 1 1#1
  let main_v5 : IVec S_ 1 := (fun x v => Host.reduce IntOp.andi x v reducesTo_S16384x2_S_d0_1 h_S_) main_v4 main_c_1
  main_v5
-- ==== Kernel.lean ====
abbrev S16384x2 : Shape := ⟨2, ![16384, 2]⟩
abbrev S58416x4 : Shape := ⟨2, ![58416, 4]⟩
abbrev S4x64 : Shape := ⟨2, ![4, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S16384x1 : Shape := ⟨2, ![16384, 1]⟩
abbrev S16384 : Shape := ⟨1, ![16384]⟩
abbrev S14604x16 : Shape := ⟨2, ![14604, 16]⟩
abbrev S65536 : Shape := ⟨1, ![65536]⟩
abbrev S512 : Shape := ⟨1, ![512]⟩
abbrev S512x16 : Shape := ⟨2, ![512, 16]⟩
abbrev S2048 : Shape := ⟨1, ![2048]⟩
abbrev S_ : Shape := ⟨0, ![]⟩
abbrev S16 : Shape := ⟨1, ![16]⟩
abbrev S16384x4 : Shape := ⟨2, ![16384, 4]⟩
abbrev S1x64 : Shape := ⟨2, ![1, 64]⟩
abbrev S1x32 : Shape := ⟨2, ![1, 32]⟩
abbrev S1x2 : Shape := ⟨2, ![1, 2]⟩
abbrev S2048x4 : Shape := ⟨2, ![2048, 4]⟩
abbrev S2048x2 : Shape := ⟨2, ![2048, 2]⟩
abbrev S2048x64 : Shape := ⟨2, ![2048, 64]⟩
abbrev S2048x32 : Shape := ⟨2, ![2048, 32]⟩

abbrev nBuf : Table → Nat
  | .hbm => 19
  | .local .tc .vmem => 10
  | .local .scVector .vmem => 7
  | _ => 0

abbrev bufTy : (tb : Table) → Fin (nBuf tb) → BufTy
  | .hbm, ⟨0, _⟩ => ⟨S16384x2, .i32⟩
  | .hbm, ⟨1, _⟩ => ⟨S58416x4, .f32⟩
  | .hbm, ⟨2, _⟩ => ⟨S4x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x2, .f32⟩
  | .hbm, ⟨7, _⟩ => ⟨S2, .f32⟩
  | .hbm, ⟨8, _⟩ => ⟨S16384x1, .i32⟩
  | .hbm, ⟨9, _⟩ => ⟨S16384, .i32⟩
  | .hbm, ⟨10, _⟩ => ⟨S16384x1, .i32⟩
  | .hbm, ⟨11, _⟩ => ⟨S16384, .i32⟩
  | .hbm, ⟨12, _⟩ => ⟨S14604x16, .f32⟩
  | .hbm, ⟨13, _⟩ => ⟨S65536, .f32⟩
  | .hbm, ⟨14, _⟩ => ⟨S16384x4, .f32⟩
  | .hbm, ⟨15, _⟩ => ⟨S1x64, .f32⟩
  | .hbm, ⟨16, _⟩ => ⟨S1x32, .f32⟩
  | .hbm, ⟨17, _⟩ => ⟨S1x2, .f32⟩
  | .hbm, ⟨18, _⟩ => ⟨S16384x2, .f32⟩
  | .local .tc .vmem, ⟨0, _⟩ => ⟨S2048x4, .f32⟩
  | .local .tc .vmem, ⟨1, _⟩ => ⟨S2048x4, .f32⟩
  | .local .tc .vmem, ⟨2, _⟩ => ⟨S4x64, .f32⟩
  | .local .tc .vmem, ⟨3, _⟩ => ⟨S1x64, .f32⟩
  | .local .tc .vmem, ⟨4, _⟩ => ⟨S64x32, .f32⟩
  | .local .tc .vmem, ⟨5, _⟩ => ⟨S1x32, .f32⟩
  | .local .tc .vmem, ⟨6, _⟩ => ⟨S32x2, .f32⟩
  | .local .tc .vmem, ⟨7, _⟩ => ⟨S1x2, .f32⟩
  | .local .tc .vmem, ⟨8, _⟩ => ⟨S2048x2, .f32⟩
  | .local .tc .vmem, ⟨9, _⟩ => ⟨S2048x2, .f32⟩
  | .local .scVector .vmem, ⟨0, _⟩ => ⟨S512, .i32⟩
  | .local .scVector .vmem, ⟨1, _⟩ => ⟨S512, .i32⟩
  | .local .scVector .vmem, ⟨2, _⟩ => ⟨S512, .i32⟩
  | .local .scVector .vmem, ⟨3, _⟩ => ⟨S512, .i32⟩
  | .local .scVector .vmem, ⟨4, _⟩ => ⟨S512x16, .f32⟩
  | .local .scVector .vmem, ⟨5, _⟩ => ⟨S512x16, .f32⟩
  | .local .scVector .vmem, ⟨6, _⟩ => ⟨S2048, .f32⟩
  | _, _ => ⟨S16384x2, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v4_scv : Ref sig .scVector := ⟨.hbm, 12, rfl⟩
abbrev main_v1_scv : Ref sig .scVector := ⟨.hbm, 9, rfl⟩
abbrev main_v3_scv : Ref sig .scVector := ⟨.hbm, 11, rfl⟩
abbrev main_v5_scv : Ref sig .scVector := ⟨.hbm, 13, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg6_0 : Ref sig .tc := ⟨.vmem, 7, rfl⟩
abbrev cc1_stg7_0 : Ref sig .tc := ⟨.vmem, 8, rfl⟩
abbrev cc1_stg7_1 : Ref sig .tc := ⟨.vmem, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem7_1 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]

def k0_chk1 (v269 : IVec S16 32) : Prop :=
  (∀ a x, ((![v269] : Fin 1 → IVec S16 32) a x).toNat < S512.size a) ∧
  (∀ a x, ((![v269] : Fin 1 → IVec S16 32) a x).toNat < S512.size a)
theorem k0_idx1_inb : ∀ (v269 : IVec S16 32) (k0_hw1 : k0_chk1 v269), ∀ a x, ((![v269] : Fin 1 → IVec S16 32) a x).toNat < S512.size a := fun v269 k0_hw1 => k0_hw1.1
theorem k0_idx2_inb : ∀ (v269 : IVec S16 32) (k0_hw1 : k0_chk1 v269), ∀ a x, ((![v269] : Fin 1 → IVec S16 32) a x).toNat < S512.size a := fun v269 k0_hw1 => k0_hw1.2

def k0_chk2 (v269 : IVec S16 32) (v280 : IVec S16 32) : Prop :=
  (∀ a x, ((![v269, v280] : Fin 2 → IVec S16 32) a x).toNat < S512x16.size a)
theorem k0_idx3_inb : ∀ (v269 : IVec S16 32) (v280 : IVec S16 32) (k0_hw2 : k0_chk2 v269 v280), ∀ a x, ((![v269, v280] : Fin 2 → IVec S16 32) a x).toNat < S512x16.size a := fun v269 v280 k0_hw2 => k0_hw2

def k0_chk3 (v269 : IVec S16 32) (v282 : IVec S16 32) : Prop :=
  (∀ a x, ((![v269, v282] : Fin 2 → IVec S16 32) a x).toNat < S512x16.size a)
theorem k0_idx4_inb : ∀ (v269 : IVec S16 32) (v282 : IVec S16 32) (k0_hw3 : k0_chk3 v269 v282), ∀ a x, ((![v269, v282] : Fin 2 → IVec S16 32) a x).toNat < S512x16.size a := fun v269 v282 k0_hw3 => k0_hw3

def k0_chk4 (v287 : IVec S16 32) : Prop :=
  (∀ a x, ((![v287] : Fin 1 → IVec S16 32) a x).toNat < S512.size a) ∧
  (∀ a x, ((![v287] : Fin 1 → IVec S16 32) a x).toNat < S512.size a)
theorem k0_idx5_inb : ∀ (v287 : IVec S16 32) (k0_hw4 : k0_chk4 v287), ∀ a x, ((![v287] : Fin 1 → IVec S16 32) a x).toNat < S512.size a := fun v287 k0_hw4 => k0_hw4.1
theorem k0_idx6_inb : ∀ (v287 : IVec S16 32) (k0_hw4 : k0_chk4 v287), ∀ a x, ((![v287] : Fin 1 → IVec S16 32) a x).toNat < S512.size a := fun v287 k0_hw4 => k0_hw4.2

def k0_chk5 (v287 : IVec S16 32) (v298 : IVec S16 32) : Prop :=
  (∀ a x, ((![v287, v298] : Fin 2 → IVec S16 32) a x).toNat < S512x16.size a)
theorem k0_idx7_inb : ∀ (v287 : IVec S16 32) (v298 : IVec S16 32) (k0_hw5 : k0_chk5 v287 v298), ∀ a x, ((![v287, v298] : Fin 2 → IVec S16 32) a x).toNat < S512x16.size a := fun v287 v298 k0_hw5 => k0_hw5

def k0_chk6 (v287 : IVec S16 32) (v300 : IVec S16 32) : Prop :=
  (∀ a x, ((![v287, v300] : Fin 2 → IVec S16 32) a x).toNat < S512x16.size a)
theorem k0_idx8_inb : ∀ (v287 : IVec S16 32) (v300 : IVec S16 32) (k0_hw6 : k0_chk6 v287 v300), ∀ a x, ((![v287, v300] : Fin 2 → IVec S16 32) a x).toNat < S512x16.size a := fun v287 v300 k0_hw6 => k0_hw6

def k0_chk7 (v305 : IVec S16 32) : Prop :=
  (∀ a x, ((![v305] : Fin 1 → IVec S16 32) a x).toNat < S512.size a) ∧
  (∀ a x, ((![v305] : Fin 1 → IVec S16 32) a x).toNat < S512.size a)
theorem k0_idx9_inb : ∀ (v305 : IVec S16 32) (k0_hw7 : k0_chk7 v305), ∀ a x, ((![v305] : Fin 1 → IVec S16 32) a x).toNat < S512.size a := fun v305 k0_hw7 => k0_hw7.1
theorem k0_idx10_inb : ∀ (v305 : IVec S16 32) (k0_hw7 : k0_chk7 v305), ∀ a x, ((![v305] : Fin 1 → IVec S16 32) a x).toNat < S512.size a := fun v305 k0_hw7 => k0_hw7.2

def k0_chk8 (v305 : IVec S16 32) (v316 : IVec S16 32) : Prop :=
  (∀ a x, ((![v305, v316] : Fin 2 → IVec S16 32) a x).toNat < S512x16.size a)
theorem k0_idx11_inb : ∀ (v305 : IVec S16 32) (v316 : IVec S16 32) (k0_hw8 : k0_chk8 v305 v316), ∀ a x, ((![v305, v316] : Fin 2 → IVec S16 32) a x).toNat < S512x16.size a := fun v305 v316 k0_hw8 => k0_hw8

def k0_chk9 (v305 : IVec S16 32) (v318 : IVec S16 32) : Prop :=
  (∀ a x, ((![v305, v318] : Fin 2 → IVec S16 32) a x).toNat < S512x16.size a)
theorem k0_idx12_inb : ∀ (v305 : IVec S16 32) (v318 : IVec S16 32) (k0_hw9 : k0_chk9 v305 v318), ∀ a x, ((![v305, v318] : Fin 2 → IVec S16 32) a x).toNat < S512x16.size a := fun v305 v318 k0_hw9 => k0_hw9

def k0_chk10 (v323 : IVec S16 32) : Prop :=
  (∀ a x, ((![v323] : Fin 1 → IVec S16 32) a x).toNat < S512.size a) ∧
  (∀ a x, ((![v323] : Fin 1 → IVec S16 32) a x).toNat < S512.size a)
theorem k0_idx13_inb : ∀ (v323 : IVec S16 32) (k0_hw10 : k0_chk10 v323), ∀ a x, ((![v323] : Fin 1 → IVec S16 32) a x).toNat < S512.size a := fun v323 k0_hw10 => k0_hw10.1
theorem k0_idx14_inb : ∀ (v323 : IVec S16 32) (k0_hw10 : k0_chk10 v323), ∀ a x, ((![v323] : Fin 1 → IVec S16 32) a x).toNat < S512.size a := fun v323 k0_hw10 => k0_hw10.2

def k0_chk11 (v323 : IVec S16 32) (v334 : IVec S16 32) : Prop :=
  (∀ a x, ((![v323, v334] : Fin 2 → IVec S16 32) a x).toNat < S512x16.size a)
theorem k0_idx15_inb : ∀ (v323 : IVec S16 32) (v334 : IVec S16 32) (k0_hw11 : k0_chk11 v323 v334), ∀ a x, ((![v323, v334] : Fin 2 → IVec S16 32) a x).toNat < S512x16.size a := fun v323 v334 k0_hw11 => k0_hw11

def k0_chk12 (v323 : IVec S16 32) (v336 : IVec S16 32) : Prop :=
  (∀ a x, ((![v323, v336] : Fin 2 → IVec S16 32) a x).toNat < S512x16.size a)
theorem k0_idx16_inb : ∀ (v323 : IVec S16 32) (v336 : IVec S16 32) (k0_hw12 : k0_chk12 v323 v336), ∀ a x, ((![v323, v336] : Fin 2 → IVec S16 32) a x).toNat < S512x16.size a := fun v323 v336 k0_hw12 => k0_hw12

def k0_chk13 (v341 : IVec S16 32) : Prop :=
  (∀ a x, ((![v341] : Fin 1 → IVec S16 32) a x).toNat < S512.size a) ∧
  (∀ a x, ((![v341] : Fin 1 → IVec S16 32) a x).toNat < S512.size a)
theorem k0_idx17_inb : ∀ (v341 : IVec S16 32) (k0_hw13 : k0_chk13 v341), ∀ a x, ((![v341] : Fin 1 → IVec S16 32) a x).toNat < S512.size a := fun v341 k0_hw13 => k0_hw13.1
theorem k0_idx18_inb : ∀ (v341 : IVec S16 32) (k0_hw13 : k0_chk13 v341), ∀ a x, ((![v341] : Fin 1 → IVec S16 32) a x).toNat < S512.size a := fun v341 k0_hw13 => k0_hw13.2

def k0_chk14 (v341 : IVec S16 32) (v352 : IVec S16 32) : Prop :=
  (∀ a x, ((![v341, v352] : Fin 2 → IVec S16 32) a x).toNat < S512x16.size a)
theorem k0_idx19_inb : ∀ (v341 : IVec S16 32) (v352 : IVec S16 32) (k0_hw14 : k0_chk14 v341 v352), ∀ a x, ((![v341, v352] : Fin 2 → IVec S16 32) a x).toNat < S512x16.size a := fun v341 v352 k0_hw14 => k0_hw14

def k0_chk15 (v341 : IVec S16 32) (v354 : IVec S16 32) : Prop :=
  (∀ a x, ((![v341, v354] : Fin 2 → IVec S16 32) a x).toNat < S512x16.size a)
theorem k0_idx20_inb : ∀ (v341 : IVec S16 32) (v354 : IVec S16 32) (k0_hw15 : k0_chk15 v341 v354), ∀ a x, ((![v341, v354] : Fin 2 → IVec S16 32) a x).toNat < S512x16.size a := fun v341 v354 k0_hw15 => k0_hw15

def k0_chk16 (v359 : IVec S16 32) : Prop :=
  (∀ a x, ((![v359] : Fin 1 → IVec S16 32) a x).toNat < S512.size a) ∧
  (∀ a x, ((![v359] : Fin 1 → IVec S16 32) a x).toNat < S512.size a)
theorem k0_idx21_inb : ∀ (v359 : IVec S16 32) (k0_hw16 : k0_chk16 v359), ∀ a x, ((![v359] : Fin 1 → IVec S16 32) a x).toNat < S512.size a := fun v359 k0_hw16 => k0_hw16.1
theorem k0_idx22_inb : ∀ (v359 : IVec S16 32) (k0_hw16 : k0_chk16 v359), ∀ a x, ((![v359] : Fin 1 → IVec S16 32) a x).toNat < S512.size a := fun v359 k0_hw16 => k0_hw16.2

def k0_chk17 (v359 : IVec S16 32) (v370 : IVec S16 32) : Prop :=
  (∀ a x, ((![v359, v370] : Fin 2 → IVec S16 32) a x).toNat < S512x16.size a)
theorem k0_idx23_inb : ∀ (v359 : IVec S16 32) (v370 : IVec S16 32) (k0_hw17 : k0_chk17 v359 v370), ∀ a x, ((![v359, v370] : Fin 2 → IVec S16 32) a x).toNat < S512x16.size a := fun v359 v370 k0_hw17 => k0_hw17

def k0_chk18 (v359 : IVec S16 32) (v372 : IVec S16 32) : Prop :=
  (∀ a x, ((![v359, v372] : Fin 2 → IVec S16 32) a x).toNat < S512x16.size a)
theorem k0_idx24_inb : ∀ (v359 : IVec S16 32) (v372 : IVec S16 32) (k0_hw18 : k0_chk18 v359 v372), ∀ a x, ((![v359, v372] : Fin 2 → IVec S16 32) a x).toNat < S512x16.size a := fun v359 v372 k0_hw18 => k0_hw18

def k0_chk19 (v377 : IVec S16 32) : Prop :=
  (∀ a x, ((![v377] : Fin 1 → IVec S16 32) a x).toNat < S512.size a) ∧
  (∀ a x, ((![v377] : Fin 1 → IVec S16 32) a x).toNat < S512.size a)
theorem k0_idx25_inb : ∀ (v377 : IVec S16 32) (k0_hw19 : k0_chk19 v377), ∀ a x, ((![v377] : Fin 1 → IVec S16 32) a x).toNat < S512.size a := fun v377 k0_hw19 => k0_hw19.1
theorem k0_idx26_inb : ∀ (v377 : IVec S16 32) (k0_hw19 : k0_chk19 v377), ∀ a x, ((![v377] : Fin 1 → IVec S16 32) a x).toNat < S512.size a := fun v377 k0_hw19 => k0_hw19.2

def k0_chk20 (v377 : IVec S16 32) (v388 : IVec S16 32) : Prop :=
  (∀ a x, ((![v377, v388] : Fin 2 → IVec S16 32) a x).toNat < S512x16.size a)
theorem k0_idx27_inb : ∀ (v377 : IVec S16 32) (v388 : IVec S16 32) (k0_hw20 : k0_chk20 v377 v388), ∀ a x, ((![v377, v388] : Fin 2 → IVec S16 32) a x).toNat < S512x16.size a := fun v377 v388 k0_hw20 => k0_hw20

def k0_chk21 (v377 : IVec S16 32) (v390 : IVec S16 32) : Prop :=
  (∀ a x, ((![v377, v390] : Fin 2 → IVec S16 32) a x).toNat < S512x16.size a)
theorem k0_idx28_inb : ∀ (v377 : IVec S16 32) (v390 : IVec S16 32) (k0_hw21 : k0_chk21 v377 v390), ∀ a x, ((![v377, v390] : Fin 2 → IVec S16 32) a x).toNat < S512x16.size a := fun v377 v390 k0_hw21 => k0_hw21

def k0_chk22 (v395 : IVec S16 32) : Prop :=
  (∀ a x, ((![v395] : Fin 1 → IVec S16 32) a x).toNat < S512.size a) ∧
  (∀ a x, ((![v395] : Fin 1 → IVec S16 32) a x).toNat < S512.size a)
theorem k0_idx29_inb : ∀ (v395 : IVec S16 32) (k0_hw22 : k0_chk22 v395), ∀ a x, ((![v395] : Fin 1 → IVec S16 32) a x).toNat < S512.size a := fun v395 k0_hw22 => k0_hw22.1
theorem k0_idx30_inb : ∀ (v395 : IVec S16 32) (k0_hw22 : k0_chk22 v395), ∀ a x, ((![v395] : Fin 1 → IVec S16 32) a x).toNat < S512.size a := fun v395 k0_hw22 => k0_hw22.2

def k0_chk23 (v395 : IVec S16 32) (v406 : IVec S16 32) : Prop :=
  (∀ a x, ((![v395, v406] : Fin 2 → IVec S16 32) a x).toNat < S512x16.size a)
theorem k0_idx31_inb : ∀ (v395 : IVec S16 32) (v406 : IVec S16 32) (k0_hw23 : k0_chk23 v395 v406), ∀ a x, ((![v395, v406] : Fin 2 → IVec S16 32) a x).toNat < S512x16.size a := fun v395 v406 k0_hw23 => k0_hw23

def k0_chk24 (v395 : IVec S16 32) (v408 : IVec S16 32) : Prop :=
  (∀ a x, ((![v395, v408] : Fin 2 → IVec S16 32) a x).toNat < S512x16.size a)
theorem k0_idx32_inb : ∀ (v395 : IVec S16 32) (v408 : IVec S16 32) (k0_hw24 : k0_chk24 v395 v408), ∀ a x, ((![v395, v408] : Fin 2 → IVec S16 32) a x).toNat < S512x16.size a := fun v395 v408 k0_hw24 => k0_hw24

def k0_chk25 (v413 : IVec S16 32) : Prop :=
  (∀ a x, ((![v413] : Fin 1 → IVec S16 32) a x).toNat < S512.size a) ∧
  (∀ a x, ((![v413] : Fin 1 → IVec S16 32) a x).toNat < S512.size a)
theorem k0_idx33_inb : ∀ (v413 : IVec S16 32) (k0_hw25 : k0_chk25 v413), ∀ a x, ((![v413] : Fin 1 → IVec S16 32) a x).toNat < S512.size a := fun v413 k0_hw25 => k0_hw25.1
theorem k0_idx34_inb : ∀ (v413 : IVec S16 32) (k0_hw25 : k0_chk25 v413), ∀ a x, ((![v413] : Fin 1 → IVec S16 32) a x).toNat < S512.size a := fun v413 k0_hw25 => k0_hw25.2

def k0_chk26 (v413 : IVec S16 32) (v424 : IVec S16 32) : Prop :=
  (∀ a x, ((![v413, v424] : Fin 2 → IVec S16 32) a x).toNat < S512x16.size a)
theorem k0_idx35_inb : ∀ (v413 : IVec S16 32) (v424 : IVec S16 32) (k0_hw26 : k0_chk26 v413 v424), ∀ a x, ((![v413, v424] : Fin 2 → IVec S16 32) a x).toNat < S512x16.size a := fun v413 v424 k0_hw26 => k0_hw26

def k0_chk27 (v413 : IVec S16 32) (v426 : IVec S16 32) : Prop :=
  (∀ a x, ((![v413, v426] : Fin 2 → IVec S16 32) a x).toNat < S512x16.size a)
theorem k0_idx36_inb : ∀ (v413 : IVec S16 32) (v426 : IVec S16 32) (k0_hw27 : k0_chk27 v413 v426), ∀ a x, ((![v413, v426] : Fin 2 → IVec S16 32) a x).toNat < S512x16.size a := fun v413 v426 k0_hw27 => k0_hw27

def k0_chk28 (v431 : IVec S16 32) : Prop :=
  (∀ a x, ((![v431] : Fin 1 → IVec S16 32) a x).toNat < S512.size a) ∧
  (∀ a x, ((![v431] : Fin 1 → IVec S16 32) a x).toNat < S512.size a)
theorem k0_idx37_inb : ∀ (v431 : IVec S16 32) (k0_hw28 : k0_chk28 v431), ∀ a x, ((![v431] : Fin 1 → IVec S16 32) a x).toNat < S512.size a := fun v431 k0_hw28 => k0_hw28.1
theorem k0_idx38_inb : ∀ (v431 : IVec S16 32) (k0_hw28 : k0_chk28 v431), ∀ a x, ((![v431] : Fin 1 → IVec S16 32) a x).toNat < S512.size a := fun v431 k0_hw28 => k0_hw28.2

def k0_chk29 (v431 : IVec S16 32) (v442 : IVec S16 32) : Prop :=
  (∀ a x, ((![v431, v442] : Fin 2 → IVec S16 32) a x).toNat < S512x16.size a)
theorem k0_idx39_inb : ∀ (v431 : IVec S16 32) (v442 : IVec S16 32) (k0_hw29 : k0_chk29 v431 v442), ∀ a x, ((![v431, v442] : Fin 2 → IVec S16 32) a x).toNat < S512x16.size a := fun v431 v442 k0_hw29 => k0_hw29

def k0_chk30 (v431 : IVec S16 32) (v444 : IVec S16 32) : Prop :=
  (∀ a x, ((![v431, v444] : Fin 2 → IVec S16 32) a x).toNat < S512x16.size a)
theorem k0_idx40_inb : ∀ (v431 : IVec S16 32) (v444 : IVec S16 32) (k0_hw30 : k0_chk30 v431 v444), ∀ a x, ((![v431, v444] : Fin 2 → IVec S16 32) a x).toNat < S512x16.size a := fun v431 v444 k0_hw30 => k0_hw30

def k0_chk31 (v449 : IVec S16 32) : Prop :=
  (∀ a x, ((![v449] : Fin 1 → IVec S16 32) a x).toNat < S512.size a) ∧
  (∀ a x, ((![v449] : Fin 1 → IVec S16 32) a x).toNat < S512.size a)
theorem k0_idx41_inb : ∀ (v449 : IVec S16 32) (k0_hw31 : k0_chk31 v449), ∀ a x, ((![v449] : Fin 1 → IVec S16 32) a x).toNat < S512.size a := fun v449 k0_hw31 => k0_hw31.1
theorem k0_idx42_inb : ∀ (v449 : IVec S16 32) (k0_hw31 : k0_chk31 v449), ∀ a x, ((![v449] : Fin 1 → IVec S16 32) a x).toNat < S512.size a := fun v449 k0_hw31 => k0_hw31.2

def k0_chk32 (v449 : IVec S16 32) (v460 : IVec S16 32) : Prop :=
  (∀ a x, ((![v449, v460] : Fin 2 → IVec S16 32) a x).toNat < S512x16.size a)
theorem k0_idx43_inb : ∀ (v449 : IVec S16 32) (v460 : IVec S16 32) (k0_hw32 : k0_chk32 v449 v460), ∀ a x, ((![v449, v460] : Fin 2 → IVec S16 32) a x).toNat < S512x16.size a := fun v449 v460 k0_hw32 => k0_hw32

def k0_chk33 (v449 : IVec S16 32) (v462 : IVec S16 32) : Prop :=
  (∀ a x, ((![v449, v462] : Fin 2 → IVec S16 32) a x).toNat < S512x16.size a)
theorem k0_idx44_inb : ∀ (v449 : IVec S16 32) (v462 : IVec S16 32) (k0_hw33 : k0_chk33 v449 v462), ∀ a x, ((![v449, v462] : Fin 2 → IVec S16 32) a x).toNat < S512x16.size a := fun v449 v462 k0_hw33 => k0_hw33

def k0_chk34 (v467 : IVec S16 32) : Prop :=
  (∀ a x, ((![v467] : Fin 1 → IVec S16 32) a x).toNat < S512.size a) ∧
  (∀ a x, ((![v467] : Fin 1 → IVec S16 32) a x).toNat < S512.size a)
theorem k0_idx45_inb : ∀ (v467 : IVec S16 32) (k0_hw34 : k0_chk34 v467), ∀ a x, ((![v467] : Fin 1 → IVec S16 32) a x).toNat < S512.size a := fun v467 k0_hw34 => k0_hw34.1
theorem k0_idx46_inb : ∀ (v467 : IVec S16 32) (k0_hw34 : k0_chk34 v467), ∀ a x, ((![v467] : Fin 1 → IVec S16 32) a x).toNat < S512.size a := fun v467 k0_hw34 => k0_hw34.2

def k0_chk35 (v467 : IVec S16 32) (v478 : IVec S16 32) : Prop :=
  (∀ a x, ((![v467, v478] : Fin 2 → IVec S16 32) a x).toNat < S512x16.size a)
theorem k0_idx47_inb : ∀ (v467 : IVec S16 32) (v478 : IVec S16 32) (k0_hw35 : k0_chk35 v467 v478), ∀ a x, ((![v467, v478] : Fin 2 → IVec S16 32) a x).toNat < S512x16.size a := fun v467 v478 k0_hw35 => k0_hw35

def k0_chk36 (v467 : IVec S16 32) (v480 : IVec S16 32) : Prop :=
  (∀ a x, ((![v467, v480] : Fin 2 → IVec S16 32) a x).toNat < S512x16.size a)
theorem k0_idx48_inb : ∀ (v467 : IVec S16 32) (v480 : IVec S16 32) (k0_hw36 : k0_chk36 v467 v480), ∀ a x, ((![v467, v480] : Fin 2 → IVec S16 32) a x).toNat < S512x16.size a := fun v467 v480 k0_hw36 => k0_hw36

def k0_chk37 (v485 : IVec S16 32) : Prop :=
  (∀ a x, ((![v485] : Fin 1 → IVec S16 32) a x).toNat < S512.size a) ∧
  (∀ a x, ((![v485] : Fin 1 → IVec S16 32) a x).toNat < S512.size a)
theorem k0_idx49_inb : ∀ (v485 : IVec S16 32) (k0_hw37 : k0_chk37 v485), ∀ a x, ((![v485] : Fin 1 → IVec S16 32) a x).toNat < S512.size a := fun v485 k0_hw37 => k0_hw37.1
theorem k0_idx50_inb : ∀ (v485 : IVec S16 32) (k0_hw37 : k0_chk37 v485), ∀ a x, ((![v485] : Fin 1 → IVec S16 32) a x).toNat < S512.size a := fun v485 k0_hw37 => k0_hw37.2

def k0_chk38 (v485 : IVec S16 32) (v496 : IVec S16 32) : Prop :=
  (∀ a x, ((![v485, v496] : Fin 2 → IVec S16 32) a x).toNat < S512x16.size a)
theorem k0_idx51_inb : ∀ (v485 : IVec S16 32) (v496 : IVec S16 32) (k0_hw38 : k0_chk38 v485 v496), ∀ a x, ((![v485, v496] : Fin 2 → IVec S16 32) a x).toNat < S512x16.size a := fun v485 v496 k0_hw38 => k0_hw38

def k0_chk39 (v485 : IVec S16 32) (v498 : IVec S16 32) : Prop :=
  (∀ a x, ((![v485, v498] : Fin 2 → IVec S16 32) a x).toNat < S512x16.size a)
theorem k0_idx52_inb : ∀ (v485 : IVec S16 32) (v498 : IVec S16 32) (k0_hw39 : k0_chk39 v485 v498), ∀ a x, ((![v485, v498] : Fin 2 → IVec S16 32) a x).toNat < S512x16.size a := fun v485 v498 k0_hw39 => k0_hw39

def k0_chk40 (v503 : IVec S16 32) : Prop :=
  (∀ a x, ((![v503] : Fin 1 → IVec S16 32) a x).toNat < S512.size a) ∧
  (∀ a x, ((![v503] : Fin 1 → IVec S16 32) a x).toNat < S512.size a)
theorem k0_idx53_inb : ∀ (v503 : IVec S16 32) (k0_hw40 : k0_chk40 v503), ∀ a x, ((![v503] : Fin 1 → IVec S16 32) a x).toNat < S512.size a := fun v503 k0_hw40 => k0_hw40.1
theorem k0_idx54_inb : ∀ (v503 : IVec S16 32) (k0_hw40 : k0_chk40 v503), ∀ a x, ((![v503] : Fin 1 → IVec S16 32) a x).toNat < S512.size a := fun v503 k0_hw40 => k0_hw40.2

def k0_chk41 (v503 : IVec S16 32) (v514 : IVec S16 32) : Prop :=
  (∀ a x, ((![v503, v514] : Fin 2 → IVec S16 32) a x).toNat < S512x16.size a)
theorem k0_idx55_inb : ∀ (v503 : IVec S16 32) (v514 : IVec S16 32) (k0_hw41 : k0_chk41 v503 v514), ∀ a x, ((![v503, v514] : Fin 2 → IVec S16 32) a x).toNat < S512x16.size a := fun v503 v514 k0_hw41 => k0_hw41

def k0_chk42 (v503 : IVec S16 32) (v516 : IVec S16 32) : Prop :=
  (∀ a x, ((![v503, v516] : Fin 2 → IVec S16 32) a x).toNat < S512x16.size a)
theorem k0_idx56_inb : ∀ (v503 : IVec S16 32) (v516 : IVec S16 32) (k0_hw42 : k0_chk42 v503 v516), ∀ a x, ((![v503, v516] : Fin 2 → IVec S16 32) a x).toNat < S512x16.size a := fun v503 v516 k0_hw42 => k0_hw42

def k0_chk43 (v521 : IVec S16 32) : Prop :=
  (∀ a x, ((![v521] : Fin 1 → IVec S16 32) a x).toNat < S512.size a) ∧
  (∀ a x, ((![v521] : Fin 1 → IVec S16 32) a x).toNat < S512.size a)
theorem k0_idx57_inb : ∀ (v521 : IVec S16 32) (k0_hw43 : k0_chk43 v521), ∀ a x, ((![v521] : Fin 1 → IVec S16 32) a x).toNat < S512.size a := fun v521 k0_hw43 => k0_hw43.1
theorem k0_idx58_inb : ∀ (v521 : IVec S16 32) (k0_hw43 : k0_chk43 v521), ∀ a x, ((![v521] : Fin 1 → IVec S16 32) a x).toNat < S512.size a := fun v521 k0_hw43 => k0_hw43.2

def k0_chk44 (v521 : IVec S16 32) (v532 : IVec S16 32) : Prop :=
  (∀ a x, ((![v521, v532] : Fin 2 → IVec S16 32) a x).toNat < S512x16.size a)
theorem k0_idx59_inb : ∀ (v521 : IVec S16 32) (v532 : IVec S16 32) (k0_hw44 : k0_chk44 v521 v532), ∀ a x, ((![v521, v532] : Fin 2 → IVec S16 32) a x).toNat < S512x16.size a := fun v521 v532 k0_hw44 => k0_hw44

def k0_chk45 (v521 : IVec S16 32) (v534 : IVec S16 32) : Prop :=
  (∀ a x, ((![v521, v534] : Fin 2 → IVec S16 32) a x).toNat < S512x16.size a)
theorem k0_idx60_inb : ∀ (v521 : IVec S16 32) (v534 : IVec S16 32) (k0_hw45 : k0_chk45 v521 v534), ∀ a x, ((![v521, v534] : Fin 2 → IVec S16 32) a x).toNat < S512x16.size a := fun v521 v534 k0_hw45 => k0_hw45

def k0_chk46 (v539 : IVec S16 32) : Prop :=
  (∀ a x, ((![v539] : Fin 1 → IVec S16 32) a x).toNat < S512.size a) ∧
  (∀ a x, ((![v539] : Fin 1 → IVec S16 32) a x).toNat < S512.size a)
theorem k0_idx61_inb : ∀ (v539 : IVec S16 32) (k0_hw46 : k0_chk46 v539), ∀ a x, ((![v539] : Fin 1 → IVec S16 32) a x).toNat < S512.size a := fun v539 k0_hw46 => k0_hw46.1
theorem k0_idx62_inb : ∀ (v539 : IVec S16 32) (k0_hw46 : k0_chk46 v539), ∀ a x, ((![v539] : Fin 1 → IVec S16 32) a x).toNat < S512.size a := fun v539 k0_hw46 => k0_hw46.2

def k0_chk47 (v539 : IVec S16 32) (v550 : IVec S16 32) : Prop :=
  (∀ a x, ((![v539, v550] : Fin 2 → IVec S16 32) a x).toNat < S512x16.size a)
theorem k0_idx63_inb : ∀ (v539 : IVec S16 32) (v550 : IVec S16 32) (k0_hw47 : k0_chk47 v539 v550), ∀ a x, ((![v539, v550] : Fin 2 → IVec S16 32) a x).toNat < S512x16.size a := fun v539 v550 k0_hw47 => k0_hw47

def k0_chk48 (v539 : IVec S16 32) (v552 : IVec S16 32) : Prop :=
  (∀ a x, ((![v539, v552] : Fin 2 → IVec S16 32) a x).toNat < S512x16.size a)
theorem k0_idx64_inb : ∀ (v539 : IVec S16 32) (v552 : IVec S16 32) (k0_hw48 : k0_chk48 v539 v552), ∀ a x, ((![v539, v552] : Fin 2 → IVec S16 32) a x).toNat < S512x16.size a := fun v539 v552 k0_hw48 => k0_hw48

def k0_chk49 (v557 : IVec S16 32) : Prop :=
  (∀ a x, ((![v557] : Fin 1 → IVec S16 32) a x).toNat < S512.size a) ∧
  (∀ a x, ((![v557] : Fin 1 → IVec S16 32) a x).toNat < S512.size a)
theorem k0_idx65_inb : ∀ (v557 : IVec S16 32) (k0_hw49 : k0_chk49 v557), ∀ a x, ((![v557] : Fin 1 → IVec S16 32) a x).toNat < S512.size a := fun v557 k0_hw49 => k0_hw49.1
theorem k0_idx66_inb : ∀ (v557 : IVec S16 32) (k0_hw49 : k0_chk49 v557), ∀ a x, ((![v557] : Fin 1 → IVec S16 32) a x).toNat < S512.size a := fun v557 k0_hw49 => k0_hw49.2

def k0_chk50 (v557 : IVec S16 32) (v568 : IVec S16 32) : Prop :=
  (∀ a x, ((![v557, v568] : Fin 2 → IVec S16 32) a x).toNat < S512x16.size a)
theorem k0_idx67_inb : ∀ (v557 : IVec S16 32) (v568 : IVec S16 32) (k0_hw50 : k0_chk50 v557 v568), ∀ a x, ((![v557, v568] : Fin 2 → IVec S16 32) a x).toNat < S512x16.size a := fun v557 v568 k0_hw50 => k0_hw50

def k0_chk51 (v557 : IVec S16 32) (v570 : IVec S16 32) : Prop :=
  (∀ a x, ((![v557, v570] : Fin 2 → IVec S16 32) a x).toNat < S512x16.size a)
theorem k0_idx68_inb : ∀ (v557 : IVec S16 32) (v570 : IVec S16 32) (k0_hw51 : k0_chk51 v557 v570), ∀ a x, ((![v557, v570] : Fin 2 → IVec S16 32) a x).toNat < S512x16.size a := fun v557 v570 k0_hw51 => k0_hw51

def k0_chk52 (v575 : IVec S16 32) : Prop :=
  (∀ a x, ((![v575] : Fin 1 → IVec S16 32) a x).toNat < S512.size a) ∧
  (∀ a x, ((![v575] : Fin 1 → IVec S16 32) a x).toNat < S512.size a)
theorem k0_idx69_inb : ∀ (v575 : IVec S16 32) (k0_hw52 : k0_chk52 v575), ∀ a x, ((![v575] : Fin 1 → IVec S16 32) a x).toNat < S512.size a := fun v575 k0_hw52 => k0_hw52.1
theorem k0_idx70_inb : ∀ (v575 : IVec S16 32) (k0_hw52 : k0_chk52 v575), ∀ a x, ((![v575] : Fin 1 → IVec S16 32) a x).toNat < S512.size a := fun v575 k0_hw52 => k0_hw52.2

def k0_chk53 (v575 : IVec S16 32) (v586 : IVec S16 32) : Prop :=
  (∀ a x, ((![v575, v586] : Fin 2 → IVec S16 32) a x).toNat < S512x16.size a)
theorem k0_idx71_inb : ∀ (v575 : IVec S16 32) (v586 : IVec S16 32) (k0_hw53 : k0_chk53 v575 v586), ∀ a x, ((![v575, v586] : Fin 2 → IVec S16 32) a x).toNat < S512x16.size a := fun v575 v586 k0_hw53 => k0_hw53

def k0_chk54 (v575 : IVec S16 32) (v588 : IVec S16 32) : Prop :=
  (∀ a x, ((![v575, v588] : Fin 2 → IVec S16 32) a x).toNat < S512x16.size a)
theorem k0_idx72_inb : ∀ (v575 : IVec S16 32) (v588 : IVec S16 32) (k0_hw54 : k0_chk54 v575 v588), ∀ a x, ((![v575, v588] : Fin 2 → IVec S16 32) a x).toNat < S512x16.size a := fun v575 v588 k0_hw54 => k0_hw54

def k0_chk55 (v593 : IVec S16 32) : Prop :=
  (∀ a x, ((![v593] : Fin 1 → IVec S16 32) a x).toNat < S512.size a) ∧
  (∀ a x, ((![v593] : Fin 1 → IVec S16 32) a x).toNat < S512.size a)
theorem k0_idx73_inb : ∀ (v593 : IVec S16 32) (k0_hw55 : k0_chk55 v593), ∀ a x, ((![v593] : Fin 1 → IVec S16 32) a x).toNat < S512.size a := fun v593 k0_hw55 => k0_hw55.1
theorem k0_idx74_inb : ∀ (v593 : IVec S16 32) (k0_hw55 : k0_chk55 v593), ∀ a x, ((![v593] : Fin 1 → IVec S16 32) a x).toNat < S512.size a := fun v593 k0_hw55 => k0_hw55.2

def k0_chk56 (v593 : IVec S16 32) (v604 : IVec S16 32) : Prop :=
  (∀ a x, ((![v593, v604] : Fin 2 → IVec S16 32) a x).toNat < S512x16.size a)
theorem k0_idx75_inb : ∀ (v593 : IVec S16 32) (v604 : IVec S16 32) (k0_hw56 : k0_chk56 v593 v604), ∀ a x, ((![v593, v604] : Fin 2 → IVec S16 32) a x).toNat < S512x16.size a := fun v593 v604 k0_hw56 => k0_hw56

def k0_chk57 (v593 : IVec S16 32) (v606 : IVec S16 32) : Prop :=
  (∀ a x, ((![v593, v606] : Fin 2 → IVec S16 32) a x).toNat < S512x16.size a)
theorem k0_idx76_inb : ∀ (v593 : IVec S16 32) (v606 : IVec S16 32) (k0_hw57 : k0_chk57 v593 v606), ∀ a x, ((![v593, v606] : Fin 2 → IVec S16 32) a x).toNat < S512x16.size a := fun v593 v606 k0_hw57 => k0_hw57

def k0_chk58 (v611 : IVec S16 32) : Prop :=
  (∀ a x, ((![v611] : Fin 1 → IVec S16 32) a x).toNat < S512.size a) ∧
  (∀ a x, ((![v611] : Fin 1 → IVec S16 32) a x).toNat < S512.size a)
theorem k0_idx77_inb : ∀ (v611 : IVec S16 32) (k0_hw58 : k0_chk58 v611), ∀ a x, ((![v611] : Fin 1 → IVec S16 32) a x).toNat < S512.size a := fun v611 k0_hw58 => k0_hw58.1
theorem k0_idx78_inb : ∀ (v611 : IVec S16 32) (k0_hw58 : k0_chk58 v611), ∀ a x, ((![v611] : Fin 1 → IVec S16 32) a x).toNat < S512.size a := fun v611 k0_hw58 => k0_hw58.2

def k0_chk59 (v611 : IVec S16 32) (v622 : IVec S16 32) : Prop :=
  (∀ a x, ((![v611, v622] : Fin 2 → IVec S16 32) a x).toNat < S512x16.size a)
theorem k0_idx79_inb : ∀ (v611 : IVec S16 32) (v622 : IVec S16 32) (k0_hw59 : k0_chk59 v611 v622), ∀ a x, ((![v611, v622] : Fin 2 → IVec S16 32) a x).toNat < S512x16.size a := fun v611 v622 k0_hw59 => k0_hw59

def k0_chk60 (v611 : IVec S16 32) (v624 : IVec S16 32) : Prop :=
  (∀ a x, ((![v611, v624] : Fin 2 → IVec S16 32) a x).toNat < S512x16.size a)
theorem k0_idx80_inb : ∀ (v611 : IVec S16 32) (v624 : IVec S16 32) (k0_hw60 : k0_chk60 v611 v624), ∀ a x, ((![v611, v624] : Fin 2 → IVec S16 32) a x).toNat < S512x16.size a := fun v611 v624 k0_hw60 => k0_hw60

def k0_chk61 (v629 : IVec S16 32) : Prop :=
  (∀ a x, ((![v629] : Fin 1 → IVec S16 32) a x).toNat < S512.size a) ∧
  (∀ a x, ((![v629] : Fin 1 → IVec S16 32) a x).toNat < S512.size a)
theorem k0_idx81_inb : ∀ (v629 : IVec S16 32) (k0_hw61 : k0_chk61 v629), ∀ a x, ((![v629] : Fin 1 → IVec S16 32) a x).toNat < S512.size a := fun v629 k0_hw61 => k0_hw61.1
theorem k0_idx82_inb : ∀ (v629 : IVec S16 32) (k0_hw61 : k0_chk61 v629), ∀ a x, ((![v629] : Fin 1 → IVec S16 32) a x).toNat < S512.size a := fun v629 k0_hw61 => k0_hw61.2

def k0_chk62 (v629 : IVec S16 32) (v640 : IVec S16 32) : Prop :=
  (∀ a x, ((![v629, v640] : Fin 2 → IVec S16 32) a x).toNat < S512x16.size a)
theorem k0_idx83_inb : ∀ (v629 : IVec S16 32) (v640 : IVec S16 32) (k0_hw62 : k0_chk62 v629 v640), ∀ a x, ((![v629, v640] : Fin 2 → IVec S16 32) a x).toNat < S512x16.size a := fun v629 v640 k0_hw62 => k0_hw62

def k0_chk63 (v629 : IVec S16 32) (v642 : IVec S16 32) : Prop :=
  (∀ a x, ((![v629, v642] : Fin 2 → IVec S16 32) a x).toNat < S512x16.size a)
theorem k0_idx84_inb : ∀ (v629 : IVec S16 32) (v642 : IVec S16 32) (k0_hw63 : k0_chk63 v629 v642), ∀ a x, ((![v629, v642] : Fin 2 → IVec S16 32) a x).toNat < S512x16.size a := fun v629 v642 k0_hw63 => k0_hw63

def k0_chk64 (v647 : IVec S16 32) : Prop :=
  (∀ a x, ((![v647] : Fin 1 → IVec S16 32) a x).toNat < S512.size a) ∧
  (∀ a x, ((![v647] : Fin 1 → IVec S16 32) a x).toNat < S512.size a)
theorem k0_idx85_inb : ∀ (v647 : IVec S16 32) (k0_hw64 : k0_chk64 v647), ∀ a x, ((![v647] : Fin 1 → IVec S16 32) a x).toNat < S512.size a := fun v647 k0_hw64 => k0_hw64.1
theorem k0_idx86_inb : ∀ (v647 : IVec S16 32) (k0_hw64 : k0_chk64 v647), ∀ a x, ((![v647] : Fin 1 → IVec S16 32) a x).toNat < S512.size a := fun v647 k0_hw64 => k0_hw64.2

def k0_chk65 (v647 : IVec S16 32) (v658 : IVec S16 32) : Prop :=
  (∀ a x, ((![v647, v658] : Fin 2 → IVec S16 32) a x).toNat < S512x16.size a)
theorem k0_idx87_inb : ∀ (v647 : IVec S16 32) (v658 : IVec S16 32) (k0_hw65 : k0_chk65 v647 v658), ∀ a x, ((![v647, v658] : Fin 2 → IVec S16 32) a x).toNat < S512x16.size a := fun v647 v658 k0_hw65 => k0_hw65

def k0_chk66 (v647 : IVec S16 32) (v660 : IVec S16 32) : Prop :=
  (∀ a x, ((![v647, v660] : Fin 2 → IVec S16 32) a x).toNat < S512x16.size a)
theorem k0_idx88_inb : ∀ (v647 : IVec S16 32) (v660 : IVec S16 32) (k0_hw66 : k0_chk66 v647 v660), ∀ a x, ((![v647, v660] : Fin 2 → IVec S16 32) a x).toNat < S512x16.size a := fun v647 v660 k0_hw66 => k0_hw66

def k0_chk67 (v665 : IVec S16 32) : Prop :=
  (∀ a x, ((![v665] : Fin 1 → IVec S16 32) a x).toNat < S512.size a) ∧
  (∀ a x, ((![v665] : Fin 1 → IVec S16 32) a x).toNat < S512.size a)
theorem k0_idx89_inb : ∀ (v665 : IVec S16 32) (k0_hw67 : k0_chk67 v665), ∀ a x, ((![v665] : Fin 1 → IVec S16 32) a x).toNat < S512.size a := fun v665 k0_hw67 => k0_hw67.1
theorem k0_idx90_inb : ∀ (v665 : IVec S16 32) (k0_hw67 : k0_chk67 v665), ∀ a x, ((![v665] : Fin 1 → IVec S16 32) a x).toNat < S512.size a := fun v665 k0_hw67 => k0_hw67.2

def k0_chk68 (v665 : IVec S16 32) (v676 : IVec S16 32) : Prop :=
  (∀ a x, ((![v665, v676] : Fin 2 → IVec S16 32) a x).toNat < S512x16.size a)
theorem k0_idx91_inb : ∀ (v665 : IVec S16 32) (v676 : IVec S16 32) (k0_hw68 : k0_chk68 v665 v676), ∀ a x, ((![v665, v676] : Fin 2 → IVec S16 32) a x).toNat < S512x16.size a := fun v665 v676 k0_hw68 => k0_hw68

def k0_chk69 (v665 : IVec S16 32) (v678 : IVec S16 32) : Prop :=
  (∀ a x, ((![v665, v678] : Fin 2 → IVec S16 32) a x).toNat < S512x16.size a)
theorem k0_idx92_inb : ∀ (v665 : IVec S16 32) (v678 : IVec S16 32) (k0_hw69 : k0_chk69 v665 v678), ∀ a x, ((![v665, v678] : Fin 2 → IVec S16 32) a x).toNat < S512x16.size a := fun v665 v678 k0_hw69 => k0_hw69

def k0_chk70 (v683 : IVec S16 32) : Prop :=
  (∀ a x, ((![v683] : Fin 1 → IVec S16 32) a x).toNat < S512.size a) ∧
  (∀ a x, ((![v683] : Fin 1 → IVec S16 32) a x).toNat < S512.size a)
theorem k0_idx93_inb : ∀ (v683 : IVec S16 32) (k0_hw70 : k0_chk70 v683), ∀ a x, ((![v683] : Fin 1 → IVec S16 32) a x).toNat < S512.size a := fun v683 k0_hw70 => k0_hw70.1
theorem k0_idx94_inb : ∀ (v683 : IVec S16 32) (k0_hw70 : k0_chk70 v683), ∀ a x, ((![v683] : Fin 1 → IVec S16 32) a x).toNat < S512.size a := fun v683 k0_hw70 => k0_hw70.2

def k0_chk71 (v683 : IVec S16 32) (v694 : IVec S16 32) : Prop :=
  (∀ a x, ((![v683, v694] : Fin 2 → IVec S16 32) a x).toNat < S512x16.size a)
theorem k0_idx95_inb : ∀ (v683 : IVec S16 32) (v694 : IVec S16 32) (k0_hw71 : k0_chk71 v683 v694), ∀ a x, ((![v683, v694] : Fin 2 → IVec S16 32) a x).toNat < S512x16.size a := fun v683 v694 k0_hw71 => k0_hw71

def k0_chk72 (v683 : IVec S16 32) (v696 : IVec S16 32) : Prop :=
  (∀ a x, ((![v683, v696] : Fin 2 → IVec S16 32) a x).toNat < S512x16.size a)
theorem k0_idx96_inb : ∀ (v683 : IVec S16 32) (v696 : IVec S16 32) (k0_hw72 : k0_chk72 v683 v696), ∀ a x, ((![v683, v696] : Fin 2 → IVec S16 32) a x).toNat < S512x16.size a := fun v683 v696 k0_hw72 => k0_hw72

def k0_chk73 (v701 : IVec S16 32) : Prop :=
  (∀ a x, ((![v701] : Fin 1 → IVec S16 32) a x).toNat < S512.size a) ∧
  (∀ a x, ((![v701] : Fin 1 → IVec S16 32) a x).toNat < S512.size a)
theorem k0_idx97_inb : ∀ (v701 : IVec S16 32) (k0_hw73 : k0_chk73 v701), ∀ a x, ((![v701] : Fin 1 → IVec S16 32) a x).toNat < S512.size a := fun v701 k0_hw73 => k0_hw73.1
theorem k0_idx98_inb : ∀ (v701 : IVec S16 32) (k0_hw73 : k0_chk73 v701), ∀ a x, ((![v701] : Fin 1 → IVec S16 32) a x).toNat < S512.size a := fun v701 k0_hw73 => k0_hw73.2

def k0_chk74 (v701 : IVec S16 32) (v712 : IVec S16 32) : Prop :=
  (∀ a x, ((![v701, v712] : Fin 2 → IVec S16 32) a x).toNat < S512x16.size a)
theorem k0_idx99_inb : ∀ (v701 : IVec S16 32) (v712 : IVec S16 32) (k0_hw74 : k0_chk74 v701 v712), ∀ a x, ((![v701, v712] : Fin 2 → IVec S16 32) a x).toNat < S512x16.size a := fun v701 v712 k0_hw74 => k0_hw74

def k0_chk75 (v701 : IVec S16 32) (v714 : IVec S16 32) : Prop :=
  (∀ a x, ((![v701, v714] : Fin 2 → IVec S16 32) a x).toNat < S512x16.size a)
theorem k0_idx100_inb : ∀ (v701 : IVec S16 32) (v714 : IVec S16 32) (k0_hw75 : k0_chk75 v701 v714), ∀ a x, ((![v701, v714] : Fin 2 → IVec S16 32) a x).toNat < S512x16.size a := fun v701 v714 k0_hw75 => k0_hw75

def k0_chk76 (v719 : IVec S16 32) : Prop :=
  (∀ a x, ((![v719] : Fin 1 → IVec S16 32) a x).toNat < S512.size a) ∧
  (∀ a x, ((![v719] : Fin 1 → IVec S16 32) a x).toNat < S512.size a)
theorem k0_idx101_inb : ∀ (v719 : IVec S16 32) (k0_hw76 : k0_chk76 v719), ∀ a x, ((![v719] : Fin 1 → IVec S16 32) a x).toNat < S512.size a := fun v719 k0_hw76 => k0_hw76.1
theorem k0_idx102_inb : ∀ (v719 : IVec S16 32) (k0_hw76 : k0_chk76 v719), ∀ a x, ((![v719] : Fin 1 → IVec S16 32) a x).toNat < S512.size a := fun v719 k0_hw76 => k0_hw76.2

def k0_chk77 (v719 : IVec S16 32) (v730 : IVec S16 32) : Prop :=
  (∀ a x, ((![v719, v730] : Fin 2 → IVec S16 32) a x).toNat < S512x16.size a)
theorem k0_idx103_inb : ∀ (v719 : IVec S16 32) (v730 : IVec S16 32) (k0_hw77 : k0_chk77 v719 v730), ∀ a x, ((![v719, v730] : Fin 2 → IVec S16 32) a x).toNat < S512x16.size a := fun v719 v730 k0_hw77 => k0_hw77

def k0_chk78 (v719 : IVec S16 32) (v732 : IVec S16 32) : Prop :=
  (∀ a x, ((![v719, v732] : Fin 2 → IVec S16 32) a x).toNat < S512x16.size a)
theorem k0_idx104_inb : ∀ (v719 : IVec S16 32) (v732 : IVec S16 32) (k0_hw78 : k0_chk78 v719 v732), ∀ a x, ((![v719, v732] : Fin 2 → IVec S16 32) a x).toNat < S512x16.size a := fun v719 v732 k0_hw78 => k0_hw78

def k0_chk79 (v737 : IVec S16 32) : Prop :=
  (∀ a x, ((![v737] : Fin 1 → IVec S16 32) a x).toNat < S512.size a) ∧
  (∀ a x, ((![v737] : Fin 1 → IVec S16 32) a x).toNat < S512.size a)
theorem k0_idx105_inb : ∀ (v737 : IVec S16 32) (k0_hw79 : k0_chk79 v737), ∀ a x, ((![v737] : Fin 1 → IVec S16 32) a x).toNat < S512.size a := fun v737 k0_hw79 => k0_hw79.1
theorem k0_idx106_inb : ∀ (v737 : IVec S16 32) (k0_hw79 : k0_chk79 v737), ∀ a x, ((![v737] : Fin 1 → IVec S16 32) a x).toNat < S512.size a := fun v737 k0_hw79 => k0_hw79.2

def k0_chk80 (v737 : IVec S16 32) (v748 : IVec S16 32) : Prop :=
  (∀ a x, ((![v737, v748] : Fin 2 → IVec S16 32) a x).toNat < S512x16.size a)
theorem k0_idx107_inb : ∀ (v737 : IVec S16 32) (v748 : IVec S16 32) (k0_hw80 : k0_chk80 v737 v748), ∀ a x, ((![v737, v748] : Fin 2 → IVec S16 32) a x).toNat < S512x16.size a := fun v737 v748 k0_hw80 => k0_hw80

def k0_chk81 (v737 : IVec S16 32) (v750 : IVec S16 32) : Prop :=
  (∀ a x, ((![v737, v750] : Fin 2 → IVec S16 32) a x).toNat < S512x16.size a)
theorem k0_idx108_inb : ∀ (v737 : IVec S16 32) (v750 : IVec S16 32) (k0_hw81 : k0_chk81 v737 v750), ∀ a x, ((![v737, v750] : Fin 2 → IVec S16 32) a x).toNat < S512x16.size a := fun v737 v750 k0_hw81 => k0_hw81

def k0_chk82 (v755 : IVec S16 32) : Prop :=
  (∀ a x, ((![v755] : Fin 1 → IVec S16 32) a x).toNat < S512.size a) ∧
  (∀ a x, ((![v755] : Fin 1 → IVec S16 32) a x).toNat < S512.size a)
theorem k0_idx109_inb : ∀ (v755 : IVec S16 32) (k0_hw82 : k0_chk82 v755), ∀ a x, ((![v755] : Fin 1 → IVec S16 32) a x).toNat < S512.size a := fun v755 k0_hw82 => k0_hw82.1
theorem k0_idx110_inb : ∀ (v755 : IVec S16 32) (k0_hw82 : k0_chk82 v755), ∀ a x, ((![v755] : Fin 1 → IVec S16 32) a x).toNat < S512.size a := fun v755 k0_hw82 => k0_hw82.2

def k0_chk83 (v755 : IVec S16 32) (v766 : IVec S16 32) : Prop :=
  (∀ a x, ((![v755, v766] : Fin 2 → IVec S16 32) a x).toNat < S512x16.size a)
theorem k0_idx111_inb : ∀ (v755 : IVec S16 32) (v766 : IVec S16 32) (k0_hw83 : k0_chk83 v755 v766), ∀ a x, ((![v755, v766] : Fin 2 → IVec S16 32) a x).toNat < S512x16.size a := fun v755 v766 k0_hw83 => k0_hw83

def k0_chk84 (v755 : IVec S16 32) (v768 : IVec S16 32) : Prop :=
  (∀ a x, ((![v755, v768] : Fin 2 → IVec S16 32) a x).toNat < S512x16.size a)
theorem k0_idx112_inb : ∀ (v755 : IVec S16 32) (v768 : IVec S16 32) (k0_hw84 : k0_chk84 v755 v768), ∀ a x, ((![v755, v768] : Fin 2 → IVec S16 32) a x).toNat < S512x16.size a := fun v755 v768 k0_hw84 => k0_hw84

def k0_chk85 (v773 : IVec S16 32) : Prop :=
  (∀ a x, ((![v773] : Fin 1 → IVec S16 32) a x).toNat < S512.size a) ∧
  (∀ a x, ((![v773] : Fin 1 → IVec S16 32) a x).toNat < S512.size a)
theorem k0_idx113_inb : ∀ (v773 : IVec S16 32) (k0_hw85 : k0_chk85 v773), ∀ a x, ((![v773] : Fin 1 → IVec S16 32) a x).toNat < S512.size a := fun v773 k0_hw85 => k0_hw85.1
theorem k0_idx114_inb : ∀ (v773 : IVec S16 32) (k0_hw85 : k0_chk85 v773), ∀ a x, ((![v773] : Fin 1 → IVec S16 32) a x).toNat < S512.size a := fun v773 k0_hw85 => k0_hw85.2

def k0_chk86 (v773 : IVec S16 32) (v784 : IVec S16 32) : Prop :=
  (∀ a x, ((![v773, v784] : Fin 2 → IVec S16 32) a x).toNat < S512x16.size a)
theorem k0_idx115_inb : ∀ (v773 : IVec S16 32) (v784 : IVec S16 32) (k0_hw86 : k0_chk86 v773 v784), ∀ a x, ((![v773, v784] : Fin 2 → IVec S16 32) a x).toNat < S512x16.size a := fun v773 v784 k0_hw86 => k0_hw86

def k0_chk87 (v773 : IVec S16 32) (v786 : IVec S16 32) : Prop :=
  (∀ a x, ((![v773, v786] : Fin 2 → IVec S16 32) a x).toNat < S512x16.size a)
theorem k0_idx116_inb : ∀ (v773 : IVec S16 32) (v786 : IVec S16 32) (k0_hw87 : k0_chk87 v773 v786), ∀ a x, ((![v773, v786] : Fin 2 → IVec S16 32) a x).toNat < S512x16.size a := fun v773 v786 k0_hw87 => k0_hw87

def k0_chk88 (v791 : IVec S16 32) : Prop :=
  (∀ a x, ((![v791] : Fin 1 → IVec S16 32) a x).toNat < S512.size a) ∧
  (∀ a x, ((![v791] : Fin 1 → IVec S16 32) a x).toNat < S512.size a)
theorem k0_idx117_inb : ∀ (v791 : IVec S16 32) (k0_hw88 : k0_chk88 v791), ∀ a x, ((![v791] : Fin 1 → IVec S16 32) a x).toNat < S512.size a := fun v791 k0_hw88 => k0_hw88.1
theorem k0_idx118_inb : ∀ (v791 : IVec S16 32) (k0_hw88 : k0_chk88 v791), ∀ a x, ((![v791] : Fin 1 → IVec S16 32) a x).toNat < S512.size a := fun v791 k0_hw88 => k0_hw88.2

def k0_chk89 (v791 : IVec S16 32) (v802 : IVec S16 32) : Prop :=
  (∀ a x, ((![v791, v802] : Fin 2 → IVec S16 32) a x).toNat < S512x16.size a)
theorem k0_idx119_inb : ∀ (v791 : IVec S16 32) (v802 : IVec S16 32) (k0_hw89 : k0_chk89 v791 v802), ∀ a x, ((![v791, v802] : Fin 2 → IVec S16 32) a x).toNat < S512x16.size a := fun v791 v802 k0_hw89 => k0_hw89

def k0_chk90 (v791 : IVec S16 32) (v804 : IVec S16 32) : Prop :=
  (∀ a x, ((![v791, v804] : Fin 2 → IVec S16 32) a x).toNat < S512x16.size a)
theorem k0_idx120_inb : ∀ (v791 : IVec S16 32) (v804 : IVec S16 32) (k0_hw90 : k0_chk90 v791 v804), ∀ a x, ((![v791, v804] : Fin 2 → IVec S16 32) a x).toNat < S512x16.size a := fun v791 v804 k0_hw90 => k0_hw90

def k0_chk91 (v809 : IVec S16 32) : Prop :=
  (∀ a x, ((![v809] : Fin 1 → IVec S16 32) a x).toNat < S512.size a) ∧
  (∀ a x, ((![v809] : Fin 1 → IVec S16 32) a x).toNat < S512.size a)
theorem k0_idx121_inb : ∀ (v809 : IVec S16 32) (k0_hw91 : k0_chk91 v809), ∀ a x, ((![v809] : Fin 1 → IVec S16 32) a x).toNat < S512.size a := fun v809 k0_hw91 => k0_hw91.1
theorem k0_idx122_inb : ∀ (v809 : IVec S16 32) (k0_hw91 : k0_chk91 v809), ∀ a x, ((![v809] : Fin 1 → IVec S16 32) a x).toNat < S512.size a := fun v809 k0_hw91 => k0_hw91.2

def k0_chk92 (v809 : IVec S16 32) (v820 : IVec S16 32) : Prop :=
  (∀ a x, ((![v809, v820] : Fin 2 → IVec S16 32) a x).toNat < S512x16.size a)
theorem k0_idx123_inb : ∀ (v809 : IVec S16 32) (v820 : IVec S16 32) (k0_hw92 : k0_chk92 v809 v820), ∀ a x, ((![v809, v820] : Fin 2 → IVec S16 32) a x).toNat < S512x16.size a := fun v809 v820 k0_hw92 => k0_hw92

def k0_chk93 (v809 : IVec S16 32) (v822 : IVec S16 32) : Prop :=
  (∀ a x, ((![v809, v822] : Fin 2 → IVec S16 32) a x).toNat < S512x16.size a)
theorem k0_idx124_inb : ∀ (v809 : IVec S16 32) (v822 : IVec S16 32) (k0_hw93 : k0_chk93 v809 v822), ∀ a x, ((![v809, v822] : Fin 2 → IVec S16 32) a x).toNat < S512x16.size a := fun v809 v822 k0_hw93 => k0_hw93

def k0_chk94 (v827 : IVec S16 32) : Prop :=
  (∀ a x, ((![v827] : Fin 1 → IVec S16 32) a x).toNat < S512.size a) ∧
  (∀ a x, ((![v827] : Fin 1 → IVec S16 32) a x).toNat < S512.size a)
theorem k0_idx125_inb : ∀ (v827 : IVec S16 32) (k0_hw94 : k0_chk94 v827), ∀ a x, ((![v827] : Fin 1 → IVec S16 32) a x).toNat < S512.size a := fun v827 k0_hw94 => k0_hw94.1
theorem k0_idx126_inb : ∀ (v827 : IVec S16 32) (k0_hw94 : k0_chk94 v827), ∀ a x, ((![v827] : Fin 1 → IVec S16 32) a x).toNat < S512.size a := fun v827 k0_hw94 => k0_hw94.2

def k0_chk95 (v827 : IVec S16 32) (v838 : IVec S16 32) : Prop :=
  (∀ a x, ((![v827, v838] : Fin 2 → IVec S16 32) a x).toNat < S512x16.size a)
theorem k0_idx127_inb : ∀ (v827 : IVec S16 32) (v838 : IVec S16 32) (k0_hw95 : k0_chk95 v827 v838), ∀ a x, ((![v827, v838] : Fin 2 → IVec S16 32) a x).toNat < S512x16.size a := fun v827 v838 k0_hw95 => k0_hw95

def k0_chk96 (v827 : IVec S16 32) (v840 : IVec S16 32) : Prop :=
  (∀ a x, ((![v827, v840] : Fin 2 → IVec S16 32) a x).toNat < S512x16.size a)
theorem k0_idx128_inb : ∀ (v827 : IVec S16 32) (v840 : IVec S16 32) (k0_hw96 : k0_chk96 v827 v840), ∀ a x, ((![v827, v840] : Fin 2 → IVec S16 32) a x).toNat < S512x16.size a := fun v827 v840 k0_hw96 => k0_hw96

def k0_chk97 (v845 : IVec S16 32) : Prop :=
  (∀ a x, ((![v845] : Fin 1 → IVec S16 32) a x).toNat < S512.size a) ∧
  (∀ a x, ((![v845] : Fin 1 → IVec S16 32) a x).toNat < S512.size a)
theorem k0_idx129_inb : ∀ (v845 : IVec S16 32) (k0_hw97 : k0_chk97 v845), ∀ a x, ((![v845] : Fin 1 → IVec S16 32) a x).toNat < S512.size a := fun v845 k0_hw97 => k0_hw97.1
theorem k0_idx130_inb : ∀ (v845 : IVec S16 32) (k0_hw97 : k0_chk97 v845), ∀ a x, ((![v845] : Fin 1 → IVec S16 32) a x).toNat < S512.size a := fun v845 k0_hw97 => k0_hw97.2

def k0_chk98 (v845 : IVec S16 32) (v856 : IVec S16 32) : Prop :=
  (∀ a x, ((![v845, v856] : Fin 2 → IVec S16 32) a x).toNat < S512x16.size a)
theorem k0_idx131_inb : ∀ (v845 : IVec S16 32) (v856 : IVec S16 32) (k0_hw98 : k0_chk98 v845 v856), ∀ a x, ((![v845, v856] : Fin 2 → IVec S16 32) a x).toNat < S512x16.size a := fun v845 v856 k0_hw98 => k0_hw98

def k0_chk99 (v845 : IVec S16 32) (v858 : IVec S16 32) : Prop :=
  (∀ a x, ((![v845, v858] : Fin 2 → IVec S16 32) a x).toNat < S512x16.size a)
theorem k0_idx132_inb : ∀ (v845 : IVec S16 32) (v858 : IVec S16 32) (k0_hw99 : k0_chk99 v845 v858), ∀ a x, ((![v845, v858] : Fin 2 → IVec S16 32) a x).toNat < S512x16.size a := fun v845 v858 k0_hw99 => k0_hw99

def k0_chk100 (v863 : IVec S16 32) : Prop :=
  (∀ a x, ((![v863] : Fin 1 → IVec S16 32) a x).toNat < S512.size a) ∧
  (∀ a x, ((![v863] : Fin 1 → IVec S16 32) a x).toNat < S512.size a)
theorem k0_idx133_inb : ∀ (v863 : IVec S16 32) (k0_hw100 : k0_chk100 v863), ∀ a x, ((![v863] : Fin 1 → IVec S16 32) a x).toNat < S512.size a := fun v863 k0_hw100 => k0_hw100.1
theorem k0_idx134_inb : ∀ (v863 : IVec S16 32) (k0_hw100 : k0_chk100 v863), ∀ a x, ((![v863] : Fin 1 → IVec S16 32) a x).toNat < S512.size a := fun v863 k0_hw100 => k0_hw100.2

def k0_chk101 (v863 : IVec S16 32) (v874 : IVec S16 32) : Prop :=
  (∀ a x, ((![v863, v874] : Fin 2 → IVec S16 32) a x).toNat < S512x16.size a)
theorem k0_idx135_inb : ∀ (v863 : IVec S16 32) (v874 : IVec S16 32) (k0_hw101 : k0_chk101 v863 v874), ∀ a x, ((![v863, v874] : Fin 2 → IVec S16 32) a x).toNat < S512x16.size a := fun v863 v874 k0_hw101 => k0_hw101

def k0_chk102 (v863 : IVec S16 32) (v876 : IVec S16 32) : Prop :=
  (∀ a x, ((![v863, v876] : Fin 2 → IVec S16 32) a x).toNat < S512x16.size a)
theorem k0_idx136_inb : ∀ (v863 : IVec S16 32) (v876 : IVec S16 32) (k0_hw102 : k0_chk102 v863 v876), ∀ a x, ((![v863, v876] : Fin 2 → IVec S16 32) a x).toNat < S512x16.size a := fun v863 v876 k0_hw102 => k0_hw102

def k0_chk103 (v881 : IVec S16 32) : Prop :=
  (∀ a x, ((![v881] : Fin 1 → IVec S16 32) a x).toNat < S512.size a) ∧
  (∀ a x, ((![v881] : Fin 1 → IVec S16 32) a x).toNat < S512.size a)
theorem k0_idx137_inb : ∀ (v881 : IVec S16 32) (k0_hw103 : k0_chk103 v881), ∀ a x, ((![v881] : Fin 1 → IVec S16 32) a x).toNat < S512.size a := fun v881 k0_hw103 => k0_hw103.1
theorem k0_idx138_inb : ∀ (v881 : IVec S16 32) (k0_hw103 : k0_chk103 v881), ∀ a x, ((![v881] : Fin 1 → IVec S16 32) a x).toNat < S512.size a := fun v881 k0_hw103 => k0_hw103.2

def k0_chk104 (v881 : IVec S16 32) (v892 : IVec S16 32) : Prop :=
  (∀ a x, ((![v881, v892] : Fin 2 → IVec S16 32) a x).toNat < S512x16.size a)
theorem k0_idx139_inb : ∀ (v881 : IVec S16 32) (v892 : IVec S16 32) (k0_hw104 : k0_chk104 v881 v892), ∀ a x, ((![v881, v892] : Fin 2 → IVec S16 32) a x).toNat < S512x16.size a := fun v881 v892 k0_hw104 => k0_hw104

def k0_chk105 (v881 : IVec S16 32) (v894 : IVec S16 32) : Prop :=
  (∀ a x, ((![v881, v894] : Fin 2 → IVec S16 32) a x).toNat < S512x16.size a)
theorem k0_idx140_inb : ∀ (v881 : IVec S16 32) (v894 : IVec S16 32) (k0_hw105 : k0_chk105 v881 v894), ∀ a x, ((![v881, v894] : Fin 2 → IVec S16 32) a x).toNat < S512x16.size a := fun v881 v894 k0_hw105 => k0_hw105

def k0_chk106 (v899 : IVec S16 32) : Prop :=
  (∀ a x, ((![v899] : Fin 1 → IVec S16 32) a x).toNat < S512.size a) ∧
  (∀ a x, ((![v899] : Fin 1 → IVec S16 32) a x).toNat < S512.size a)
theorem k0_idx141_inb : ∀ (v899 : IVec S16 32) (k0_hw106 : k0_chk106 v899), ∀ a x, ((![v899] : Fin 1 → IVec S16 32) a x).toNat < S512.size a := fun v899 k0_hw106 => k0_hw106.1
theorem k0_idx142_inb : ∀ (v899 : IVec S16 32) (k0_hw106 : k0_chk106 v899), ∀ a x, ((![v899] : Fin 1 → IVec S16 32) a x).toNat < S512.size a := fun v899 k0_hw106 => k0_hw106.2

def k0_chk107 (v899 : IVec S16 32) (v910 : IVec S16 32) : Prop :=
  (∀ a x, ((![v899, v910] : Fin 2 → IVec S16 32) a x).toNat < S512x16.size a)
theorem k0_idx143_inb : ∀ (v899 : IVec S16 32) (v910 : IVec S16 32) (k0_hw107 : k0_chk107 v899 v910), ∀ a x, ((![v899, v910] : Fin 2 → IVec S16 32) a x).toNat < S512x16.size a := fun v899 v910 k0_hw107 => k0_hw107

def k0_chk108 (v899 : IVec S16 32) (v912 : IVec S16 32) : Prop :=
  (∀ a x, ((![v899, v912] : Fin 2 → IVec S16 32) a x).toNat < S512x16.size a)
theorem k0_idx144_inb : ∀ (v899 : IVec S16 32) (v912 : IVec S16 32) (k0_hw108 : k0_chk108 v899 v912), ∀ a x, ((![v899, v912] : Fin 2 → IVec S16 32) a x).toNat < S512x16.size a := fun v899 v912 k0_hw108 => k0_hw108

def k0_chk109 (v917 : IVec S16 32) : Prop :=
  (∀ a x, ((![v917] : Fin 1 → IVec S16 32) a x).toNat < S512.size a) ∧
  (∀ a x, ((![v917] : Fin 1 → IVec S16 32) a x).toNat < S512.size a)
theorem k0_idx145_inb : ∀ (v917 : IVec S16 32) (k0_hw109 : k0_chk109 v917), ∀ a x, ((![v917] : Fin 1 → IVec S16 32) a x).toNat < S512.size a := fun v917 k0_hw109 => k0_hw109.1
theorem k0_idx146_inb : ∀ (v917 : IVec S16 32) (k0_hw109 : k0_chk109 v917), ∀ a x, ((![v917] : Fin 1 → IVec S16 32) a x).toNat < S512.size a := fun v917 k0_hw109 => k0_hw109.2

def k0_chk110 (v917 : IVec S16 32) (v928 : IVec S16 32) : Prop :=
  (∀ a x, ((![v917, v928] : Fin 2 → IVec S16 32) a x).toNat < S512x16.size a)
theorem k0_idx147_inb : ∀ (v917 : IVec S16 32) (v928 : IVec S16 32) (k0_hw110 : k0_chk110 v917 v928), ∀ a x, ((![v917, v928] : Fin 2 → IVec S16 32) a x).toNat < S512x16.size a := fun v917 v928 k0_hw110 => k0_hw110

def k0_chk111 (v917 : IVec S16 32) (v930 : IVec S16 32) : Prop :=
  (∀ a x, ((![v917, v930] : Fin 2 → IVec S16 32) a x).toNat < S512x16.size a)
theorem k0_idx148_inb : ∀ (v917 : IVec S16 32) (v930 : IVec S16 32) (k0_hw111 : k0_chk111 v917 v930), ∀ a x, ((![v917, v930] : Fin 2 → IVec S16 32) a x).toNat < S512x16.size a := fun v917 v930 k0_hw111 => k0_hw111

def k0_chk112 (v935 : IVec S16 32) : Prop :=
  (∀ a x, ((![v935] : Fin 1 → IVec S16 32) a x).toNat < S512.size a) ∧
  (∀ a x, ((![v935] : Fin 1 → IVec S16 32) a x).toNat < S512.size a)
theorem k0_idx149_inb : ∀ (v935 : IVec S16 32) (k0_hw112 : k0_chk112 v935), ∀ a x, ((![v935] : Fin 1 → IVec S16 32) a x).toNat < S512.size a := fun v935 k0_hw112 => k0_hw112.1
theorem k0_idx150_inb : ∀ (v935 : IVec S16 32) (k0_hw112 : k0_chk112 v935), ∀ a x, ((![v935] : Fin 1 → IVec S16 32) a x).toNat < S512.size a := fun v935 k0_hw112 => k0_hw112.2

def k0_chk113 (v935 : IVec S16 32) (v946 : IVec S16 32) : Prop :=
  (∀ a x, ((![v935, v946] : Fin 2 → IVec S16 32) a x).toNat < S512x16.size a)
theorem k0_idx151_inb : ∀ (v935 : IVec S16 32) (v946 : IVec S16 32) (k0_hw113 : k0_chk113 v935 v946), ∀ a x, ((![v935, v946] : Fin 2 → IVec S16 32) a x).toNat < S512x16.size a := fun v935 v946 k0_hw113 => k0_hw113

def k0_chk114 (v935 : IVec S16 32) (v948 : IVec S16 32) : Prop :=
  (∀ a x, ((![v935, v948] : Fin 2 → IVec S16 32) a x).toNat < S512x16.size a)
theorem k0_idx152_inb : ∀ (v935 : IVec S16 32) (v948 : IVec S16 32) (k0_hw114 : k0_chk114 v935 v948), ∀ a x, ((![v935, v948] : Fin 2 → IVec S16 32) a x).toNat < S512x16.size a := fun v935 v948 k0_hw114 => k0_hw114

def k0_chk115 (v953 : IVec S16 32) : Prop :=
  (∀ a x, ((![v953] : Fin 1 → IVec S16 32) a x).toNat < S512.size a) ∧
  (∀ a x, ((![v953] : Fin 1 → IVec S16 32) a x).toNat < S512.size a)
theorem k0_idx153_inb : ∀ (v953 : IVec S16 32) (k0_hw115 : k0_chk115 v953), ∀ a x, ((![v953] : Fin 1 → IVec S16 32) a x).toNat < S512.size a := fun v953 k0_hw115 => k0_hw115.1
theorem k0_idx154_inb : ∀ (v953 : IVec S16 32) (k0_hw115 : k0_chk115 v953), ∀ a x, ((![v953] : Fin 1 → IVec S16 32) a x).toNat < S512.size a := fun v953 k0_hw115 => k0_hw115.2

def k0_chk116 (v953 : IVec S16 32) (v964 : IVec S16 32) : Prop :=
  (∀ a x, ((![v953, v964] : Fin 2 → IVec S16 32) a x).toNat < S512x16.size a)
theorem k0_idx155_inb : ∀ (v953 : IVec S16 32) (v964 : IVec S16 32) (k0_hw116 : k0_chk116 v953 v964), ∀ a x, ((![v953, v964] : Fin 2 → IVec S16 32) a x).toNat < S512x16.size a := fun v953 v964 k0_hw116 => k0_hw116

def k0_chk117 (v953 : IVec S16 32) (v966 : IVec S16 32) : Prop :=
  (∀ a x, ((![v953, v966] : Fin 2 → IVec S16 32) a x).toNat < S512x16.size a)
theorem k0_idx156_inb : ∀ (v953 : IVec S16 32) (v966 : IVec S16 32) (k0_hw117 : k0_chk117 v953 v966), ∀ a x, ((![v953, v966] : Fin 2 → IVec S16 32) a x).toNat < S512x16.size a := fun v953 v966 k0_hw117 => k0_hw117

def k0_chk118 (v971 : IVec S16 32) : Prop :=
  (∀ a x, ((![v971] : Fin 1 → IVec S16 32) a x).toNat < S512.size a) ∧
  (∀ a x, ((![v971] : Fin 1 → IVec S16 32) a x).toNat < S512.size a)
theorem k0_idx157_inb : ∀ (v971 : IVec S16 32) (k0_hw118 : k0_chk118 v971), ∀ a x, ((![v971] : Fin 1 → IVec S16 32) a x).toNat < S512.size a := fun v971 k0_hw118 => k0_hw118.1
theorem k0_idx158_inb : ∀ (v971 : IVec S16 32) (k0_hw118 : k0_chk118 v971), ∀ a x, ((![v971] : Fin 1 → IVec S16 32) a x).toNat < S512.size a := fun v971 k0_hw118 => k0_hw118.2

def k0_chk119 (v971 : IVec S16 32) (v982 : IVec S16 32) : Prop :=
  (∀ a x, ((![v971, v982] : Fin 2 → IVec S16 32) a x).toNat < S512x16.size a)
theorem k0_idx159_inb : ∀ (v971 : IVec S16 32) (v982 : IVec S16 32) (k0_hw119 : k0_chk119 v971 v982), ∀ a x, ((![v971, v982] : Fin 2 → IVec S16 32) a x).toNat < S512x16.size a := fun v971 v982 k0_hw119 => k0_hw119

def k0_chk120 (v971 : IVec S16 32) (v984 : IVec S16 32) : Prop :=
  (∀ a x, ((![v971, v984] : Fin 2 → IVec S16 32) a x).toNat < S512x16.size a)
theorem k0_idx160_inb : ∀ (v971 : IVec S16 32) (v984 : IVec S16 32) (k0_hw120 : k0_chk120 v971 v984), ∀ a x, ((![v971, v984] : Fin 2 → IVec S16 32) a x).toNat < S512x16.size a := fun v971 v984 k0_hw120 => k0_hw120

def k0_chk121 (v989 : IVec S16 32) : Prop :=
  (∀ a x, ((![v989] : Fin 1 → IVec S16 32) a x).toNat < S512.size a) ∧
  (∀ a x, ((![v989] : Fin 1 → IVec S16 32) a x).toNat < S512.size a)
theorem k0_idx161_inb : ∀ (v989 : IVec S16 32) (k0_hw121 : k0_chk121 v989), ∀ a x, ((![v989] : Fin 1 → IVec S16 32) a x).toNat < S512.size a := fun v989 k0_hw121 => k0_hw121.1
theorem k0_idx162_inb : ∀ (v989 : IVec S16 32) (k0_hw121 : k0_chk121 v989), ∀ a x, ((![v989] : Fin 1 → IVec S16 32) a x).toNat < S512.size a := fun v989 k0_hw121 => k0_hw121.2

def k0_chk122 (v989 : IVec S16 32) (v1000 : IVec S16 32) : Prop :=
  (∀ a x, ((![v989, v1000] : Fin 2 → IVec S16 32) a x).toNat < S512x16.size a)
theorem k0_idx163_inb : ∀ (v989 : IVec S16 32) (v1000 : IVec S16 32) (k0_hw122 : k0_chk122 v989 v1000), ∀ a x, ((![v989, v1000] : Fin 2 → IVec S16 32) a x).toNat < S512x16.size a := fun v989 v1000 k0_hw122 => k0_hw122

def k0_chk123 (v989 : IVec S16 32) (v1002 : IVec S16 32) : Prop :=
  (∀ a x, ((![v989, v1002] : Fin 2 → IVec S16 32) a x).toNat < S512x16.size a)
theorem k0_idx164_inb : ∀ (v989 : IVec S16 32) (v1002 : IVec S16 32) (k0_hw123 : k0_chk123 v989 v1002), ∀ a x, ((![v989, v1002] : Fin 2 → IVec S16 32) a x).toNat < S512x16.size a := fun v989 v1002 k0_hw123 => k0_hw123

def k0_chk124 (v1007 : IVec S16 32) : Prop :=
  (∀ a x, ((![v1007] : Fin 1 → IVec S16 32) a x).toNat < S512.size a) ∧
  (∀ a x, ((![v1007] : Fin 1 → IVec S16 32) a x).toNat < S512.size a)
theorem k0_idx165_inb : ∀ (v1007 : IVec S16 32) (k0_hw124 : k0_chk124 v1007), ∀ a x, ((![v1007] : Fin 1 → IVec S16 32) a x).toNat < S512.size a := fun v1007 k0_hw124 => k0_hw124.1
theorem k0_idx166_inb : ∀ (v1007 : IVec S16 32) (k0_hw124 : k0_chk124 v1007), ∀ a x, ((![v1007] : Fin 1 → IVec S16 32) a x).toNat < S512.size a := fun v1007 k0_hw124 => k0_hw124.2

def k0_chk125 (v1007 : IVec S16 32) (v1018 : IVec S16 32) : Prop :=
  (∀ a x, ((![v1007, v1018] : Fin 2 → IVec S16 32) a x).toNat < S512x16.size a)
theorem k0_idx167_inb : ∀ (v1007 : IVec S16 32) (v1018 : IVec S16 32) (k0_hw125 : k0_chk125 v1007 v1018), ∀ a x, ((![v1007, v1018] : Fin 2 → IVec S16 32) a x).toNat < S512x16.size a := fun v1007 v1018 k0_hw125 => k0_hw125

def k0_chk126 (v1007 : IVec S16 32) (v1020 : IVec S16 32) : Prop :=
  (∀ a x, ((![v1007, v1020] : Fin 2 → IVec S16 32) a x).toNat < S512x16.size a)
theorem k0_idx168_inb : ∀ (v1007 : IVec S16 32) (v1020 : IVec S16 32) (k0_hw126 : k0_chk126 v1007 v1020), ∀ a x, ((![v1007, v1020] : Fin 2 → IVec S16 32) a x).toNat < S512x16.size a := fun v1007 v1020 k0_hw126 => k0_hw126

def k0_chk127 (v1025 : IVec S16 32) : Prop :=
  (∀ a x, ((![v1025] : Fin 1 → IVec S16 32) a x).toNat < S512.size a) ∧
  (∀ a x, ((![v1025] : Fin 1 → IVec S16 32) a x).toNat < S512.size a)
theorem k0_idx169_inb : ∀ (v1025 : IVec S16 32) (k0_hw127 : k0_chk127 v1025), ∀ a x, ((![v1025] : Fin 1 → IVec S16 32) a x).toNat < S512.size a := fun v1025 k0_hw127 => k0_hw127.1
theorem k0_idx170_inb : ∀ (v1025 : IVec S16 32) (k0_hw127 : k0_chk127 v1025), ∀ a x, ((![v1025] : Fin 1 → IVec S16 32) a x).toNat < S512.size a := fun v1025 k0_hw127 => k0_hw127.2

def k0_chk128 (v1025 : IVec S16 32) (v1036 : IVec S16 32) : Prop :=
  (∀ a x, ((![v1025, v1036] : Fin 2 → IVec S16 32) a x).toNat < S512x16.size a)
theorem k0_idx171_inb : ∀ (v1025 : IVec S16 32) (v1036 : IVec S16 32) (k0_hw128 : k0_chk128 v1025 v1036), ∀ a x, ((![v1025, v1036] : Fin 2 → IVec S16 32) a x).toNat < S512x16.size a := fun v1025 v1036 k0_hw128 => k0_hw128

def k0_chk129 (v1025 : IVec S16 32) (v1038 : IVec S16 32) : Prop :=
  (∀ a x, ((![v1025, v1038] : Fin 2 → IVec S16 32) a x).toNat < S512x16.size a)
theorem k0_idx172_inb : ∀ (v1025 : IVec S16 32) (v1038 : IVec S16 32) (k0_hw129 : k0_chk129 v1025 v1038), ∀ a x, ((![v1025, v1038] : Fin 2 → IVec S16 32) a x).toNat < S512x16.size a := fun v1025 v1038 k0_hw129 => k0_hw129

def k0_chk130 (v1043 : IVec S16 32) : Prop :=
  (∀ a x, ((![v1043] : Fin 1 → IVec S16 32) a x).toNat < S512.size a) ∧
  (∀ a x, ((![v1043] : Fin 1 → IVec S16 32) a x).toNat < S512.size a)
theorem k0_idx173_inb : ∀ (v1043 : IVec S16 32) (k0_hw130 : k0_chk130 v1043), ∀ a x, ((![v1043] : Fin 1 → IVec S16 32) a x).toNat < S512.size a := fun v1043 k0_hw130 => k0_hw130.1
theorem k0_idx174_inb : ∀ (v1043 : IVec S16 32) (k0_hw130 : k0_chk130 v1043), ∀ a x, ((![v1043] : Fin 1 → IVec S16 32) a x).toNat < S512.size a := fun v1043 k0_hw130 => k0_hw130.2

def k0_chk131 (v1043 : IVec S16 32) (v1054 : IVec S16 32) : Prop :=
  (∀ a x, ((![v1043, v1054] : Fin 2 → IVec S16 32) a x).toNat < S512x16.size a)
theorem k0_idx175_inb : ∀ (v1043 : IVec S16 32) (v1054 : IVec S16 32) (k0_hw131 : k0_chk131 v1043 v1054), ∀ a x, ((![v1043, v1054] : Fin 2 → IVec S16 32) a x).toNat < S512x16.size a := fun v1043 v1054 k0_hw131 => k0_hw131

def k0_chk132 (v1043 : IVec S16 32) (v1056 : IVec S16 32) : Prop :=
  (∀ a x, ((![v1043, v1056] : Fin 2 → IVec S16 32) a x).toNat < S512x16.size a)
theorem k0_idx176_inb : ∀ (v1043 : IVec S16 32) (v1056 : IVec S16 32) (k0_hw132 : k0_chk132 v1043 v1056), ∀ a x, ((![v1043, v1056] : Fin 2 → IVec S16 32) a x).toNat < S512x16.size a := fun v1043 v1056 k0_hw132 => k0_hw132

def k0_chk133 (v1061 : IVec S16 32) : Prop :=
  (∀ a x, ((![v1061] : Fin 1 → IVec S16 32) a x).toNat < S512.size a) ∧
  (∀ a x, ((![v1061] : Fin 1 → IVec S16 32) a x).toNat < S512.size a)
theorem k0_idx177_inb : ∀ (v1061 : IVec S16 32) (k0_hw133 : k0_chk133 v1061), ∀ a x, ((![v1061] : Fin 1 → IVec S16 32) a x).toNat < S512.size a := fun v1061 k0_hw133 => k0_hw133.1
theorem k0_idx178_inb : ∀ (v1061 : IVec S16 32) (k0_hw133 : k0_chk133 v1061), ∀ a x, ((![v1061] : Fin 1 → IVec S16 32) a x).toNat < S512.size a := fun v1061 k0_hw133 => k0_hw133.2

def k0_chk134 (v1061 : IVec S16 32) (v1072 : IVec S16 32) : Prop :=
  (∀ a x, ((![v1061, v1072] : Fin 2 → IVec S16 32) a x).toNat < S512x16.size a)
theorem k0_idx179_inb : ∀ (v1061 : IVec S16 32) (v1072 : IVec S16 32) (k0_hw134 : k0_chk134 v1061 v1072), ∀ a x, ((![v1061, v1072] : Fin 2 → IVec S16 32) a x).toNat < S512x16.size a := fun v1061 v1072 k0_hw134 => k0_hw134

def k0_chk135 (v1061 : IVec S16 32) (v1074 : IVec S16 32) : Prop :=
  (∀ a x, ((![v1061, v1074] : Fin 2 → IVec S16 32) a x).toNat < S512x16.size a)
theorem k0_idx180_inb : ∀ (v1061 : IVec S16 32) (v1074 : IVec S16 32) (k0_hw135 : k0_chk135 v1061 v1074), ∀ a x, ((![v1061, v1074] : Fin 2 → IVec S16 32) a x).toNat < S512x16.size a := fun v1061 v1074 k0_hw135 => k0_hw135

def k0_chk136 (v1079 : IVec S16 32) : Prop :=
  (∀ a x, ((![v1079] : Fin 1 → IVec S16 32) a x).toNat < S512.size a) ∧
  (∀ a x, ((![v1079] : Fin 1 → IVec S16 32) a x).toNat < S512.size a)
theorem k0_idx181_inb : ∀ (v1079 : IVec S16 32) (k0_hw136 : k0_chk136 v1079), ∀ a x, ((![v1079] : Fin 1 → IVec S16 32) a x).toNat < S512.size a := fun v1079 k0_hw136 => k0_hw136.1
theorem k0_idx182_inb : ∀ (v1079 : IVec S16 32) (k0_hw136 : k0_chk136 v1079), ∀ a x, ((![v1079] : Fin 1 → IVec S16 32) a x).toNat < S512.size a := fun v1079 k0_hw136 => k0_hw136.2

def k0_chk137 (v1079 : IVec S16 32) (v1090 : IVec S16 32) : Prop :=
  (∀ a x, ((![v1079, v1090] : Fin 2 → IVec S16 32) a x).toNat < S512x16.size a)
theorem k0_idx183_inb : ∀ (v1079 : IVec S16 32) (v1090 : IVec S16 32) (k0_hw137 : k0_chk137 v1079 v1090), ∀ a x, ((![v1079, v1090] : Fin 2 → IVec S16 32) a x).toNat < S512x16.size a := fun v1079 v1090 k0_hw137 => k0_hw137

def k0_chk138 (v1079 : IVec S16 32) (v1092 : IVec S16 32) : Prop :=
  (∀ a x, ((![v1079, v1092] : Fin 2 → IVec S16 32) a x).toNat < S512x16.size a)
theorem k0_idx184_inb : ∀ (v1079 : IVec S16 32) (v1092 : IVec S16 32) (k0_hw138 : k0_chk138 v1079 v1092), ∀ a x, ((![v1079, v1092] : Fin 2 → IVec S16 32) a x).toNat < S512x16.size a := fun v1079 v1092 k0_hw138 => k0_hw138

def k0_chk139 (v1097 : IVec S16 32) : Prop :=
  (∀ a x, ((![v1097] : Fin 1 → IVec S16 32) a x).toNat < S512.size a) ∧
  (∀ a x, ((![v1097] : Fin 1 → IVec S16 32) a x).toNat < S512.size a)
theorem k0_idx185_inb : ∀ (v1097 : IVec S16 32) (k0_hw139 : k0_chk139 v1097), ∀ a x, ((![v1097] : Fin 1 → IVec S16 32) a x).toNat < S512.size a := fun v1097 k0_hw139 => k0_hw139.1
theorem k0_idx186_inb : ∀ (v1097 : IVec S16 32) (k0_hw139 : k0_chk139 v1097), ∀ a x, ((![v1097] : Fin 1 → IVec S16 32) a x).toNat < S512.size a := fun v1097 k0_hw139 => k0_hw139.2

def k0_chk140 (v1097 : IVec S16 32) (v1108 : IVec S16 32) : Prop :=
  (∀ a x, ((![v1097, v1108] : Fin 2 → IVec S16 32) a x).toNat < S512x16.size a)
theorem k0_idx187_inb : ∀ (v1097 : IVec S16 32) (v1108 : IVec S16 32) (k0_hw140 : k0_chk140 v1097 v1108), ∀ a x, ((![v1097, v1108] : Fin 2 → IVec S16 32) a x).toNat < S512x16.size a := fun v1097 v1108 k0_hw140 => k0_hw140

def k0_chk141 (v1097 : IVec S16 32) (v1110 : IVec S16 32) : Prop :=
  (∀ a x, ((![v1097, v1110] : Fin 2 → IVec S16 32) a x).toNat < S512x16.size a)
theorem k0_idx188_inb : ∀ (v1097 : IVec S16 32) (v1110 : IVec S16 32) (k0_hw141 : k0_chk141 v1097 v1110), ∀ a x, ((![v1097, v1110] : Fin 2 → IVec S16 32) a x).toNat < S512x16.size a := fun v1097 v1110 k0_hw141 => k0_hw141

def k0_chk142 (v1115 : IVec S16 32) : Prop :=
  (∀ a x, ((![v1115] : Fin 1 → IVec S16 32) a x).toNat < S512.size a) ∧
  (∀ a x, ((![v1115] : Fin 1 → IVec S16 32) a x).toNat < S512.size a)
theorem k0_idx189_inb : ∀ (v1115 : IVec S16 32) (k0_hw142 : k0_chk142 v1115), ∀ a x, ((![v1115] : Fin 1 → IVec S16 32) a x).toNat < S512.size a := fun v1115 k0_hw142 => k0_hw142.1
theorem k0_idx190_inb : ∀ (v1115 : IVec S16 32) (k0_hw142 : k0_chk142 v1115), ∀ a x, ((![v1115] : Fin 1 → IVec S16 32) a x).toNat < S512.size a := fun v1115 k0_hw142 => k0_hw142.2

def k0_chk143 (v1115 : IVec S16 32) (v1126 : IVec S16 32) : Prop :=
  (∀ a x, ((![v1115, v1126] : Fin 2 → IVec S16 32) a x).toNat < S512x16.size a)
theorem k0_idx191_inb : ∀ (v1115 : IVec S16 32) (v1126 : IVec S16 32) (k0_hw143 : k0_chk143 v1115 v1126), ∀ a x, ((![v1115, v1126] : Fin 2 → IVec S16 32) a x).toNat < S512x16.size a := fun v1115 v1126 k0_hw143 => k0_hw143

def k0_chk144 (v1115 : IVec S16 32) (v1128 : IVec S16 32) : Prop :=
  (∀ a x, ((![v1115, v1128] : Fin 2 → IVec S16 32) a x).toNat < S512x16.size a)
theorem k0_idx192_inb : ∀ (v1115 : IVec S16 32) (v1128 : IVec S16 32) (k0_hw144 : k0_chk144 v1115 v1128), ∀ a x, ((![v1115, v1128] : Fin 2 → IVec S16 32) a x).toNat < S512x16.size a := fun v1115 v1128 k0_hw144 => k0_hw144

def k0_chk145 (v1133 : IVec S16 32) : Prop :=
  (∀ a x, ((![v1133] : Fin 1 → IVec S16 32) a x).toNat < S512.size a) ∧
  (∀ a x, ((![v1133] : Fin 1 → IVec S16 32) a x).toNat < S512.size a)
theorem k0_idx193_inb : ∀ (v1133 : IVec S16 32) (k0_hw145 : k0_chk145 v1133), ∀ a x, ((![v1133] : Fin 1 → IVec S16 32) a x).toNat < S512.size a := fun v1133 k0_hw145 => k0_hw145.1
theorem k0_idx194_inb : ∀ (v1133 : IVec S16 32) (k0_hw145 : k0_chk145 v1133), ∀ a x, ((![v1133] : Fin 1 → IVec S16 32) a x).toNat < S512.size a := fun v1133 k0_hw145 => k0_hw145.2

def k0_chk146 (v1133 : IVec S16 32) (v1144 : IVec S16 32) : Prop :=
  (∀ a x, ((![v1133, v1144] : Fin 2 → IVec S16 32) a x).toNat < S512x16.size a)
theorem k0_idx195_inb : ∀ (v1133 : IVec S16 32) (v1144 : IVec S16 32) (k0_hw146 : k0_chk146 v1133 v1144), ∀ a x, ((![v1133, v1144] : Fin 2 → IVec S16 32) a x).toNat < S512x16.size a := fun v1133 v1144 k0_hw146 => k0_hw146

def k0_chk147 (v1133 : IVec S16 32) (v1146 : IVec S16 32) : Prop :=
  (∀ a x, ((![v1133, v1146] : Fin 2 → IVec S16 32) a x).toNat < S512x16.size a)
theorem k0_idx196_inb : ∀ (v1133 : IVec S16 32) (v1146 : IVec S16 32) (k0_hw147 : k0_chk147 v1133 v1146), ∀ a x, ((![v1133, v1146] : Fin 2 → IVec S16 32) a x).toNat < S512x16.size a := fun v1133 v1146 k0_hw147 => k0_hw147

def k0_chk148 (v1151 : IVec S16 32) : Prop :=
  (∀ a x, ((![v1151] : Fin 1 → IVec S16 32) a x).toNat < S512.size a) ∧
  (∀ a x, ((![v1151] : Fin 1 → IVec S16 32) a x).toNat < S512.size a)
theorem k0_idx197_inb : ∀ (v1151 : IVec S16 32) (k0_hw148 : k0_chk148 v1151), ∀ a x, ((![v1151] : Fin 1 → IVec S16 32) a x).toNat < S512.size a := fun v1151 k0_hw148 => k0_hw148.1
theorem k0_idx198_inb : ∀ (v1151 : IVec S16 32) (k0_hw148 : k0_chk148 v1151), ∀ a x, ((![v1151] : Fin 1 → IVec S16 32) a x).toNat < S512.size a := fun v1151 k0_hw148 => k0_hw148.2

def k0_chk149 (v1151 : IVec S16 32) (v1162 : IVec S16 32) : Prop :=
  (∀ a x, ((![v1151, v1162] : Fin 2 → IVec S16 32) a x).toNat < S512x16.size a)
theorem k0_idx199_inb : ∀ (v1151 : IVec S16 32) (v1162 : IVec S16 32) (k0_hw149 : k0_chk149 v1151 v1162), ∀ a x, ((![v1151, v1162] : Fin 2 → IVec S16 32) a x).toNat < S512x16.size a := fun v1151 v1162 k0_hw149 => k0_hw149

def k0_chk150 (v1151 : IVec S16 32) (v1164 : IVec S16 32) : Prop :=
  (∀ a x, ((![v1151, v1164] : Fin 2 → IVec S16 32) a x).toNat < S512x16.size a)
theorem k0_idx200_inb : ∀ (v1151 : IVec S16 32) (v1164 : IVec S16 32) (k0_hw150 : k0_chk150 v1151 v1164), ∀ a x, ((![v1151, v1164] : Fin 2 → IVec S16 32) a x).toNat < S512x16.size a := fun v1151 v1164 k0_hw150 => k0_hw150

def k0_chk151 (v1169 : IVec S16 32) : Prop :=
  (∀ a x, ((![v1169] : Fin 1 → IVec S16 32) a x).toNat < S512.size a) ∧
  (∀ a x, ((![v1169] : Fin 1 → IVec S16 32) a x).toNat < S512.size a)
theorem k0_idx201_inb : ∀ (v1169 : IVec S16 32) (k0_hw151 : k0_chk151 v1169), ∀ a x, ((![v1169] : Fin 1 → IVec S16 32) a x).toNat < S512.size a := fun v1169 k0_hw151 => k0_hw151.1
theorem k0_idx202_inb : ∀ (v1169 : IVec S16 32) (k0_hw151 : k0_chk151 v1169), ∀ a x, ((![v1169] : Fin 1 → IVec S16 32) a x).toNat < S512.size a := fun v1169 k0_hw151 => k0_hw151.2

def k0_chk152 (v1169 : IVec S16 32) (v1180 : IVec S16 32) : Prop :=
  (∀ a x, ((![v1169, v1180] : Fin 2 → IVec S16 32) a x).toNat < S512x16.size a)
theorem k0_idx203_inb : ∀ (v1169 : IVec S16 32) (v1180 : IVec S16 32) (k0_hw152 : k0_chk152 v1169 v1180), ∀ a x, ((![v1169, v1180] : Fin 2 → IVec S16 32) a x).toNat < S512x16.size a := fun v1169 v1180 k0_hw152 => k0_hw152

def k0_chk153 (v1169 : IVec S16 32) (v1182 : IVec S16 32) : Prop :=
  (∀ a x, ((![v1169, v1182] : Fin 2 → IVec S16 32) a x).toNat < S512x16.size a)
theorem k0_idx204_inb : ∀ (v1169 : IVec S16 32) (v1182 : IVec S16 32) (k0_hw153 : k0_chk153 v1169 v1182), ∀ a x, ((![v1169, v1182] : Fin 2 → IVec S16 32) a x).toNat < S512x16.size a := fun v1169 v1182 k0_hw153 => k0_hw153

def k0_chk154 (v1187 : IVec S16 32) : Prop :=
  (∀ a x, ((![v1187] : Fin 1 → IVec S16 32) a x).toNat < S512.size a) ∧
  (∀ a x, ((![v1187] : Fin 1 → IVec S16 32) a x).toNat < S512.size a)
theorem k0_idx205_inb : ∀ (v1187 : IVec S16 32) (k0_hw154 : k0_chk154 v1187), ∀ a x, ((![v1187] : Fin 1 → IVec S16 32) a x).toNat < S512.size a := fun v1187 k0_hw154 => k0_hw154.1
theorem k0_idx206_inb : ∀ (v1187 : IVec S16 32) (k0_hw154 : k0_chk154 v1187), ∀ a x, ((![v1187] : Fin 1 → IVec S16 32) a x).toNat < S512.size a := fun v1187 k0_hw154 => k0_hw154.2

def k0_chk155 (v1187 : IVec S16 32) (v1198 : IVec S16 32) : Prop :=
  (∀ a x, ((![v1187, v1198] : Fin 2 → IVec S16 32) a x).toNat < S512x16.size a)
theorem k0_idx207_inb : ∀ (v1187 : IVec S16 32) (v1198 : IVec S16 32) (k0_hw155 : k0_chk155 v1187 v1198), ∀ a x, ((![v1187, v1198] : Fin 2 → IVec S16 32) a x).toNat < S512x16.size a := fun v1187 v1198 k0_hw155 => k0_hw155

def k0_chk156 (v1187 : IVec S16 32) (v1200 : IVec S16 32) : Prop :=
  (∀ a x, ((![v1187, v1200] : Fin 2 → IVec S16 32) a x).toNat < S512x16.size a)
theorem k0_idx208_inb : ∀ (v1187 : IVec S16 32) (v1200 : IVec S16 32) (k0_hw156 : k0_chk156 v1187 v1200), ∀ a x, ((![v1187, v1200] : Fin 2 → IVec S16 32) a x).toNat < S512x16.size a := fun v1187 v1200 k0_hw156 => k0_hw156

def k0_chk157 (v1205 : IVec S16 32) : Prop :=
  (∀ a x, ((![v1205] : Fin 1 → IVec S16 32) a x).toNat < S512.size a) ∧
  (∀ a x, ((![v1205] : Fin 1 → IVec S16 32) a x).toNat < S512.size a)
theorem k0_idx209_inb : ∀ (v1205 : IVec S16 32) (k0_hw157 : k0_chk157 v1205), ∀ a x, ((![v1205] : Fin 1 → IVec S16 32) a x).toNat < S512.size a := fun v1205 k0_hw157 => k0_hw157.1
theorem k0_idx210_inb : ∀ (v1205 : IVec S16 32) (k0_hw157 : k0_chk157 v1205), ∀ a x, ((![v1205] : Fin 1 → IVec S16 32) a x).toNat < S512.size a := fun v1205 k0_hw157 => k0_hw157.2

def k0_chk158 (v1205 : IVec S16 32) (v1216 : IVec S16 32) : Prop :=
  (∀ a x, ((![v1205, v1216] : Fin 2 → IVec S16 32) a x).toNat < S512x16.size a)
theorem k0_idx211_inb : ∀ (v1205 : IVec S16 32) (v1216 : IVec S16 32) (k0_hw158 : k0_chk158 v1205 v1216), ∀ a x, ((![v1205, v1216] : Fin 2 → IVec S16 32) a x).toNat < S512x16.size a := fun v1205 v1216 k0_hw158 => k0_hw158

def k0_chk159 (v1205 : IVec S16 32) (v1218 : IVec S16 32) : Prop :=
  (∀ a x, ((![v1205, v1218] : Fin 2 → IVec S16 32) a x).toNat < S512x16.size a)
theorem k0_idx212_inb : ∀ (v1205 : IVec S16 32) (v1218 : IVec S16 32) (k0_hw159 : k0_chk159 v1205 v1218), ∀ a x, ((![v1205, v1218] : Fin 2 → IVec S16 32) a x).toNat < S512x16.size a := fun v1205 v1218 k0_hw159 => k0_hw159

def k0_chk160 (v1223 : IVec S16 32) : Prop :=
  (∀ a x, ((![v1223] : Fin 1 → IVec S16 32) a x).toNat < S512.size a) ∧
  (∀ a x, ((![v1223] : Fin 1 → IVec S16 32) a x).toNat < S512.size a)
theorem k0_idx213_inb : ∀ (v1223 : IVec S16 32) (k0_hw160 : k0_chk160 v1223), ∀ a x, ((![v1223] : Fin 1 → IVec S16 32) a x).toNat < S512.size a := fun v1223 k0_hw160 => k0_hw160.1
theorem k0_idx214_inb : ∀ (v1223 : IVec S16 32) (k0_hw160 : k0_chk160 v1223), ∀ a x, ((![v1223] : Fin 1 → IVec S16 32) a x).toNat < S512.size a := fun v1223 k0_hw160 => k0_hw160.2

def k0_chk161 (v1223 : IVec S16 32) (v1234 : IVec S16 32) : Prop :=
  (∀ a x, ((![v1223, v1234] : Fin 2 → IVec S16 32) a x).toNat < S512x16.size a)
theorem k0_idx215_inb : ∀ (v1223 : IVec S16 32) (v1234 : IVec S16 32) (k0_hw161 : k0_chk161 v1223 v1234), ∀ a x, ((![v1223, v1234] : Fin 2 → IVec S16 32) a x).toNat < S512x16.size a := fun v1223 v1234 k0_hw161 => k0_hw161

def k0_chk162 (v1223 : IVec S16 32) (v1236 : IVec S16 32) : Prop :=
  (∀ a x, ((![v1223, v1236] : Fin 2 → IVec S16 32) a x).toNat < S512x16.size a)
theorem k0_idx216_inb : ∀ (v1223 : IVec S16 32) (v1236 : IVec S16 32) (k0_hw162 : k0_chk162 v1223 v1236), ∀ a x, ((![v1223, v1236] : Fin 2 → IVec S16 32) a x).toNat < S512x16.size a := fun v1223 v1236 k0_hw162 => k0_hw162

def k0_chk163 (v1241 : IVec S16 32) : Prop :=
  (∀ a x, ((![v1241] : Fin 1 → IVec S16 32) a x).toNat < S512.size a) ∧
  (∀ a x, ((![v1241] : Fin 1 → IVec S16 32) a x).toNat < S512.size a)
theorem k0_idx217_inb : ∀ (v1241 : IVec S16 32) (k0_hw163 : k0_chk163 v1241), ∀ a x, ((![v1241] : Fin 1 → IVec S16 32) a x).toNat < S512.size a := fun v1241 k0_hw163 => k0_hw163.1
theorem k0_idx218_inb : ∀ (v1241 : IVec S16 32) (k0_hw163 : k0_chk163 v1241), ∀ a x, ((![v1241] : Fin 1 → IVec S16 32) a x).toNat < S512.size a := fun v1241 k0_hw163 => k0_hw163.2

def k0_chk164 (v1241 : IVec S16 32) (v1252 : IVec S16 32) : Prop :=
  (∀ a x, ((![v1241, v1252] : Fin 2 → IVec S16 32) a x).toNat < S512x16.size a)
theorem k0_idx219_inb : ∀ (v1241 : IVec S16 32) (v1252 : IVec S16 32) (k0_hw164 : k0_chk164 v1241 v1252), ∀ a x, ((![v1241, v1252] : Fin 2 → IVec S16 32) a x).toNat < S512x16.size a := fun v1241 v1252 k0_hw164 => k0_hw164

def k0_chk165 (v1241 : IVec S16 32) (v1254 : IVec S16 32) : Prop :=
  (∀ a x, ((![v1241, v1254] : Fin 2 → IVec S16 32) a x).toNat < S512x16.size a)
theorem k0_idx220_inb : ∀ (v1241 : IVec S16 32) (v1254 : IVec S16 32) (k0_hw165 : k0_chk165 v1241 v1254), ∀ a x, ((![v1241, v1254] : Fin 2 → IVec S16 32) a x).toNat < S512x16.size a := fun v1241 v1254 k0_hw165 => k0_hw165

def k0_chk166 (v1259 : IVec S16 32) : Prop :=
  (∀ a x, ((![v1259] : Fin 1 → IVec S16 32) a x).toNat < S512.size a) ∧
  (∀ a x, ((![v1259] : Fin 1 → IVec S16 32) a x).toNat < S512.size a)
theorem k0_idx221_inb : ∀ (v1259 : IVec S16 32) (k0_hw166 : k0_chk166 v1259), ∀ a x, ((![v1259] : Fin 1 → IVec S16 32) a x).toNat < S512.size a := fun v1259 k0_hw166 => k0_hw166.1
theorem k0_idx222_inb : ∀ (v1259 : IVec S16 32) (k0_hw166 : k0_chk166 v1259), ∀ a x, ((![v1259] : Fin 1 → IVec S16 32) a x).toNat < S512.size a := fun v1259 k0_hw166 => k0_hw166.2

def k0_chk167 (v1259 : IVec S16 32) (v1270 : IVec S16 32) : Prop :=
  (∀ a x, ((![v1259, v1270] : Fin 2 → IVec S16 32) a x).toNat < S512x16.size a)
theorem k0_idx223_inb : ∀ (v1259 : IVec S16 32) (v1270 : IVec S16 32) (k0_hw167 : k0_chk167 v1259 v1270), ∀ a x, ((![v1259, v1270] : Fin 2 → IVec S16 32) a x).toNat < S512x16.size a := fun v1259 v1270 k0_hw167 => k0_hw167

def k0_chk168 (v1259 : IVec S16 32) (v1272 : IVec S16 32) : Prop :=
  (∀ a x, ((![v1259, v1272] : Fin 2 → IVec S16 32) a x).toNat < S512x16.size a)
theorem k0_idx224_inb : ∀ (v1259 : IVec S16 32) (v1272 : IVec S16 32) (k0_hw168 : k0_chk168 v1259 v1272), ∀ a x, ((![v1259, v1272] : Fin 2 → IVec S16 32) a x).toNat < S512x16.size a := fun v1259 v1272 k0_hw168 => k0_hw168

def k0_chk169 (v1277 : IVec S16 32) : Prop :=
  (∀ a x, ((![v1277] : Fin 1 → IVec S16 32) a x).toNat < S512.size a) ∧
  (∀ a x, ((![v1277] : Fin 1 → IVec S16 32) a x).toNat < S512.size a)
theorem k0_idx225_inb : ∀ (v1277 : IVec S16 32) (k0_hw169 : k0_chk169 v1277), ∀ a x, ((![v1277] : Fin 1 → IVec S16 32) a x).toNat < S512.size a := fun v1277 k0_hw169 => k0_hw169.1
theorem k0_idx226_inb : ∀ (v1277 : IVec S16 32) (k0_hw169 : k0_chk169 v1277), ∀ a x, ((![v1277] : Fin 1 → IVec S16 32) a x).toNat < S512.size a := fun v1277 k0_hw169 => k0_hw169.2

def k0_chk170 (v1277 : IVec S16 32) (v1288 : IVec S16 32) : Prop :=
  (∀ a x, ((![v1277, v1288] : Fin 2 → IVec S16 32) a x).toNat < S512x16.size a)
theorem k0_idx227_inb : ∀ (v1277 : IVec S16 32) (v1288 : IVec S16 32) (k0_hw170 : k0_chk170 v1277 v1288), ∀ a x, ((![v1277, v1288] : Fin 2 → IVec S16 32) a x).toNat < S512x16.size a := fun v1277 v1288 k0_hw170 => k0_hw170

def k0_chk171 (v1277 : IVec S16 32) (v1290 : IVec S16 32) : Prop :=
  (∀ a x, ((![v1277, v1290] : Fin 2 → IVec S16 32) a x).toNat < S512x16.size a)
theorem k0_idx228_inb : ∀ (v1277 : IVec S16 32) (v1290 : IVec S16 32) (k0_hw171 : k0_chk171 v1277 v1290), ∀ a x, ((![v1277, v1290] : Fin 2 → IVec S16 32) a x).toNat < S512x16.size a := fun v1277 v1290 k0_hw171 => k0_hw171

def k0_chk172 (v1295 : IVec S16 32) : Prop :=
  (∀ a x, ((![v1295] : Fin 1 → IVec S16 32) a x).toNat < S512.size a) ∧
  (∀ a x, ((![v1295] : Fin 1 → IVec S16 32) a x).toNat < S512.size a)
theorem k0_idx229_inb : ∀ (v1295 : IVec S16 32) (k0_hw172 : k0_chk172 v1295), ∀ a x, ((![v1295] : Fin 1 → IVec S16 32) a x).toNat < S512.size a := fun v1295 k0_hw172 => k0_hw172.1
theorem k0_idx230_inb : ∀ (v1295 : IVec S16 32) (k0_hw172 : k0_chk172 v1295), ∀ a x, ((![v1295] : Fin 1 → IVec S16 32) a x).toNat < S512.size a := fun v1295 k0_hw172 => k0_hw172.2

def k0_chk173 (v1295 : IVec S16 32) (v1306 : IVec S16 32) : Prop :=
  (∀ a x, ((![v1295, v1306] : Fin 2 → IVec S16 32) a x).toNat < S512x16.size a)
theorem k0_idx231_inb : ∀ (v1295 : IVec S16 32) (v1306 : IVec S16 32) (k0_hw173 : k0_chk173 v1295 v1306), ∀ a x, ((![v1295, v1306] : Fin 2 → IVec S16 32) a x).toNat < S512x16.size a := fun v1295 v1306 k0_hw173 => k0_hw173

def k0_chk174 (v1295 : IVec S16 32) (v1308 : IVec S16 32) : Prop :=
  (∀ a x, ((![v1295, v1308] : Fin 2 → IVec S16 32) a x).toNat < S512x16.size a)
theorem k0_idx232_inb : ∀ (v1295 : IVec S16 32) (v1308 : IVec S16 32) (k0_hw174 : k0_chk174 v1295 v1308), ∀ a x, ((![v1295, v1308] : Fin 2 → IVec S16 32) a x).toNat < S512x16.size a := fun v1295 v1308 k0_hw174 => k0_hw174

def k0_chk175 (v1313 : IVec S16 32) : Prop :=
  (∀ a x, ((![v1313] : Fin 1 → IVec S16 32) a x).toNat < S512.size a) ∧
  (∀ a x, ((![v1313] : Fin 1 → IVec S16 32) a x).toNat < S512.size a)
theorem k0_idx233_inb : ∀ (v1313 : IVec S16 32) (k0_hw175 : k0_chk175 v1313), ∀ a x, ((![v1313] : Fin 1 → IVec S16 32) a x).toNat < S512.size a := fun v1313 k0_hw175 => k0_hw175.1
theorem k0_idx234_inb : ∀ (v1313 : IVec S16 32) (k0_hw175 : k0_chk175 v1313), ∀ a x, ((![v1313] : Fin 1 → IVec S16 32) a x).toNat < S512.size a := fun v1313 k0_hw175 => k0_hw175.2

def k0_chk176 (v1313 : IVec S16 32) (v1324 : IVec S16 32) : Prop :=
  (∀ a x, ((![v1313, v1324] : Fin 2 → IVec S16 32) a x).toNat < S512x16.size a)
theorem k0_idx235_inb : ∀ (v1313 : IVec S16 32) (v1324 : IVec S16 32) (k0_hw176 : k0_chk176 v1313 v1324), ∀ a x, ((![v1313, v1324] : Fin 2 → IVec S16 32) a x).toNat < S512x16.size a := fun v1313 v1324 k0_hw176 => k0_hw176

def k0_chk177 (v1313 : IVec S16 32) (v1326 : IVec S16 32) : Prop :=
  (∀ a x, ((![v1313, v1326] : Fin 2 → IVec S16 32) a x).toNat < S512x16.size a)
theorem k0_idx236_inb : ∀ (v1313 : IVec S16 32) (v1326 : IVec S16 32) (k0_hw177 : k0_chk177 v1313 v1326), ∀ a x, ((![v1313, v1326] : Fin 2 → IVec S16 32) a x).toNat < S512x16.size a := fun v1313 v1326 k0_hw177 => k0_hw177

def k0_chk178 (v1331 : IVec S16 32) : Prop :=
  (∀ a x, ((![v1331] : Fin 1 → IVec S16 32) a x).toNat < S512.size a) ∧
  (∀ a x, ((![v1331] : Fin 1 → IVec S16 32) a x).toNat < S512.size a)
theorem k0_idx237_inb : ∀ (v1331 : IVec S16 32) (k0_hw178 : k0_chk178 v1331), ∀ a x, ((![v1331] : Fin 1 → IVec S16 32) a x).toNat < S512.size a := fun v1331 k0_hw178 => k0_hw178.1
theorem k0_idx238_inb : ∀ (v1331 : IVec S16 32) (k0_hw178 : k0_chk178 v1331), ∀ a x, ((![v1331] : Fin 1 → IVec S16 32) a x).toNat < S512.size a := fun v1331 k0_hw178 => k0_hw178.2

def k0_chk179 (v1331 : IVec S16 32) (v1342 : IVec S16 32) : Prop :=
  (∀ a x, ((![v1331, v1342] : Fin 2 → IVec S16 32) a x).toNat < S512x16.size a)
theorem k0_idx239_inb : ∀ (v1331 : IVec S16 32) (v1342 : IVec S16 32) (k0_hw179 : k0_chk179 v1331 v1342), ∀ a x, ((![v1331, v1342] : Fin 2 → IVec S16 32) a x).toNat < S512x16.size a := fun v1331 v1342 k0_hw179 => k0_hw179

def k0_chk180 (v1331 : IVec S16 32) (v1344 : IVec S16 32) : Prop :=
  (∀ a x, ((![v1331, v1344] : Fin 2 → IVec S16 32) a x).toNat < S512x16.size a)
theorem k0_idx240_inb : ∀ (v1331 : IVec S16 32) (v1344 : IVec S16 32) (k0_hw180 : k0_chk180 v1331 v1344), ∀ a x, ((![v1331, v1344] : Fin 2 → IVec S16 32) a x).toNat < S512x16.size a := fun v1331 v1344 k0_hw180 => k0_hw180

def k0_chk181 (v1349 : IVec S16 32) : Prop :=
  (∀ a x, ((![v1349] : Fin 1 → IVec S16 32) a x).toNat < S512.size a) ∧
  (∀ a x, ((![v1349] : Fin 1 → IVec S16 32) a x).toNat < S512.size a)
theorem k0_idx241_inb : ∀ (v1349 : IVec S16 32) (k0_hw181 : k0_chk181 v1349), ∀ a x, ((![v1349] : Fin 1 → IVec S16 32) a x).toNat < S512.size a := fun v1349 k0_hw181 => k0_hw181.1
theorem k0_idx242_inb : ∀ (v1349 : IVec S16 32) (k0_hw181 : k0_chk181 v1349), ∀ a x, ((![v1349] : Fin 1 → IVec S16 32) a x).toNat < S512.size a := fun v1349 k0_hw181 => k0_hw181.2

def k0_chk182 (v1349 : IVec S16 32) (v1360 : IVec S16 32) : Prop :=
  (∀ a x, ((![v1349, v1360] : Fin 2 → IVec S16 32) a x).toNat < S512x16.size a)
theorem k0_idx243_inb : ∀ (v1349 : IVec S16 32) (v1360 : IVec S16 32) (k0_hw182 : k0_chk182 v1349 v1360), ∀ a x, ((![v1349, v1360] : Fin 2 → IVec S16 32) a x).toNat < S512x16.size a := fun v1349 v1360 k0_hw182 => k0_hw182

def k0_chk183 (v1349 : IVec S16 32) (v1362 : IVec S16 32) : Prop :=
  (∀ a x, ((![v1349, v1362] : Fin 2 → IVec S16 32) a x).toNat < S512x16.size a)
theorem k0_idx244_inb : ∀ (v1349 : IVec S16 32) (v1362 : IVec S16 32) (k0_hw183 : k0_chk183 v1349 v1362), ∀ a x, ((![v1349, v1362] : Fin 2 → IVec S16 32) a x).toNat < S512x16.size a := fun v1349 v1362 k0_hw183 => k0_hw183

def k0_chk184 (v1367 : IVec S16 32) : Prop :=
  (∀ a x, ((![v1367] : Fin 1 → IVec S16 32) a x).toNat < S512.size a) ∧
  (∀ a x, ((![v1367] : Fin 1 → IVec S16 32) a x).toNat < S512.size a)
theorem k0_idx245_inb : ∀ (v1367 : IVec S16 32) (k0_hw184 : k0_chk184 v1367), ∀ a x, ((![v1367] : Fin 1 → IVec S16 32) a x).toNat < S512.size a := fun v1367 k0_hw184 => k0_hw184.1
theorem k0_idx246_inb : ∀ (v1367 : IVec S16 32) (k0_hw184 : k0_chk184 v1367), ∀ a x, ((![v1367] : Fin 1 → IVec S16 32) a x).toNat < S512.size a := fun v1367 k0_hw184 => k0_hw184.2

def k0_chk185 (v1367 : IVec S16 32) (v1378 : IVec S16 32) : Prop :=
  (∀ a x, ((![v1367, v1378] : Fin 2 → IVec S16 32) a x).toNat < S512x16.size a)
theorem k0_idx247_inb : ∀ (v1367 : IVec S16 32) (v1378 : IVec S16 32) (k0_hw185 : k0_chk185 v1367 v1378), ∀ a x, ((![v1367, v1378] : Fin 2 → IVec S16 32) a x).toNat < S512x16.size a := fun v1367 v1378 k0_hw185 => k0_hw185

def k0_chk186 (v1367 : IVec S16 32) (v1380 : IVec S16 32) : Prop :=
  (∀ a x, ((![v1367, v1380] : Fin 2 → IVec S16 32) a x).toNat < S512x16.size a)
theorem k0_idx248_inb : ∀ (v1367 : IVec S16 32) (v1380 : IVec S16 32) (k0_hw186 : k0_chk186 v1367 v1380), ∀ a x, ((![v1367, v1380] : Fin 2 → IVec S16 32) a x).toNat < S512x16.size a := fun v1367 v1380 k0_hw186 => k0_hw186

def k0_chk187 (v1385 : IVec S16 32) : Prop :=
  (∀ a x, ((![v1385] : Fin 1 → IVec S16 32) a x).toNat < S512.size a) ∧
  (∀ a x, ((![v1385] : Fin 1 → IVec S16 32) a x).toNat < S512.size a)
theorem k0_idx249_inb : ∀ (v1385 : IVec S16 32) (k0_hw187 : k0_chk187 v1385), ∀ a x, ((![v1385] : Fin 1 → IVec S16 32) a x).toNat < S512.size a := fun v1385 k0_hw187 => k0_hw187.1
theorem k0_idx250_inb : ∀ (v1385 : IVec S16 32) (k0_hw187 : k0_chk187 v1385), ∀ a x, ((![v1385] : Fin 1 → IVec S16 32) a x).toNat < S512.size a := fun v1385 k0_hw187 => k0_hw187.2

def k0_chk188 (v1385 : IVec S16 32) (v1396 : IVec S16 32) : Prop :=
  (∀ a x, ((![v1385, v1396] : Fin 2 → IVec S16 32) a x).toNat < S512x16.size a)
theorem k0_idx251_inb : ∀ (v1385 : IVec S16 32) (v1396 : IVec S16 32) (k0_hw188 : k0_chk188 v1385 v1396), ∀ a x, ((![v1385, v1396] : Fin 2 → IVec S16 32) a x).toNat < S512x16.size a := fun v1385 v1396 k0_hw188 => k0_hw188

def k0_chk189 (v1385 : IVec S16 32) (v1398 : IVec S16 32) : Prop :=
  (∀ a x, ((![v1385, v1398] : Fin 2 → IVec S16 32) a x).toNat < S512x16.size a)
theorem k0_idx252_inb : ∀ (v1385 : IVec S16 32) (v1398 : IVec S16 32) (k0_hw189 : k0_chk189 v1385 v1398), ∀ a x, ((![v1385, v1398] : Fin 2 → IVec S16 32) a x).toNat < S512x16.size a := fun v1385 v1398 k0_hw189 => k0_hw189

def k0_chk190 (v1403 : IVec S16 32) : Prop :=
  (∀ a x, ((![v1403] : Fin 1 → IVec S16 32) a x).toNat < S512.size a) ∧
  (∀ a x, ((![v1403] : Fin 1 → IVec S16 32) a x).toNat < S512.size a)
theorem k0_idx253_inb : ∀ (v1403 : IVec S16 32) (k0_hw190 : k0_chk190 v1403), ∀ a x, ((![v1403] : Fin 1 → IVec S16 32) a x).toNat < S512.size a := fun v1403 k0_hw190 => k0_hw190.1
theorem k0_idx254_inb : ∀ (v1403 : IVec S16 32) (k0_hw190 : k0_chk190 v1403), ∀ a x, ((![v1403] : Fin 1 → IVec S16 32) a x).toNat < S512.size a := fun v1403 k0_hw190 => k0_hw190.2

def k0_chk191 (v1403 : IVec S16 32) (v1414 : IVec S16 32) : Prop :=
  (∀ a x, ((![v1403, v1414] : Fin 2 → IVec S16 32) a x).toNat < S512x16.size a)
theorem k0_idx255_inb : ∀ (v1403 : IVec S16 32) (v1414 : IVec S16 32) (k0_hw191 : k0_chk191 v1403 v1414), ∀ a x, ((![v1403, v1414] : Fin 2 → IVec S16 32) a x).toNat < S512x16.size a := fun v1403 v1414 k0_hw191 => k0_hw191

def k0_chk192 (v1403 : IVec S16 32) (v1416 : IVec S16 32) : Prop :=
  (∀ a x, ((![v1403, v1416] : Fin 2 → IVec S16 32) a x).toNat < S512x16.size a)
theorem k0_idx256_inb : ∀ (v1403 : IVec S16 32) (v1416 : IVec S16 32) (k0_hw192 : k0_chk192 v1403 v1416), ∀ a x, ((![v1403, v1416] : Fin 2 → IVec S16 32) a x).toNat < S512x16.size a := fun v1403 v1416 k0_hw192 => k0_hw192

def k0_chk193 (v1421 : IVec S16 32) : Prop :=
  (∀ a x, ((![v1421] : Fin 1 → IVec S16 32) a x).toNat < S512.size a) ∧
  (∀ a x, ((![v1421] : Fin 1 → IVec S16 32) a x).toNat < S512.size a)
theorem k0_idx257_inb : ∀ (v1421 : IVec S16 32) (k0_hw193 : k0_chk193 v1421), ∀ a x, ((![v1421] : Fin 1 → IVec S16 32) a x).toNat < S512.size a := fun v1421 k0_hw193 => k0_hw193.1
theorem k0_idx258_inb : ∀ (v1421 : IVec S16 32) (k0_hw193 : k0_chk193 v1421), ∀ a x, ((![v1421] : Fin 1 → IVec S16 32) a x).toNat < S512.size a := fun v1421 k0_hw193 => k0_hw193.2

def k0_chk194 (v1421 : IVec S16 32) (v1432 : IVec S16 32) : Prop :=
  (∀ a x, ((![v1421, v1432] : Fin 2 → IVec S16 32) a x).toNat < S512x16.size a)
theorem k0_idx259_inb : ∀ (v1421 : IVec S16 32) (v1432 : IVec S16 32) (k0_hw194 : k0_chk194 v1421 v1432), ∀ a x, ((![v1421, v1432] : Fin 2 → IVec S16 32) a x).toNat < S512x16.size a := fun v1421 v1432 k0_hw194 => k0_hw194

def k0_chk195 (v1421 : IVec S16 32) (v1434 : IVec S16 32) : Prop :=
  (∀ a x, ((![v1421, v1434] : Fin 2 → IVec S16 32) a x).toNat < S512x16.size a)
theorem k0_idx260_inb : ∀ (v1421 : IVec S16 32) (v1434 : IVec S16 32) (k0_hw195 : k0_chk195 v1421 v1434), ∀ a x, ((![v1421, v1434] : Fin 2 → IVec S16 32) a x).toNat < S512x16.size a := fun v1421 v1434 k0_hw195 => k0_hw195

def k0_chk196 (v1439 : IVec S16 32) : Prop :=
  (∀ a x, ((![v1439] : Fin 1 → IVec S16 32) a x).toNat < S512.size a) ∧
  (∀ a x, ((![v1439] : Fin 1 → IVec S16 32) a x).toNat < S512.size a)
theorem k0_idx261_inb : ∀ (v1439 : IVec S16 32) (k0_hw196 : k0_chk196 v1439), ∀ a x, ((![v1439] : Fin 1 → IVec S16 32) a x).toNat < S512.size a := fun v1439 k0_hw196 => k0_hw196.1
theorem k0_idx262_inb : ∀ (v1439 : IVec S16 32) (k0_hw196 : k0_chk196 v1439), ∀ a x, ((![v1439] : Fin 1 → IVec S16 32) a x).toNat < S512.size a := fun v1439 k0_hw196 => k0_hw196.2

def k0_chk197 (v1439 : IVec S16 32) (v1450 : IVec S16 32) : Prop :=
  (∀ a x, ((![v1439, v1450] : Fin 2 → IVec S16 32) a x).toNat < S512x16.size a)
theorem k0_idx263_inb : ∀ (v1439 : IVec S16 32) (v1450 : IVec S16 32) (k0_hw197 : k0_chk197 v1439 v1450), ∀ a x, ((![v1439, v1450] : Fin 2 → IVec S16 32) a x).toNat < S512x16.size a := fun v1439 v1450 k0_hw197 => k0_hw197

def k0_chk198 (v1439 : IVec S16 32) (v1452 : IVec S16 32) : Prop :=
  (∀ a x, ((![v1439, v1452] : Fin 2 → IVec S16 32) a x).toNat < S512x16.size a)
theorem k0_idx264_inb : ∀ (v1439 : IVec S16 32) (v1452 : IVec S16 32) (k0_hw198 : k0_chk198 v1439 v1452), ∀ a x, ((![v1439, v1452] : Fin 2 → IVec S16 32) a x).toNat < S512x16.size a := fun v1439 v1452 k0_hw198 => k0_hw198

def k0_chk199 (v1457 : IVec S16 32) : Prop :=
  (∀ a x, ((![v1457] : Fin 1 → IVec S16 32) a x).toNat < S512.size a) ∧
  (∀ a x, ((![v1457] : Fin 1 → IVec S16 32) a x).toNat < S512.size a)
theorem k0_idx265_inb : ∀ (v1457 : IVec S16 32) (k0_hw199 : k0_chk199 v1457), ∀ a x, ((![v1457] : Fin 1 → IVec S16 32) a x).toNat < S512.size a := fun v1457 k0_hw199 => k0_hw199.1
theorem k0_idx266_inb : ∀ (v1457 : IVec S16 32) (k0_hw199 : k0_chk199 v1457), ∀ a x, ((![v1457] : Fin 1 → IVec S16 32) a x).toNat < S512.size a := fun v1457 k0_hw199 => k0_hw199.2

def k0_chk200 (v1457 : IVec S16 32) (v1468 : IVec S16 32) : Prop :=
  (∀ a x, ((![v1457, v1468] : Fin 2 → IVec S16 32) a x).toNat < S512x16.size a)
theorem k0_idx267_inb : ∀ (v1457 : IVec S16 32) (v1468 : IVec S16 32) (k0_hw200 : k0_chk200 v1457 v1468), ∀ a x, ((![v1457, v1468] : Fin 2 → IVec S16 32) a x).toNat < S512x16.size a := fun v1457 v1468 k0_hw200 => k0_hw200

def k0_chk201 (v1457 : IVec S16 32) (v1470 : IVec S16 32) : Prop :=
  (∀ a x, ((![v1457, v1470] : Fin 2 → IVec S16 32) a x).toNat < S512x16.size a)
theorem k0_idx268_inb : ∀ (v1457 : IVec S16 32) (v1470 : IVec S16 32) (k0_hw201 : k0_chk201 v1457 v1470), ∀ a x, ((![v1457, v1470] : Fin 2 → IVec S16 32) a x).toNat < S512x16.size a := fun v1457 v1470 k0_hw201 => k0_hw201

def k0_chk202 (v1475 : IVec S16 32) : Prop :=
  (∀ a x, ((![v1475] : Fin 1 → IVec S16 32) a x).toNat < S512.size a) ∧
  (∀ a x, ((![v1475] : Fin 1 → IVec S16 32) a x).toNat < S512.size a)
theorem k0_idx269_inb : ∀ (v1475 : IVec S16 32) (k0_hw202 : k0_chk202 v1475), ∀ a x, ((![v1475] : Fin 1 → IVec S16 32) a x).toNat < S512.size a := fun v1475 k0_hw202 => k0_hw202.1
theorem k0_idx270_inb : ∀ (v1475 : IVec S16 32) (k0_hw202 : k0_chk202 v1475), ∀ a x, ((![v1475] : Fin 1 → IVec S16 32) a x).toNat < S512.size a := fun v1475 k0_hw202 => k0_hw202.2

def k0_chk203 (v1475 : IVec S16 32) (v1486 : IVec S16 32) : Prop :=
  (∀ a x, ((![v1475, v1486] : Fin 2 → IVec S16 32) a x).toNat < S512x16.size a)
theorem k0_idx271_inb : ∀ (v1475 : IVec S16 32) (v1486 : IVec S16 32) (k0_hw203 : k0_chk203 v1475 v1486), ∀ a x, ((![v1475, v1486] : Fin 2 → IVec S16 32) a x).toNat < S512x16.size a := fun v1475 v1486 k0_hw203 => k0_hw203

def k0_chk204 (v1475 : IVec S16 32) (v1488 : IVec S16 32) : Prop :=
  (∀ a x, ((![v1475, v1488] : Fin 2 → IVec S16 32) a x).toNat < S512x16.size a)
theorem k0_idx272_inb : ∀ (v1475 : IVec S16 32) (v1488 : IVec S16 32) (k0_hw204 : k0_chk204 v1475 v1488), ∀ a x, ((![v1475, v1488] : Fin 2 → IVec S16 32) a x).toNat < S512x16.size a := fun v1475 v1488 k0_hw204 => k0_hw204

def k0_chk205 (v1493 : IVec S16 32) : Prop :=
  (∀ a x, ((![v1493] : Fin 1 → IVec S16 32) a x).toNat < S512.size a) ∧
  (∀ a x, ((![v1493] : Fin 1 → IVec S16 32) a x).toNat < S512.size a)
theorem k0_idx273_inb : ∀ (v1493 : IVec S16 32) (k0_hw205 : k0_chk205 v1493), ∀ a x, ((![v1493] : Fin 1 → IVec S16 32) a x).toNat < S512.size a := fun v1493 k0_hw205 => k0_hw205.1
theorem k0_idx274_inb : ∀ (v1493 : IVec S16 32) (k0_hw205 : k0_chk205 v1493), ∀ a x, ((![v1493] : Fin 1 → IVec S16 32) a x).toNat < S512.size a := fun v1493 k0_hw205 => k0_hw205.2

def k0_chk206 (v1493 : IVec S16 32) (v1504 : IVec S16 32) : Prop :=
  (∀ a x, ((![v1493, v1504] : Fin 2 → IVec S16 32) a x).toNat < S512x16.size a)
theorem k0_idx275_inb : ∀ (v1493 : IVec S16 32) (v1504 : IVec S16 32) (k0_hw206 : k0_chk206 v1493 v1504), ∀ a x, ((![v1493, v1504] : Fin 2 → IVec S16 32) a x).toNat < S512x16.size a := fun v1493 v1504 k0_hw206 => k0_hw206

def k0_chk207 (v1493 : IVec S16 32) (v1506 : IVec S16 32) : Prop :=
  (∀ a x, ((![v1493, v1506] : Fin 2 → IVec S16 32) a x).toNat < S512x16.size a)
theorem k0_idx276_inb : ∀ (v1493 : IVec S16 32) (v1506 : IVec S16 32) (k0_hw207 : k0_chk207 v1493 v1506), ∀ a x, ((![v1493, v1506] : Fin 2 → IVec S16 32) a x).toNat < S512x16.size a := fun v1493 v1506 k0_hw207 => k0_hw207

def k0_chk208 (v1511 : IVec S16 32) : Prop :=
  (∀ a x, ((![v1511] : Fin 1 → IVec S16 32) a x).toNat < S512.size a) ∧
  (∀ a x, ((![v1511] : Fin 1 → IVec S16 32) a x).toNat < S512.size a)
theorem k0_idx277_inb : ∀ (v1511 : IVec S16 32) (k0_hw208 : k0_chk208 v1511), ∀ a x, ((![v1511] : Fin 1 → IVec S16 32) a x).toNat < S512.size a := fun v1511 k0_hw208 => k0_hw208.1
theorem k0_idx278_inb : ∀ (v1511 : IVec S16 32) (k0_hw208 : k0_chk208 v1511), ∀ a x, ((![v1511] : Fin 1 → IVec S16 32) a x).toNat < S512.size a := fun v1511 k0_hw208 => k0_hw208.2

def k0_chk209 (v1511 : IVec S16 32) (v1522 : IVec S16 32) : Prop :=
  (∀ a x, ((![v1511, v1522] : Fin 2 → IVec S16 32) a x).toNat < S512x16.size a)
theorem k0_idx279_inb : ∀ (v1511 : IVec S16 32) (v1522 : IVec S16 32) (k0_hw209 : k0_chk209 v1511 v1522), ∀ a x, ((![v1511, v1522] : Fin 2 → IVec S16 32) a x).toNat < S512x16.size a := fun v1511 v1522 k0_hw209 => k0_hw209

def k0_chk210 (v1511 : IVec S16 32) (v1524 : IVec S16 32) : Prop :=
  (∀ a x, ((![v1511, v1524] : Fin 2 → IVec S16 32) a x).toNat < S512x16.size a)
theorem k0_idx280_inb : ∀ (v1511 : IVec S16 32) (v1524 : IVec S16 32) (k0_hw210 : k0_chk210 v1511 v1524), ∀ a x, ((![v1511, v1524] : Fin 2 → IVec S16 32) a x).toNat < S512x16.size a := fun v1511 v1524 k0_hw210 => k0_hw210

def k0_chk211 (v1529 : IVec S16 32) : Prop :=
  (∀ a x, ((![v1529] : Fin 1 → IVec S16 32) a x).toNat < S512.size a) ∧
  (∀ a x, ((![v1529] : Fin 1 → IVec S16 32) a x).toNat < S512.size a)
theorem k0_idx281_inb : ∀ (v1529 : IVec S16 32) (k0_hw211 : k0_chk211 v1529), ∀ a x, ((![v1529] : Fin 1 → IVec S16 32) a x).toNat < S512.size a := fun v1529 k0_hw211 => k0_hw211.1
theorem k0_idx282_inb : ∀ (v1529 : IVec S16 32) (k0_hw211 : k0_chk211 v1529), ∀ a x, ((![v1529] : Fin 1 → IVec S16 32) a x).toNat < S512.size a := fun v1529 k0_hw211 => k0_hw211.2

def k0_chk212 (v1529 : IVec S16 32) (v1540 : IVec S16 32) : Prop :=
  (∀ a x, ((![v1529, v1540] : Fin 2 → IVec S16 32) a x).toNat < S512x16.size a)
theorem k0_idx283_inb : ∀ (v1529 : IVec S16 32) (v1540 : IVec S16 32) (k0_hw212 : k0_chk212 v1529 v1540), ∀ a x, ((![v1529, v1540] : Fin 2 → IVec S16 32) a x).toNat < S512x16.size a := fun v1529 v1540 k0_hw212 => k0_hw212

def k0_chk213 (v1529 : IVec S16 32) (v1542 : IVec S16 32) : Prop :=
  (∀ a x, ((![v1529, v1542] : Fin 2 → IVec S16 32) a x).toNat < S512x16.size a)
theorem k0_idx284_inb : ∀ (v1529 : IVec S16 32) (v1542 : IVec S16 32) (k0_hw213 : k0_chk213 v1529 v1542), ∀ a x, ((![v1529, v1542] : Fin 2 → IVec S16 32) a x).toNat < S512x16.size a := fun v1529 v1542 k0_hw213 => k0_hw213

def k0_chk214 (v1547 : IVec S16 32) : Prop :=
  (∀ a x, ((![v1547] : Fin 1 → IVec S16 32) a x).toNat < S512.size a) ∧
  (∀ a x, ((![v1547] : Fin 1 → IVec S16 32) a x).toNat < S512.size a)
theorem k0_idx285_inb : ∀ (v1547 : IVec S16 32) (k0_hw214 : k0_chk214 v1547), ∀ a x, ((![v1547] : Fin 1 → IVec S16 32) a x).toNat < S512.size a := fun v1547 k0_hw214 => k0_hw214.1
theorem k0_idx286_inb : ∀ (v1547 : IVec S16 32) (k0_hw214 : k0_chk214 v1547), ∀ a x, ((![v1547] : Fin 1 → IVec S16 32) a x).toNat < S512.size a := fun v1547 k0_hw214 => k0_hw214.2

def k0_chk215 (v1547 : IVec S16 32) (v1558 : IVec S16 32) : Prop :=
  (∀ a x, ((![v1547, v1558] : Fin 2 → IVec S16 32) a x).toNat < S512x16.size a)
theorem k0_idx287_inb : ∀ (v1547 : IVec S16 32) (v1558 : IVec S16 32) (k0_hw215 : k0_chk215 v1547 v1558), ∀ a x, ((![v1547, v1558] : Fin 2 → IVec S16 32) a x).toNat < S512x16.size a := fun v1547 v1558 k0_hw215 => k0_hw215

def k0_chk216 (v1547 : IVec S16 32) (v1560 : IVec S16 32) : Prop :=
  (∀ a x, ((![v1547, v1560] : Fin 2 → IVec S16 32) a x).toNat < S512x16.size a)
theorem k0_idx288_inb : ∀ (v1547 : IVec S16 32) (v1560 : IVec S16 32) (k0_hw216 : k0_chk216 v1547 v1560), ∀ a x, ((![v1547, v1560] : Fin 2 → IVec S16 32) a x).toNat < S512x16.size a := fun v1547 v1560 k0_hw216 => k0_hw216

def k0_chk217 (v1565 : IVec S16 32) : Prop :=
  (∀ a x, ((![v1565] : Fin 1 → IVec S16 32) a x).toNat < S512.size a) ∧
  (∀ a x, ((![v1565] : Fin 1 → IVec S16 32) a x).toNat < S512.size a)
theorem k0_idx289_inb : ∀ (v1565 : IVec S16 32) (k0_hw217 : k0_chk217 v1565), ∀ a x, ((![v1565] : Fin 1 → IVec S16 32) a x).toNat < S512.size a := fun v1565 k0_hw217 => k0_hw217.1
theorem k0_idx290_inb : ∀ (v1565 : IVec S16 32) (k0_hw217 : k0_chk217 v1565), ∀ a x, ((![v1565] : Fin 1 → IVec S16 32) a x).toNat < S512.size a := fun v1565 k0_hw217 => k0_hw217.2

def k0_chk218 (v1565 : IVec S16 32) (v1576 : IVec S16 32) : Prop :=
  (∀ a x, ((![v1565, v1576] : Fin 2 → IVec S16 32) a x).toNat < S512x16.size a)
theorem k0_idx291_inb : ∀ (v1565 : IVec S16 32) (v1576 : IVec S16 32) (k0_hw218 : k0_chk218 v1565 v1576), ∀ a x, ((![v1565, v1576] : Fin 2 → IVec S16 32) a x).toNat < S512x16.size a := fun v1565 v1576 k0_hw218 => k0_hw218

def k0_chk219 (v1565 : IVec S16 32) (v1578 : IVec S16 32) : Prop :=
  (∀ a x, ((![v1565, v1578] : Fin 2 → IVec S16 32) a x).toNat < S512x16.size a)
theorem k0_idx292_inb : ∀ (v1565 : IVec S16 32) (v1578 : IVec S16 32) (k0_hw219 : k0_chk219 v1565 v1578), ∀ a x, ((![v1565, v1578] : Fin 2 → IVec S16 32) a x).toNat < S512x16.size a := fun v1565 v1578 k0_hw219 => k0_hw219

def k0_chk220 (v1583 : IVec S16 32) : Prop :=
  (∀ a x, ((![v1583] : Fin 1 → IVec S16 32) a x).toNat < S512.size a) ∧
  (∀ a x, ((![v1583] : Fin 1 → IVec S16 32) a x).toNat < S512.size a)
theorem k0_idx293_inb : ∀ (v1583 : IVec S16 32) (k0_hw220 : k0_chk220 v1583), ∀ a x, ((![v1583] : Fin 1 → IVec S16 32) a x).toNat < S512.size a := fun v1583 k0_hw220 => k0_hw220.1
theorem k0_idx294_inb : ∀ (v1583 : IVec S16 32) (k0_hw220 : k0_chk220 v1583), ∀ a x, ((![v1583] : Fin 1 → IVec S16 32) a x).toNat < S512.size a := fun v1583 k0_hw220 => k0_hw220.2

def k0_chk221 (v1583 : IVec S16 32) (v1594 : IVec S16 32) : Prop :=
  (∀ a x, ((![v1583, v1594] : Fin 2 → IVec S16 32) a x).toNat < S512x16.size a)
theorem k0_idx295_inb : ∀ (v1583 : IVec S16 32) (v1594 : IVec S16 32) (k0_hw221 : k0_chk221 v1583 v1594), ∀ a x, ((![v1583, v1594] : Fin 2 → IVec S16 32) a x).toNat < S512x16.size a := fun v1583 v1594 k0_hw221 => k0_hw221

def k0_chk222 (v1583 : IVec S16 32) (v1596 : IVec S16 32) : Prop :=
  (∀ a x, ((![v1583, v1596] : Fin 2 → IVec S16 32) a x).toNat < S512x16.size a)
theorem k0_idx296_inb : ∀ (v1583 : IVec S16 32) (v1596 : IVec S16 32) (k0_hw222 : k0_chk222 v1583 v1596), ∀ a x, ((![v1583, v1596] : Fin 2 → IVec S16 32) a x).toNat < S512x16.size a := fun v1583 v1596 k0_hw222 => k0_hw222

def k0_chk223 (v1601 : IVec S16 32) : Prop :=
  (∀ a x, ((![v1601] : Fin 1 → IVec S16 32) a x).toNat < S512.size a) ∧
  (∀ a x, ((![v1601] : Fin 1 → IVec S16 32) a x).toNat < S512.size a)
theorem k0_idx297_inb : ∀ (v1601 : IVec S16 32) (k0_hw223 : k0_chk223 v1601), ∀ a x, ((![v1601] : Fin 1 → IVec S16 32) a x).toNat < S512.size a := fun v1601 k0_hw223 => k0_hw223.1
theorem k0_idx298_inb : ∀ (v1601 : IVec S16 32) (k0_hw223 : k0_chk223 v1601), ∀ a x, ((![v1601] : Fin 1 → IVec S16 32) a x).toNat < S512.size a := fun v1601 k0_hw223 => k0_hw223.2

def k0_chk224 (v1601 : IVec S16 32) (v1612 : IVec S16 32) : Prop :=
  (∀ a x, ((![v1601, v1612] : Fin 2 → IVec S16 32) a x).toNat < S512x16.size a)
theorem k0_idx299_inb : ∀ (v1601 : IVec S16 32) (v1612 : IVec S16 32) (k0_hw224 : k0_chk224 v1601 v1612), ∀ a x, ((![v1601, v1612] : Fin 2 → IVec S16 32) a x).toNat < S512x16.size a := fun v1601 v1612 k0_hw224 => k0_hw224

def k0_chk225 (v1601 : IVec S16 32) (v1614 : IVec S16 32) : Prop :=
  (∀ a x, ((![v1601, v1614] : Fin 2 → IVec S16 32) a x).toNat < S512x16.size a)
theorem k0_idx300_inb : ∀ (v1601 : IVec S16 32) (v1614 : IVec S16 32) (k0_hw225 : k0_chk225 v1601 v1614), ∀ a x, ((![v1601, v1614] : Fin 2 → IVec S16 32) a x).toNat < S512x16.size a := fun v1601 v1614 k0_hw225 => k0_hw225

def k0_chk226 (v1619 : IVec S16 32) : Prop :=
  (∀ a x, ((![v1619] : Fin 1 → IVec S16 32) a x).toNat < S512.size a) ∧
  (∀ a x, ((![v1619] : Fin 1 → IVec S16 32) a x).toNat < S512.size a)
theorem k0_idx301_inb : ∀ (v1619 : IVec S16 32) (k0_hw226 : k0_chk226 v1619), ∀ a x, ((![v1619] : Fin 1 → IVec S16 32) a x).toNat < S512.size a := fun v1619 k0_hw226 => k0_hw226.1
theorem k0_idx302_inb : ∀ (v1619 : IVec S16 32) (k0_hw226 : k0_chk226 v1619), ∀ a x, ((![v1619] : Fin 1 → IVec S16 32) a x).toNat < S512.size a := fun v1619 k0_hw226 => k0_hw226.2

def k0_chk227 (v1619 : IVec S16 32) (v1630 : IVec S16 32) : Prop :=
  (∀ a x, ((![v1619, v1630] : Fin 2 → IVec S16 32) a x).toNat < S512x16.size a)
theorem k0_idx303_inb : ∀ (v1619 : IVec S16 32) (v1630 : IVec S16 32) (k0_hw227 : k0_chk227 v1619 v1630), ∀ a x, ((![v1619, v1630] : Fin 2 → IVec S16 32) a x).toNat < S512x16.size a := fun v1619 v1630 k0_hw227 => k0_hw227

def k0_chk228 (v1619 : IVec S16 32) (v1632 : IVec S16 32) : Prop :=
  (∀ a x, ((![v1619, v1632] : Fin 2 → IVec S16 32) a x).toNat < S512x16.size a)
theorem k0_idx304_inb : ∀ (v1619 : IVec S16 32) (v1632 : IVec S16 32) (k0_hw228 : k0_chk228 v1619 v1632), ∀ a x, ((![v1619, v1632] : Fin 2 → IVec S16 32) a x).toNat < S512x16.size a := fun v1619 v1632 k0_hw228 => k0_hw228

def k0_chk229 (v1637 : IVec S16 32) : Prop :=
  (∀ a x, ((![v1637] : Fin 1 → IVec S16 32) a x).toNat < S512.size a) ∧
  (∀ a x, ((![v1637] : Fin 1 → IVec S16 32) a x).toNat < S512.size a)
theorem k0_idx305_inb : ∀ (v1637 : IVec S16 32) (k0_hw229 : k0_chk229 v1637), ∀ a x, ((![v1637] : Fin 1 → IVec S16 32) a x).toNat < S512.size a := fun v1637 k0_hw229 => k0_hw229.1
theorem k0_idx306_inb : ∀ (v1637 : IVec S16 32) (k0_hw229 : k0_chk229 v1637), ∀ a x, ((![v1637] : Fin 1 → IVec S16 32) a x).toNat < S512.size a := fun v1637 k0_hw229 => k0_hw229.2

def k0_chk230 (v1637 : IVec S16 32) (v1648 : IVec S16 32) : Prop :=
  (∀ a x, ((![v1637, v1648] : Fin 2 → IVec S16 32) a x).toNat < S512x16.size a)
theorem k0_idx307_inb : ∀ (v1637 : IVec S16 32) (v1648 : IVec S16 32) (k0_hw230 : k0_chk230 v1637 v1648), ∀ a x, ((![v1637, v1648] : Fin 2 → IVec S16 32) a x).toNat < S512x16.size a := fun v1637 v1648 k0_hw230 => k0_hw230

def k0_chk231 (v1637 : IVec S16 32) (v1650 : IVec S16 32) : Prop :=
  (∀ a x, ((![v1637, v1650] : Fin 2 → IVec S16 32) a x).toNat < S512x16.size a)
theorem k0_idx308_inb : ∀ (v1637 : IVec S16 32) (v1650 : IVec S16 32) (k0_hw231 : k0_chk231 v1637 v1650), ∀ a x, ((![v1637, v1650] : Fin 2 → IVec S16 32) a x).toNat < S512x16.size a := fun v1637 v1650 k0_hw231 => k0_hw231

def k0_chk232 (v1655 : IVec S16 32) : Prop :=
  (∀ a x, ((![v1655] : Fin 1 → IVec S16 32) a x).toNat < S512.size a) ∧
  (∀ a x, ((![v1655] : Fin 1 → IVec S16 32) a x).toNat < S512.size a)
theorem k0_idx309_inb : ∀ (v1655 : IVec S16 32) (k0_hw232 : k0_chk232 v1655), ∀ a x, ((![v1655] : Fin 1 → IVec S16 32) a x).toNat < S512.size a := fun v1655 k0_hw232 => k0_hw232.1
theorem k0_idx310_inb : ∀ (v1655 : IVec S16 32) (k0_hw232 : k0_chk232 v1655), ∀ a x, ((![v1655] : Fin 1 → IVec S16 32) a x).toNat < S512.size a := fun v1655 k0_hw232 => k0_hw232.2

def k0_chk233 (v1655 : IVec S16 32) (v1666 : IVec S16 32) : Prop :=
  (∀ a x, ((![v1655, v1666] : Fin 2 → IVec S16 32) a x).toNat < S512x16.size a)
theorem k0_idx311_inb : ∀ (v1655 : IVec S16 32) (v1666 : IVec S16 32) (k0_hw233 : k0_chk233 v1655 v1666), ∀ a x, ((![v1655, v1666] : Fin 2 → IVec S16 32) a x).toNat < S512x16.size a := fun v1655 v1666 k0_hw233 => k0_hw233

def k0_chk234 (v1655 : IVec S16 32) (v1668 : IVec S16 32) : Prop :=
  (∀ a x, ((![v1655, v1668] : Fin 2 → IVec S16 32) a x).toNat < S512x16.size a)
theorem k0_idx312_inb : ∀ (v1655 : IVec S16 32) (v1668 : IVec S16 32) (k0_hw234 : k0_chk234 v1655 v1668), ∀ a x, ((![v1655, v1668] : Fin 2 → IVec S16 32) a x).toNat < S512x16.size a := fun v1655 v1668 k0_hw234 => k0_hw234

def k0_chk235 (v1673 : IVec S16 32) : Prop :=
  (∀ a x, ((![v1673] : Fin 1 → IVec S16 32) a x).toNat < S512.size a) ∧
  (∀ a x, ((![v1673] : Fin 1 → IVec S16 32) a x).toNat < S512.size a)
theorem k0_idx313_inb : ∀ (v1673 : IVec S16 32) (k0_hw235 : k0_chk235 v1673), ∀ a x, ((![v1673] : Fin 1 → IVec S16 32) a x).toNat < S512.size a := fun v1673 k0_hw235 => k0_hw235.1
theorem k0_idx314_inb : ∀ (v1673 : IVec S16 32) (k0_hw235 : k0_chk235 v1673), ∀ a x, ((![v1673] : Fin 1 → IVec S16 32) a x).toNat < S512.size a := fun v1673 k0_hw235 => k0_hw235.2

def k0_chk236 (v1673 : IVec S16 32) (v1684 : IVec S16 32) : Prop :=
  (∀ a x, ((![v1673, v1684] : Fin 2 → IVec S16 32) a x).toNat < S512x16.size a)
theorem k0_idx315_inb : ∀ (v1673 : IVec S16 32) (v1684 : IVec S16 32) (k0_hw236 : k0_chk236 v1673 v1684), ∀ a x, ((![v1673, v1684] : Fin 2 → IVec S16 32) a x).toNat < S512x16.size a := fun v1673 v1684 k0_hw236 => k0_hw236

def k0_chk237 (v1673 : IVec S16 32) (v1686 : IVec S16 32) : Prop :=
  (∀ a x, ((![v1673, v1686] : Fin 2 → IVec S16 32) a x).toNat < S512x16.size a)
theorem k0_idx316_inb : ∀ (v1673 : IVec S16 32) (v1686 : IVec S16 32) (k0_hw237 : k0_chk237 v1673 v1686), ∀ a x, ((![v1673, v1686] : Fin 2 → IVec S16 32) a x).toNat < S512x16.size a := fun v1673 v1686 k0_hw237 => k0_hw237

def k0_chk238 (v1691 : IVec S16 32) : Prop :=
  (∀ a x, ((![v1691] : Fin 1 → IVec S16 32) a x).toNat < S512.size a) ∧
  (∀ a x, ((![v1691] : Fin 1 → IVec S16 32) a x).toNat < S512.size a)
theorem k0_idx317_inb : ∀ (v1691 : IVec S16 32) (k0_hw238 : k0_chk238 v1691), ∀ a x, ((![v1691] : Fin 1 → IVec S16 32) a x).toNat < S512.size a := fun v1691 k0_hw238 => k0_hw238.1
theorem k0_idx318_inb : ∀ (v1691 : IVec S16 32) (k0_hw238 : k0_chk238 v1691), ∀ a x, ((![v1691] : Fin 1 → IVec S16 32) a x).toNat < S512.size a := fun v1691 k0_hw238 => k0_hw238.2

def k0_chk239 (v1691 : IVec S16 32) (v1702 : IVec S16 32) : Prop :=
  (∀ a x, ((![v1691, v1702] : Fin 2 → IVec S16 32) a x).toNat < S512x16.size a)
theorem k0_idx319_inb : ∀ (v1691 : IVec S16 32) (v1702 : IVec S16 32) (k0_hw239 : k0_chk239 v1691 v1702), ∀ a x, ((![v1691, v1702] : Fin 2 → IVec S16 32) a x).toNat < S512x16.size a := fun v1691 v1702 k0_hw239 => k0_hw239

def k0_chk240 (v1691 : IVec S16 32) (v1704 : IVec S16 32) : Prop :=
  (∀ a x, ((![v1691, v1704] : Fin 2 → IVec S16 32) a x).toNat < S512x16.size a)
theorem k0_idx320_inb : ∀ (v1691 : IVec S16 32) (v1704 : IVec S16 32) (k0_hw240 : k0_chk240 v1691 v1704), ∀ a x, ((![v1691, v1704] : Fin 2 → IVec S16 32) a x).toNat < S512x16.size a := fun v1691 v1704 k0_hw240 => k0_hw240

def k0_chk241 (v1709 : IVec S16 32) : Prop :=
  (∀ a x, ((![v1709] : Fin 1 → IVec S16 32) a x).toNat < S512.size a) ∧
  (∀ a x, ((![v1709] : Fin 1 → IVec S16 32) a x).toNat < S512.size a)
theorem k0_idx321_inb : ∀ (v1709 : IVec S16 32) (k0_hw241 : k0_chk241 v1709), ∀ a x, ((![v1709] : Fin 1 → IVec S16 32) a x).toNat < S512.size a := fun v1709 k0_hw241 => k0_hw241.1
theorem k0_idx322_inb : ∀ (v1709 : IVec S16 32) (k0_hw241 : k0_chk241 v1709), ∀ a x, ((![v1709] : Fin 1 → IVec S16 32) a x).toNat < S512.size a := fun v1709 k0_hw241 => k0_hw241.2

def k0_chk242 (v1709 : IVec S16 32) (v1720 : IVec S16 32) : Prop :=
  (∀ a x, ((![v1709, v1720] : Fin 2 → IVec S16 32) a x).toNat < S512x16.size a)
theorem k0_idx323_inb : ∀ (v1709 : IVec S16 32) (v1720 : IVec S16 32) (k0_hw242 : k0_chk242 v1709 v1720), ∀ a x, ((![v1709, v1720] : Fin 2 → IVec S16 32) a x).toNat < S512x16.size a := fun v1709 v1720 k0_hw242 => k0_hw242

def k0_chk243 (v1709 : IVec S16 32) (v1722 : IVec S16 32) : Prop :=
  (∀ a x, ((![v1709, v1722] : Fin 2 → IVec S16 32) a x).toNat < S512x16.size a)
theorem k0_idx324_inb : ∀ (v1709 : IVec S16 32) (v1722 : IVec S16 32) (k0_hw243 : k0_chk243 v1709 v1722), ∀ a x, ((![v1709, v1722] : Fin 2 → IVec S16 32) a x).toNat < S512x16.size a := fun v1709 v1722 k0_hw243 => k0_hw243

def k0_chk244 (v1727 : IVec S16 32) : Prop :=
  (∀ a x, ((![v1727] : Fin 1 → IVec S16 32) a x).toNat < S512.size a) ∧
  (∀ a x, ((![v1727] : Fin 1 → IVec S16 32) a x).toNat < S512.size a)
theorem k0_idx325_inb : ∀ (v1727 : IVec S16 32) (k0_hw244 : k0_chk244 v1727), ∀ a x, ((![v1727] : Fin 1 → IVec S16 32) a x).toNat < S512.size a := fun v1727 k0_hw244 => k0_hw244.1
theorem k0_idx326_inb : ∀ (v1727 : IVec S16 32) (k0_hw244 : k0_chk244 v1727), ∀ a x, ((![v1727] : Fin 1 → IVec S16 32) a x).toNat < S512.size a := fun v1727 k0_hw244 => k0_hw244.2

def k0_chk245 (v1727 : IVec S16 32) (v1738 : IVec S16 32) : Prop :=
  (∀ a x, ((![v1727, v1738] : Fin 2 → IVec S16 32) a x).toNat < S512x16.size a)
theorem k0_idx327_inb : ∀ (v1727 : IVec S16 32) (v1738 : IVec S16 32) (k0_hw245 : k0_chk245 v1727 v1738), ∀ a x, ((![v1727, v1738] : Fin 2 → IVec S16 32) a x).toNat < S512x16.size a := fun v1727 v1738 k0_hw245 => k0_hw245

def k0_chk246 (v1727 : IVec S16 32) (v1740 : IVec S16 32) : Prop :=
  (∀ a x, ((![v1727, v1740] : Fin 2 → IVec S16 32) a x).toNat < S512x16.size a)
theorem k0_idx328_inb : ∀ (v1727 : IVec S16 32) (v1740 : IVec S16 32) (k0_hw246 : k0_chk246 v1727 v1740), ∀ a x, ((![v1727, v1740] : Fin 2 → IVec S16 32) a x).toNat < S512x16.size a := fun v1727 v1740 k0_hw246 => k0_hw246

def k0_chk247 (v1745 : IVec S16 32) : Prop :=
  (∀ a x, ((![v1745] : Fin 1 → IVec S16 32) a x).toNat < S512.size a) ∧
  (∀ a x, ((![v1745] : Fin 1 → IVec S16 32) a x).toNat < S512.size a)
theorem k0_idx329_inb : ∀ (v1745 : IVec S16 32) (k0_hw247 : k0_chk247 v1745), ∀ a x, ((![v1745] : Fin 1 → IVec S16 32) a x).toNat < S512.size a := fun v1745 k0_hw247 => k0_hw247.1
theorem k0_idx330_inb : ∀ (v1745 : IVec S16 32) (k0_hw247 : k0_chk247 v1745), ∀ a x, ((![v1745] : Fin 1 → IVec S16 32) a x).toNat < S512.size a := fun v1745 k0_hw247 => k0_hw247.2

def k0_chk248 (v1745 : IVec S16 32) (v1756 : IVec S16 32) : Prop :=
  (∀ a x, ((![v1745, v1756] : Fin 2 → IVec S16 32) a x).toNat < S512x16.size a)
theorem k0_idx331_inb : ∀ (v1745 : IVec S16 32) (v1756 : IVec S16 32) (k0_hw248 : k0_chk248 v1745 v1756), ∀ a x, ((![v1745, v1756] : Fin 2 → IVec S16 32) a x).toNat < S512x16.size a := fun v1745 v1756 k0_hw248 => k0_hw248

def k0_chk249 (v1745 : IVec S16 32) (v1758 : IVec S16 32) : Prop :=
  (∀ a x, ((![v1745, v1758] : Fin 2 → IVec S16 32) a x).toNat < S512x16.size a)
theorem k0_idx332_inb : ∀ (v1745 : IVec S16 32) (v1758 : IVec S16 32) (k0_hw249 : k0_chk249 v1745 v1758), ∀ a x, ((![v1745, v1758] : Fin 2 → IVec S16 32) a x).toNat < S512x16.size a := fun v1745 v1758 k0_hw249 => k0_hw249

def k0_chk250 (v1763 : IVec S16 32) : Prop :=
  (∀ a x, ((![v1763] : Fin 1 → IVec S16 32) a x).toNat < S512.size a) ∧
  (∀ a x, ((![v1763] : Fin 1 → IVec S16 32) a x).toNat < S512.size a)
theorem k0_idx333_inb : ∀ (v1763 : IVec S16 32) (k0_hw250 : k0_chk250 v1763), ∀ a x, ((![v1763] : Fin 1 → IVec S16 32) a x).toNat < S512.size a := fun v1763 k0_hw250 => k0_hw250.1
theorem k0_idx334_inb : ∀ (v1763 : IVec S16 32) (k0_hw250 : k0_chk250 v1763), ∀ a x, ((![v1763] : Fin 1 → IVec S16 32) a x).toNat < S512.size a := fun v1763 k0_hw250 => k0_hw250.2

def k0_chk251 (v1763 : IVec S16 32) (v1774 : IVec S16 32) : Prop :=
  (∀ a x, ((![v1763, v1774] : Fin 2 → IVec S16 32) a x).toNat < S512x16.size a)
theorem k0_idx335_inb : ∀ (v1763 : IVec S16 32) (v1774 : IVec S16 32) (k0_hw251 : k0_chk251 v1763 v1774), ∀ a x, ((![v1763, v1774] : Fin 2 → IVec S16 32) a x).toNat < S512x16.size a := fun v1763 v1774 k0_hw251 => k0_hw251

def k0_chk252 (v1763 : IVec S16 32) (v1776 : IVec S16 32) : Prop :=
  (∀ a x, ((![v1763, v1776] : Fin 2 → IVec S16 32) a x).toNat < S512x16.size a)
theorem k0_idx336_inb : ∀ (v1763 : IVec S16 32) (v1776 : IVec S16 32) (k0_hw252 : k0_chk252 v1763 v1776), ∀ a x, ((![v1763, v1776] : Fin 2 → IVec S16 32) a x).toNat < S512x16.size a := fun v1763 v1776 k0_hw252 => k0_hw252

def k0_chk253 (v1781 : IVec S16 32) : Prop :=
  (∀ a x, ((![v1781] : Fin 1 → IVec S16 32) a x).toNat < S512.size a) ∧
  (∀ a x, ((![v1781] : Fin 1 → IVec S16 32) a x).toNat < S512.size a)
theorem k0_idx337_inb : ∀ (v1781 : IVec S16 32) (k0_hw253 : k0_chk253 v1781), ∀ a x, ((![v1781] : Fin 1 → IVec S16 32) a x).toNat < S512.size a := fun v1781 k0_hw253 => k0_hw253.1
theorem k0_idx338_inb : ∀ (v1781 : IVec S16 32) (k0_hw253 : k0_chk253 v1781), ∀ a x, ((![v1781] : Fin 1 → IVec S16 32) a x).toNat < S512.size a := fun v1781 k0_hw253 => k0_hw253.2

def k0_chk254 (v1781 : IVec S16 32) (v1792 : IVec S16 32) : Prop :=
  (∀ a x, ((![v1781, v1792] : Fin 2 → IVec S16 32) a x).toNat < S512x16.size a)
theorem k0_idx339_inb : ∀ (v1781 : IVec S16 32) (v1792 : IVec S16 32) (k0_hw254 : k0_chk254 v1781 v1792), ∀ a x, ((![v1781, v1792] : Fin 2 → IVec S16 32) a x).toNat < S512x16.size a := fun v1781 v1792 k0_hw254 => k0_hw254

def k0_chk255 (v1781 : IVec S16 32) (v1794 : IVec S16 32) : Prop :=
  (∀ a x, ((![v1781, v1794] : Fin 2 → IVec S16 32) a x).toNat < S512x16.size a)
theorem k0_idx340_inb : ∀ (v1781 : IVec S16 32) (v1794 : IVec S16 32) (k0_hw255 : k0_chk255 v1781 v1794), ∀ a x, ((![v1781, v1794] : Fin 2 → IVec S16 32) a x).toNat < S512x16.size a := fun v1781 v1794 k0_hw255 => k0_hw255

def k0_chk256 (v1799 : IVec S16 32) : Prop :=
  (∀ a x, ((![v1799] : Fin 1 → IVec S16 32) a x).toNat < S512.size a) ∧
  (∀ a x, ((![v1799] : Fin 1 → IVec S16 32) a x).toNat < S512.size a)
theorem k0_idx341_inb : ∀ (v1799 : IVec S16 32) (k0_hw256 : k0_chk256 v1799), ∀ a x, ((![v1799] : Fin 1 → IVec S16 32) a x).toNat < S512.size a := fun v1799 k0_hw256 => k0_hw256.1
theorem k0_idx342_inb : ∀ (v1799 : IVec S16 32) (k0_hw256 : k0_chk256 v1799), ∀ a x, ((![v1799] : Fin 1 → IVec S16 32) a x).toNat < S512.size a := fun v1799 k0_hw256 => k0_hw256.2

def k0_chk257 (v1799 : IVec S16 32) (v1810 : IVec S16 32) : Prop :=
  (∀ a x, ((![v1799, v1810] : Fin 2 → IVec S16 32) a x).toNat < S512x16.size a)
theorem k0_idx343_inb : ∀ (v1799 : IVec S16 32) (v1810 : IVec S16 32) (k0_hw257 : k0_chk257 v1799 v1810), ∀ a x, ((![v1799, v1810] : Fin 2 → IVec S16 32) a x).toNat < S512x16.size a := fun v1799 v1810 k0_hw257 => k0_hw257

def k0_chk258 (v1799 : IVec S16 32) (v1812 : IVec S16 32) : Prop :=
  (∀ a x, ((![v1799, v1812] : Fin 2 → IVec S16 32) a x).toNat < S512x16.size a)
theorem k0_idx344_inb : ∀ (v1799 : IVec S16 32) (v1812 : IVec S16 32) (k0_hw258 : k0_chk258 v1799 v1812), ∀ a x, ((![v1799, v1812] : Fin 2 → IVec S16 32) a x).toNat < S512x16.size a := fun v1799 v1812 k0_hw258 => k0_hw258

def k0_chk259 (v1817 : IVec S16 32) : Prop :=
  (∀ a x, ((![v1817] : Fin 1 → IVec S16 32) a x).toNat < S512.size a) ∧
  (∀ a x, ((![v1817] : Fin 1 → IVec S16 32) a x).toNat < S512.size a)
theorem k0_idx345_inb : ∀ (v1817 : IVec S16 32) (k0_hw259 : k0_chk259 v1817), ∀ a x, ((![v1817] : Fin 1 → IVec S16 32) a x).toNat < S512.size a := fun v1817 k0_hw259 => k0_hw259.1
theorem k0_idx346_inb : ∀ (v1817 : IVec S16 32) (k0_hw259 : k0_chk259 v1817), ∀ a x, ((![v1817] : Fin 1 → IVec S16 32) a x).toNat < S512.size a := fun v1817 k0_hw259 => k0_hw259.2

def k0_chk260 (v1817 : IVec S16 32) (v1828 : IVec S16 32) : Prop :=
  (∀ a x, ((![v1817, v1828] : Fin 2 → IVec S16 32) a x).toNat < S512x16.size a)
theorem k0_idx347_inb : ∀ (v1817 : IVec S16 32) (v1828 : IVec S16 32) (k0_hw260 : k0_chk260 v1817 v1828), ∀ a x, ((![v1817, v1828] : Fin 2 → IVec S16 32) a x).toNat < S512x16.size a := fun v1817 v1828 k0_hw260 => k0_hw260

def k0_chk261 (v1817 : IVec S16 32) (v1830 : IVec S16 32) : Prop :=
  (∀ a x, ((![v1817, v1830] : Fin 2 → IVec S16 32) a x).toNat < S512x16.size a)
theorem k0_idx348_inb : ∀ (v1817 : IVec S16 32) (v1830 : IVec S16 32) (k0_hw261 : k0_chk261 v1817 v1830), ∀ a x, ((![v1817, v1830] : Fin 2 → IVec S16 32) a x).toNat < S512x16.size a := fun v1817 v1830 k0_hw261 => k0_hw261

def k0_chk262 (v1835 : IVec S16 32) : Prop :=
  (∀ a x, ((![v1835] : Fin 1 → IVec S16 32) a x).toNat < S512.size a) ∧
  (∀ a x, ((![v1835] : Fin 1 → IVec S16 32) a x).toNat < S512.size a)
theorem k0_idx349_inb : ∀ (v1835 : IVec S16 32) (k0_hw262 : k0_chk262 v1835), ∀ a x, ((![v1835] : Fin 1 → IVec S16 32) a x).toNat < S512.size a := fun v1835 k0_hw262 => k0_hw262.1
theorem k0_idx350_inb : ∀ (v1835 : IVec S16 32) (k0_hw262 : k0_chk262 v1835), ∀ a x, ((![v1835] : Fin 1 → IVec S16 32) a x).toNat < S512.size a := fun v1835 k0_hw262 => k0_hw262.2

def k0_chk263 (v1835 : IVec S16 32) (v1846 : IVec S16 32) : Prop :=
  (∀ a x, ((![v1835, v1846] : Fin 2 → IVec S16 32) a x).toNat < S512x16.size a)
theorem k0_idx351_inb : ∀ (v1835 : IVec S16 32) (v1846 : IVec S16 32) (k0_hw263 : k0_chk263 v1835 v1846), ∀ a x, ((![v1835, v1846] : Fin 2 → IVec S16 32) a x).toNat < S512x16.size a := fun v1835 v1846 k0_hw263 => k0_hw263

def k0_chk264 (v1835 : IVec S16 32) (v1848 : IVec S16 32) : Prop :=
  (∀ a x, ((![v1835, v1848] : Fin 2 → IVec S16 32) a x).toNat < S512x16.size a)
theorem k0_idx352_inb : ∀ (v1835 : IVec S16 32) (v1848 : IVec S16 32) (k0_hw264 : k0_chk264 v1835 v1848), ∀ a x, ((![v1835, v1848] : Fin 2 → IVec S16 32) a x).toNat < S512x16.size a := fun v1835 v1848 k0_hw264 => k0_hw264

def k0_chk265 (v1853 : IVec S16 32) : Prop :=
  (∀ a x, ((![v1853] : Fin 1 → IVec S16 32) a x).toNat < S512.size a) ∧
  (∀ a x, ((![v1853] : Fin 1 → IVec S16 32) a x).toNat < S512.size a)
theorem k0_idx353_inb : ∀ (v1853 : IVec S16 32) (k0_hw265 : k0_chk265 v1853), ∀ a x, ((![v1853] : Fin 1 → IVec S16 32) a x).toNat < S512.size a := fun v1853 k0_hw265 => k0_hw265.1
theorem k0_idx354_inb : ∀ (v1853 : IVec S16 32) (k0_hw265 : k0_chk265 v1853), ∀ a x, ((![v1853] : Fin 1 → IVec S16 32) a x).toNat < S512.size a := fun v1853 k0_hw265 => k0_hw265.2

def k0_chk266 (v1853 : IVec S16 32) (v1864 : IVec S16 32) : Prop :=
  (∀ a x, ((![v1853, v1864] : Fin 2 → IVec S16 32) a x).toNat < S512x16.size a)
theorem k0_idx355_inb : ∀ (v1853 : IVec S16 32) (v1864 : IVec S16 32) (k0_hw266 : k0_chk266 v1853 v1864), ∀ a x, ((![v1853, v1864] : Fin 2 → IVec S16 32) a x).toNat < S512x16.size a := fun v1853 v1864 k0_hw266 => k0_hw266

def k0_chk267 (v1853 : IVec S16 32) (v1866 : IVec S16 32) : Prop :=
  (∀ a x, ((![v1853, v1866] : Fin 2 → IVec S16 32) a x).toNat < S512x16.size a)
theorem k0_idx356_inb : ∀ (v1853 : IVec S16 32) (v1866 : IVec S16 32) (k0_hw267 : k0_chk267 v1853 v1866), ∀ a x, ((![v1853, v1866] : Fin 2 → IVec S16 32) a x).toNat < S512x16.size a := fun v1853 v1866 k0_hw267 => k0_hw267

def k0_chk268 (v1871 : IVec S16 32) : Prop :=
  (∀ a x, ((![v1871] : Fin 1 → IVec S16 32) a x).toNat < S512.size a) ∧
  (∀ a x, ((![v1871] : Fin 1 → IVec S16 32) a x).toNat < S512.size a)
theorem k0_idx357_inb : ∀ (v1871 : IVec S16 32) (k0_hw268 : k0_chk268 v1871), ∀ a x, ((![v1871] : Fin 1 → IVec S16 32) a x).toNat < S512.size a := fun v1871 k0_hw268 => k0_hw268.1
theorem k0_idx358_inb : ∀ (v1871 : IVec S16 32) (k0_hw268 : k0_chk268 v1871), ∀ a x, ((![v1871] : Fin 1 → IVec S16 32) a x).toNat < S512.size a := fun v1871 k0_hw268 => k0_hw268.2

def k0_chk269 (v1871 : IVec S16 32) (v1882 : IVec S16 32) : Prop :=
  (∀ a x, ((![v1871, v1882] : Fin 2 → IVec S16 32) a x).toNat < S512x16.size a)
theorem k0_idx359_inb : ∀ (v1871 : IVec S16 32) (v1882 : IVec S16 32) (k0_hw269 : k0_chk269 v1871 v1882), ∀ a x, ((![v1871, v1882] : Fin 2 → IVec S16 32) a x).toNat < S512x16.size a := fun v1871 v1882 k0_hw269 => k0_hw269

def k0_chk270 (v1871 : IVec S16 32) (v1884 : IVec S16 32) : Prop :=
  (∀ a x, ((![v1871, v1884] : Fin 2 → IVec S16 32) a x).toNat < S512x16.size a)
theorem k0_idx360_inb : ∀ (v1871 : IVec S16 32) (v1884 : IVec S16 32) (k0_hw270 : k0_chk270 v1871 v1884), ∀ a x, ((![v1871, v1884] : Fin 2 → IVec S16 32) a x).toNat < S512x16.size a := fun v1871 v1884 k0_hw270 => k0_hw270

def k0_chk271 (v1889 : IVec S16 32) : Prop :=
  (∀ a x, ((![v1889] : Fin 1 → IVec S16 32) a x).toNat < S512.size a) ∧
  (∀ a x, ((![v1889] : Fin 1 → IVec S16 32) a x).toNat < S512.size a)
theorem k0_idx361_inb : ∀ (v1889 : IVec S16 32) (k0_hw271 : k0_chk271 v1889), ∀ a x, ((![v1889] : Fin 1 → IVec S16 32) a x).toNat < S512.size a := fun v1889 k0_hw271 => k0_hw271.1
theorem k0_idx362_inb : ∀ (v1889 : IVec S16 32) (k0_hw271 : k0_chk271 v1889), ∀ a x, ((![v1889] : Fin 1 → IVec S16 32) a x).toNat < S512.size a := fun v1889 k0_hw271 => k0_hw271.2

def k0_chk272 (v1889 : IVec S16 32) (v1900 : IVec S16 32) : Prop :=
  (∀ a x, ((![v1889, v1900] : Fin 2 → IVec S16 32) a x).toNat < S512x16.size a)
theorem k0_idx363_inb : ∀ (v1889 : IVec S16 32) (v1900 : IVec S16 32) (k0_hw272 : k0_chk272 v1889 v1900), ∀ a x, ((![v1889, v1900] : Fin 2 → IVec S16 32) a x).toNat < S512x16.size a := fun v1889 v1900 k0_hw272 => k0_hw272

def k0_chk273 (v1889 : IVec S16 32) (v1902 : IVec S16 32) : Prop :=
  (∀ a x, ((![v1889, v1902] : Fin 2 → IVec S16 32) a x).toNat < S512x16.size a)
theorem k0_idx364_inb : ∀ (v1889 : IVec S16 32) (v1902 : IVec S16 32) (k0_hw273 : k0_chk273 v1889 v1902), ∀ a x, ((![v1889, v1902] : Fin 2 → IVec S16 32) a x).toNat < S512x16.size a := fun v1889 v1902 k0_hw273 => k0_hw273

def k0_chk274 (v1907 : IVec S16 32) : Prop :=
  (∀ a x, ((![v1907] : Fin 1 → IVec S16 32) a x).toNat < S512.size a) ∧
  (∀ a x, ((![v1907] : Fin 1 → IVec S16 32) a x).toNat < S512.size a)
theorem k0_idx365_inb : ∀ (v1907 : IVec S16 32) (k0_hw274 : k0_chk274 v1907), ∀ a x, ((![v1907] : Fin 1 → IVec S16 32) a x).toNat < S512.size a := fun v1907 k0_hw274 => k0_hw274.1
theorem k0_idx366_inb : ∀ (v1907 : IVec S16 32) (k0_hw274 : k0_chk274 v1907), ∀ a x, ((![v1907] : Fin 1 → IVec S16 32) a x).toNat < S512.size a := fun v1907 k0_hw274 => k0_hw274.2

def k0_chk275 (v1907 : IVec S16 32) (v1918 : IVec S16 32) : Prop :=
  (∀ a x, ((![v1907, v1918] : Fin 2 → IVec S16 32) a x).toNat < S512x16.size a)
theorem k0_idx367_inb : ∀ (v1907 : IVec S16 32) (v1918 : IVec S16 32) (k0_hw275 : k0_chk275 v1907 v1918), ∀ a x, ((![v1907, v1918] : Fin 2 → IVec S16 32) a x).toNat < S512x16.size a := fun v1907 v1918 k0_hw275 => k0_hw275

def k0_chk276 (v1907 : IVec S16 32) (v1920 : IVec S16 32) : Prop :=
  (∀ a x, ((![v1907, v1920] : Fin 2 → IVec S16 32) a x).toNat < S512x16.size a)
theorem k0_idx368_inb : ∀ (v1907 : IVec S16 32) (v1920 : IVec S16 32) (k0_hw276 : k0_chk276 v1907 v1920), ∀ a x, ((![v1907, v1920] : Fin 2 → IVec S16 32) a x).toNat < S512x16.size a := fun v1907 v1920 k0_hw276 => k0_hw276

def k0_chk277 (v1925 : IVec S16 32) : Prop :=
  (∀ a x, ((![v1925] : Fin 1 → IVec S16 32) a x).toNat < S512.size a) ∧
  (∀ a x, ((![v1925] : Fin 1 → IVec S16 32) a x).toNat < S512.size a)
theorem k0_idx369_inb : ∀ (v1925 : IVec S16 32) (k0_hw277 : k0_chk277 v1925), ∀ a x, ((![v1925] : Fin 1 → IVec S16 32) a x).toNat < S512.size a := fun v1925 k0_hw277 => k0_hw277.1
theorem k0_idx370_inb : ∀ (v1925 : IVec S16 32) (k0_hw277 : k0_chk277 v1925), ∀ a x, ((![v1925] : Fin 1 → IVec S16 32) a x).toNat < S512.size a := fun v1925 k0_hw277 => k0_hw277.2

def k0_chk278 (v1925 : IVec S16 32) (v1936 : IVec S16 32) : Prop :=
  (∀ a x, ((![v1925, v1936] : Fin 2 → IVec S16 32) a x).toNat < S512x16.size a)
theorem k0_idx371_inb : ∀ (v1925 : IVec S16 32) (v1936 : IVec S16 32) (k0_hw278 : k0_chk278 v1925 v1936), ∀ a x, ((![v1925, v1936] : Fin 2 → IVec S16 32) a x).toNat < S512x16.size a := fun v1925 v1936 k0_hw278 => k0_hw278

def k0_chk279 (v1925 : IVec S16 32) (v1938 : IVec S16 32) : Prop :=
  (∀ a x, ((![v1925, v1938] : Fin 2 → IVec S16 32) a x).toNat < S512x16.size a)
theorem k0_idx372_inb : ∀ (v1925 : IVec S16 32) (v1938 : IVec S16 32) (k0_hw279 : k0_chk279 v1925 v1938), ∀ a x, ((![v1925, v1938] : Fin 2 → IVec S16 32) a x).toNat < S512x16.size a := fun v1925 v1938 k0_hw279 => k0_hw279

def k0_chk280 (v1943 : IVec S16 32) : Prop :=
  (∀ a x, ((![v1943] : Fin 1 → IVec S16 32) a x).toNat < S512.size a) ∧
  (∀ a x, ((![v1943] : Fin 1 → IVec S16 32) a x).toNat < S512.size a)
theorem k0_idx373_inb : ∀ (v1943 : IVec S16 32) (k0_hw280 : k0_chk280 v1943), ∀ a x, ((![v1943] : Fin 1 → IVec S16 32) a x).toNat < S512.size a := fun v1943 k0_hw280 => k0_hw280.1
theorem k0_idx374_inb : ∀ (v1943 : IVec S16 32) (k0_hw280 : k0_chk280 v1943), ∀ a x, ((![v1943] : Fin 1 → IVec S16 32) a x).toNat < S512.size a := fun v1943 k0_hw280 => k0_hw280.2

def k0_chk281 (v1943 : IVec S16 32) (v1954 : IVec S16 32) : Prop :=
  (∀ a x, ((![v1943, v1954] : Fin 2 → IVec S16 32) a x).toNat < S512x16.size a)
theorem k0_idx375_inb : ∀ (v1943 : IVec S16 32) (v1954 : IVec S16 32) (k0_hw281 : k0_chk281 v1943 v1954), ∀ a x, ((![v1943, v1954] : Fin 2 → IVec S16 32) a x).toNat < S512x16.size a := fun v1943 v1954 k0_hw281 => k0_hw281

def k0_chk282 (v1943 : IVec S16 32) (v1956 : IVec S16 32) : Prop :=
  (∀ a x, ((![v1943, v1956] : Fin 2 → IVec S16 32) a x).toNat < S512x16.size a)
theorem k0_idx376_inb : ∀ (v1943 : IVec S16 32) (v1956 : IVec S16 32) (k0_hw282 : k0_chk282 v1943 v1956), ∀ a x, ((![v1943, v1956] : Fin 2 → IVec S16 32) a x).toNat < S512x16.size a := fun v1943 v1956 k0_hw282 => k0_hw282

def k0_chk283 (v1961 : IVec S16 32) : Prop :=
  (∀ a x, ((![v1961] : Fin 1 → IVec S16 32) a x).toNat < S512.size a) ∧
  (∀ a x, ((![v1961] : Fin 1 → IVec S16 32) a x).toNat < S512.size a)
theorem k0_idx377_inb : ∀ (v1961 : IVec S16 32) (k0_hw283 : k0_chk283 v1961), ∀ a x, ((![v1961] : Fin 1 → IVec S16 32) a x).toNat < S512.size a := fun v1961 k0_hw283 => k0_hw283.1
theorem k0_idx378_inb : ∀ (v1961 : IVec S16 32) (k0_hw283 : k0_chk283 v1961), ∀ a x, ((![v1961] : Fin 1 → IVec S16 32) a x).toNat < S512.size a := fun v1961 k0_hw283 => k0_hw283.2

def k0_chk284 (v1961 : IVec S16 32) (v1972 : IVec S16 32) : Prop :=
  (∀ a x, ((![v1961, v1972] : Fin 2 → IVec S16 32) a x).toNat < S512x16.size a)
theorem k0_idx379_inb : ∀ (v1961 : IVec S16 32) (v1972 : IVec S16 32) (k0_hw284 : k0_chk284 v1961 v1972), ∀ a x, ((![v1961, v1972] : Fin 2 → IVec S16 32) a x).toNat < S512x16.size a := fun v1961 v1972 k0_hw284 => k0_hw284

def k0_chk285 (v1961 : IVec S16 32) (v1974 : IVec S16 32) : Prop :=
  (∀ a x, ((![v1961, v1974] : Fin 2 → IVec S16 32) a x).toNat < S512x16.size a)
theorem k0_idx380_inb : ∀ (v1961 : IVec S16 32) (v1974 : IVec S16 32) (k0_hw285 : k0_chk285 v1961 v1974), ∀ a x, ((![v1961, v1974] : Fin 2 → IVec S16 32) a x).toNat < S512x16.size a := fun v1961 v1974 k0_hw285 => k0_hw285

def k0_chk286 (v1979 : IVec S16 32) : Prop :=
  (∀ a x, ((![v1979] : Fin 1 → IVec S16 32) a x).toNat < S512.size a) ∧
  (∀ a x, ((![v1979] : Fin 1 → IVec S16 32) a x).toNat < S512.size a)
theorem k0_idx381_inb : ∀ (v1979 : IVec S16 32) (k0_hw286 : k0_chk286 v1979), ∀ a x, ((![v1979] : Fin 1 → IVec S16 32) a x).toNat < S512.size a := fun v1979 k0_hw286 => k0_hw286.1
theorem k0_idx382_inb : ∀ (v1979 : IVec S16 32) (k0_hw286 : k0_chk286 v1979), ∀ a x, ((![v1979] : Fin 1 → IVec S16 32) a x).toNat < S512.size a := fun v1979 k0_hw286 => k0_hw286.2

def k0_chk287 (v1979 : IVec S16 32) (v1990 : IVec S16 32) : Prop :=
  (∀ a x, ((![v1979, v1990] : Fin 2 → IVec S16 32) a x).toNat < S512x16.size a)
theorem k0_idx383_inb : ∀ (v1979 : IVec S16 32) (v1990 : IVec S16 32) (k0_hw287 : k0_chk287 v1979 v1990), ∀ a x, ((![v1979, v1990] : Fin 2 → IVec S16 32) a x).toNat < S512x16.size a := fun v1979 v1990 k0_hw287 => k0_hw287

def k0_chk288 (v1979 : IVec S16 32) (v1992 : IVec S16 32) : Prop :=
  (∀ a x, ((![v1979, v1992] : Fin 2 → IVec S16 32) a x).toNat < S512x16.size a)
theorem k0_idx384_inb : ∀ (v1979 : IVec S16 32) (v1992 : IVec S16 32) (k0_hw288 : k0_chk288 v1979 v1992), ∀ a x, ((![v1979, v1992] : Fin 2 → IVec S16 32) a x).toNat < S512x16.size a := fun v1979 v1992 k0_hw288 => k0_hw288

def k0_chk289 (v1997 : IVec S16 32) : Prop :=
  (∀ a x, ((![v1997] : Fin 1 → IVec S16 32) a x).toNat < S512.size a) ∧
  (∀ a x, ((![v1997] : Fin 1 → IVec S16 32) a x).toNat < S512.size a)
theorem k0_idx385_inb : ∀ (v1997 : IVec S16 32) (k0_hw289 : k0_chk289 v1997), ∀ a x, ((![v1997] : Fin 1 → IVec S16 32) a x).toNat < S512.size a := fun v1997 k0_hw289 => k0_hw289.1
theorem k0_idx386_inb : ∀ (v1997 : IVec S16 32) (k0_hw289 : k0_chk289 v1997), ∀ a x, ((![v1997] : Fin 1 → IVec S16 32) a x).toNat < S512.size a := fun v1997 k0_hw289 => k0_hw289.2

def k0_chk290 (v1997 : IVec S16 32) (v2008 : IVec S16 32) : Prop :=
  (∀ a x, ((![v1997, v2008] : Fin 2 → IVec S16 32) a x).toNat < S512x16.size a)
theorem k0_idx387_inb : ∀ (v1997 : IVec S16 32) (v2008 : IVec S16 32) (k0_hw290 : k0_chk290 v1997 v2008), ∀ a x, ((![v1997, v2008] : Fin 2 → IVec S16 32) a x).toNat < S512x16.size a := fun v1997 v2008 k0_hw290 => k0_hw290

def k0_chk291 (v1997 : IVec S16 32) (v2010 : IVec S16 32) : Prop :=
  (∀ a x, ((![v1997, v2010] : Fin 2 → IVec S16 32) a x).toNat < S512x16.size a)
theorem k0_idx388_inb : ∀ (v1997 : IVec S16 32) (v2010 : IVec S16 32) (k0_hw291 : k0_chk291 v1997 v2010), ∀ a x, ((![v1997, v2010] : Fin 2 → IVec S16 32) a x).toNat < S512x16.size a := fun v1997 v2010 k0_hw291 => k0_hw291

def k0_chk292 (v2015 : IVec S16 32) : Prop :=
  (∀ a x, ((![v2015] : Fin 1 → IVec S16 32) a x).toNat < S512.size a) ∧
  (∀ a x, ((![v2015] : Fin 1 → IVec S16 32) a x).toNat < S512.size a)
theorem k0_idx389_inb : ∀ (v2015 : IVec S16 32) (k0_hw292 : k0_chk292 v2015), ∀ a x, ((![v2015] : Fin 1 → IVec S16 32) a x).toNat < S512.size a := fun v2015 k0_hw292 => k0_hw292.1
theorem k0_idx390_inb : ∀ (v2015 : IVec S16 32) (k0_hw292 : k0_chk292 v2015), ∀ a x, ((![v2015] : Fin 1 → IVec S16 32) a x).toNat < S512.size a := fun v2015 k0_hw292 => k0_hw292.2

def k0_chk293 (v2015 : IVec S16 32) (v2026 : IVec S16 32) : Prop :=
  (∀ a x, ((![v2015, v2026] : Fin 2 → IVec S16 32) a x).toNat < S512x16.size a)
theorem k0_idx391_inb : ∀ (v2015 : IVec S16 32) (v2026 : IVec S16 32) (k0_hw293 : k0_chk293 v2015 v2026), ∀ a x, ((![v2015, v2026] : Fin 2 → IVec S16 32) a x).toNat < S512x16.size a := fun v2015 v2026 k0_hw293 => k0_hw293

def k0_chk294 (v2015 : IVec S16 32) (v2028 : IVec S16 32) : Prop :=
  (∀ a x, ((![v2015, v2028] : Fin 2 → IVec S16 32) a x).toNat < S512x16.size a)
theorem k0_idx392_inb : ∀ (v2015 : IVec S16 32) (v2028 : IVec S16 32) (k0_hw294 : k0_chk294 v2015 v2028), ∀ a x, ((![v2015, v2028] : Fin 2 → IVec S16 32) a x).toNat < S512x16.size a := fun v2015 v2028 k0_hw294 => k0_hw294

def k0_chk295 (v2033 : IVec S16 32) : Prop :=
  (∀ a x, ((![v2033] : Fin 1 → IVec S16 32) a x).toNat < S512.size a) ∧
  (∀ a x, ((![v2033] : Fin 1 → IVec S16 32) a x).toNat < S512.size a)
theorem k0_idx393_inb : ∀ (v2033 : IVec S16 32) (k0_hw295 : k0_chk295 v2033), ∀ a x, ((![v2033] : Fin 1 → IVec S16 32) a x).toNat < S512.size a := fun v2033 k0_hw295 => k0_hw295.1
theorem k0_idx394_inb : ∀ (v2033 : IVec S16 32) (k0_hw295 : k0_chk295 v2033), ∀ a x, ((![v2033] : Fin 1 → IVec S16 32) a x).toNat < S512.size a := fun v2033 k0_hw295 => k0_hw295.2

def k0_chk296 (v2033 : IVec S16 32) (v2044 : IVec S16 32) : Prop :=
  (∀ a x, ((![v2033, v2044] : Fin 2 → IVec S16 32) a x).toNat < S512x16.size a)
theorem k0_idx395_inb : ∀ (v2033 : IVec S16 32) (v2044 : IVec S16 32) (k0_hw296 : k0_chk296 v2033 v2044), ∀ a x, ((![v2033, v2044] : Fin 2 → IVec S16 32) a x).toNat < S512x16.size a := fun v2033 v2044 k0_hw296 => k0_hw296

def k0_chk297 (v2033 : IVec S16 32) (v2046 : IVec S16 32) : Prop :=
  (∀ a x, ((![v2033, v2046] : Fin 2 → IVec S16 32) a x).toNat < S512x16.size a)
theorem k0_idx396_inb : ∀ (v2033 : IVec S16 32) (v2046 : IVec S16 32) (k0_hw297 : k0_chk297 v2033 v2046), ∀ a x, ((![v2033, v2046] : Fin 2 → IVec S16 32) a x).toNat < S512x16.size a := fun v2033 v2046 k0_hw297 => k0_hw297

def k0_chk298 (v2051 : IVec S16 32) : Prop :=
  (∀ a x, ((![v2051] : Fin 1 → IVec S16 32) a x).toNat < S512.size a) ∧
  (∀ a x, ((![v2051] : Fin 1 → IVec S16 32) a x).toNat < S512.size a)
theorem k0_idx397_inb : ∀ (v2051 : IVec S16 32) (k0_hw298 : k0_chk298 v2051), ∀ a x, ((![v2051] : Fin 1 → IVec S16 32) a x).toNat < S512.size a := fun v2051 k0_hw298 => k0_hw298.1
theorem k0_idx398_inb : ∀ (v2051 : IVec S16 32) (k0_hw298 : k0_chk298 v2051), ∀ a x, ((![v2051] : Fin 1 → IVec S16 32) a x).toNat < S512.size a := fun v2051 k0_hw298 => k0_hw298.2

def k0_chk299 (v2051 : IVec S16 32) (v2062 : IVec S16 32) : Prop :=
  (∀ a x, ((![v2051, v2062] : Fin 2 → IVec S16 32) a x).toNat < S512x16.size a)
theorem k0_idx399_inb : ∀ (v2051 : IVec S16 32) (v2062 : IVec S16 32) (k0_hw299 : k0_chk299 v2051 v2062), ∀ a x, ((![v2051, v2062] : Fin 2 → IVec S16 32) a x).toNat < S512x16.size a := fun v2051 v2062 k0_hw299 => k0_hw299

def k0_chk300 (v2051 : IVec S16 32) (v2064 : IVec S16 32) : Prop :=
  (∀ a x, ((![v2051, v2064] : Fin 2 → IVec S16 32) a x).toNat < S512x16.size a)
theorem k0_idx400_inb : ∀ (v2051 : IVec S16 32) (v2064 : IVec S16 32) (k0_hw300 : k0_chk300 v2051 v2064), ∀ a x, ((![v2051, v2064] : Fin 2 → IVec S16 32) a x).toNat < S512x16.size a := fun v2051 v2064 k0_hw300 => k0_hw300

def k0_chk301 (v2069 : IVec S16 32) : Prop :=
  (∀ a x, ((![v2069] : Fin 1 → IVec S16 32) a x).toNat < S512.size a) ∧
  (∀ a x, ((![v2069] : Fin 1 → IVec S16 32) a x).toNat < S512.size a)
theorem k0_idx401_inb : ∀ (v2069 : IVec S16 32) (k0_hw301 : k0_chk301 v2069), ∀ a x, ((![v2069] : Fin 1 → IVec S16 32) a x).toNat < S512.size a := fun v2069 k0_hw301 => k0_hw301.1
theorem k0_idx402_inb : ∀ (v2069 : IVec S16 32) (k0_hw301 : k0_chk301 v2069), ∀ a x, ((![v2069] : Fin 1 → IVec S16 32) a x).toNat < S512.size a := fun v2069 k0_hw301 => k0_hw301.2

def k0_chk302 (v2069 : IVec S16 32) (v2080 : IVec S16 32) : Prop :=
  (∀ a x, ((![v2069, v2080] : Fin 2 → IVec S16 32) a x).toNat < S512x16.size a)
theorem k0_idx403_inb : ∀ (v2069 : IVec S16 32) (v2080 : IVec S16 32) (k0_hw302 : k0_chk302 v2069 v2080), ∀ a x, ((![v2069, v2080] : Fin 2 → IVec S16 32) a x).toNat < S512x16.size a := fun v2069 v2080 k0_hw302 => k0_hw302

def k0_chk303 (v2069 : IVec S16 32) (v2082 : IVec S16 32) : Prop :=
  (∀ a x, ((![v2069, v2082] : Fin 2 → IVec S16 32) a x).toNat < S512x16.size a)
theorem k0_idx404_inb : ∀ (v2069 : IVec S16 32) (v2082 : IVec S16 32) (k0_hw303 : k0_chk303 v2069 v2082), ∀ a x, ((![v2069, v2082] : Fin 2 → IVec S16 32) a x).toNat < S512x16.size a := fun v2069 v2082 k0_hw303 => k0_hw303

def k0_chk304 (v2087 : IVec S16 32) : Prop :=
  (∀ a x, ((![v2087] : Fin 1 → IVec S16 32) a x).toNat < S512.size a) ∧
  (∀ a x, ((![v2087] : Fin 1 → IVec S16 32) a x).toNat < S512.size a)
theorem k0_idx405_inb : ∀ (v2087 : IVec S16 32) (k0_hw304 : k0_chk304 v2087), ∀ a x, ((![v2087] : Fin 1 → IVec S16 32) a x).toNat < S512.size a := fun v2087 k0_hw304 => k0_hw304.1
theorem k0_idx406_inb : ∀ (v2087 : IVec S16 32) (k0_hw304 : k0_chk304 v2087), ∀ a x, ((![v2087] : Fin 1 → IVec S16 32) a x).toNat < S512.size a := fun v2087 k0_hw304 => k0_hw304.2

def k0_chk305 (v2087 : IVec S16 32) (v2098 : IVec S16 32) : Prop :=
  (∀ a x, ((![v2087, v2098] : Fin 2 → IVec S16 32) a x).toNat < S512x16.size a)
theorem k0_idx407_inb : ∀ (v2087 : IVec S16 32) (v2098 : IVec S16 32) (k0_hw305 : k0_chk305 v2087 v2098), ∀ a x, ((![v2087, v2098] : Fin 2 → IVec S16 32) a x).toNat < S512x16.size a := fun v2087 v2098 k0_hw305 => k0_hw305

def k0_chk306 (v2087 : IVec S16 32) (v2100 : IVec S16 32) : Prop :=
  (∀ a x, ((![v2087, v2100] : Fin 2 → IVec S16 32) a x).toNat < S512x16.size a)
theorem k0_idx408_inb : ∀ (v2087 : IVec S16 32) (v2100 : IVec S16 32) (k0_hw306 : k0_chk306 v2087 v2100), ∀ a x, ((![v2087, v2100] : Fin 2 → IVec S16 32) a x).toNat < S512x16.size a := fun v2087 v2100 k0_hw306 => k0_hw306

def k0_chk307 (v2105 : IVec S16 32) : Prop :=
  (∀ a x, ((![v2105] : Fin 1 → IVec S16 32) a x).toNat < S512.size a) ∧
  (∀ a x, ((![v2105] : Fin 1 → IVec S16 32) a x).toNat < S512.size a)
theorem k0_idx409_inb : ∀ (v2105 : IVec S16 32) (k0_hw307 : k0_chk307 v2105), ∀ a x, ((![v2105] : Fin 1 → IVec S16 32) a x).toNat < S512.size a := fun v2105 k0_hw307 => k0_hw307.1
theorem k0_idx410_inb : ∀ (v2105 : IVec S16 32) (k0_hw307 : k0_chk307 v2105), ∀ a x, ((![v2105] : Fin 1 → IVec S16 32) a x).toNat < S512.size a := fun v2105 k0_hw307 => k0_hw307.2

def k0_chk308 (v2105 : IVec S16 32) (v2116 : IVec S16 32) : Prop :=
  (∀ a x, ((![v2105, v2116] : Fin 2 → IVec S16 32) a x).toNat < S512x16.size a)
theorem k0_idx411_inb : ∀ (v2105 : IVec S16 32) (v2116 : IVec S16 32) (k0_hw308 : k0_chk308 v2105 v2116), ∀ a x, ((![v2105, v2116] : Fin 2 → IVec S16 32) a x).toNat < S512x16.size a := fun v2105 v2116 k0_hw308 => k0_hw308

def k0_chk309 (v2105 : IVec S16 32) (v2118 : IVec S16 32) : Prop :=
  (∀ a x, ((![v2105, v2118] : Fin 2 → IVec S16 32) a x).toNat < S512x16.size a)
theorem k0_idx412_inb : ∀ (v2105 : IVec S16 32) (v2118 : IVec S16 32) (k0_hw309 : k0_chk309 v2105 v2118), ∀ a x, ((![v2105, v2118] : Fin 2 → IVec S16 32) a x).toNat < S512x16.size a := fun v2105 v2118 k0_hw309 => k0_hw309

def k0_chk310 (v2123 : IVec S16 32) : Prop :=
  (∀ a x, ((![v2123] : Fin 1 → IVec S16 32) a x).toNat < S512.size a) ∧
  (∀ a x, ((![v2123] : Fin 1 → IVec S16 32) a x).toNat < S512.size a)
theorem k0_idx413_inb : ∀ (v2123 : IVec S16 32) (k0_hw310 : k0_chk310 v2123), ∀ a x, ((![v2123] : Fin 1 → IVec S16 32) a x).toNat < S512.size a := fun v2123 k0_hw310 => k0_hw310.1
theorem k0_idx414_inb : ∀ (v2123 : IVec S16 32) (k0_hw310 : k0_chk310 v2123), ∀ a x, ((![v2123] : Fin 1 → IVec S16 32) a x).toNat < S512.size a := fun v2123 k0_hw310 => k0_hw310.2

def k0_chk311 (v2123 : IVec S16 32) (v2134 : IVec S16 32) : Prop :=
  (∀ a x, ((![v2123, v2134] : Fin 2 → IVec S16 32) a x).toNat < S512x16.size a)
theorem k0_idx415_inb : ∀ (v2123 : IVec S16 32) (v2134 : IVec S16 32) (k0_hw311 : k0_chk311 v2123 v2134), ∀ a x, ((![v2123, v2134] : Fin 2 → IVec S16 32) a x).toNat < S512x16.size a := fun v2123 v2134 k0_hw311 => k0_hw311

def k0_chk312 (v2123 : IVec S16 32) (v2136 : IVec S16 32) : Prop :=
  (∀ a x, ((![v2123, v2136] : Fin 2 → IVec S16 32) a x).toNat < S512x16.size a)
theorem k0_idx416_inb : ∀ (v2123 : IVec S16 32) (v2136 : IVec S16 32) (k0_hw312 : k0_chk312 v2123 v2136), ∀ a x, ((![v2123, v2136] : Fin 2 → IVec S16 32) a x).toNat < S512x16.size a := fun v2123 v2136 k0_hw312 => k0_hw312

def k0_chk313 (v2141 : IVec S16 32) : Prop :=
  (∀ a x, ((![v2141] : Fin 1 → IVec S16 32) a x).toNat < S512.size a) ∧
  (∀ a x, ((![v2141] : Fin 1 → IVec S16 32) a x).toNat < S512.size a)
theorem k0_idx417_inb : ∀ (v2141 : IVec S16 32) (k0_hw313 : k0_chk313 v2141), ∀ a x, ((![v2141] : Fin 1 → IVec S16 32) a x).toNat < S512.size a := fun v2141 k0_hw313 => k0_hw313.1
theorem k0_idx418_inb : ∀ (v2141 : IVec S16 32) (k0_hw313 : k0_chk313 v2141), ∀ a x, ((![v2141] : Fin 1 → IVec S16 32) a x).toNat < S512.size a := fun v2141 k0_hw313 => k0_hw313.2

def k0_chk314 (v2141 : IVec S16 32) (v2152 : IVec S16 32) : Prop :=
  (∀ a x, ((![v2141, v2152] : Fin 2 → IVec S16 32) a x).toNat < S512x16.size a)
theorem k0_idx419_inb : ∀ (v2141 : IVec S16 32) (v2152 : IVec S16 32) (k0_hw314 : k0_chk314 v2141 v2152), ∀ a x, ((![v2141, v2152] : Fin 2 → IVec S16 32) a x).toNat < S512x16.size a := fun v2141 v2152 k0_hw314 => k0_hw314

def k0_chk315 (v2141 : IVec S16 32) (v2154 : IVec S16 32) : Prop :=
  (∀ a x, ((![v2141, v2154] : Fin 2 → IVec S16 32) a x).toNat < S512x16.size a)
theorem k0_idx420_inb : ∀ (v2141 : IVec S16 32) (v2154 : IVec S16 32) (k0_hw315 : k0_chk315 v2141 v2154), ∀ a x, ((![v2141, v2154] : Fin 2 → IVec S16 32) a x).toNat < S512x16.size a := fun v2141 v2154 k0_hw315 => k0_hw315

def k0_chk316 (v2159 : IVec S16 32) : Prop :=
  (∀ a x, ((![v2159] : Fin 1 → IVec S16 32) a x).toNat < S512.size a) ∧
  (∀ a x, ((![v2159] : Fin 1 → IVec S16 32) a x).toNat < S512.size a)
theorem k0_idx421_inb : ∀ (v2159 : IVec S16 32) (k0_hw316 : k0_chk316 v2159), ∀ a x, ((![v2159] : Fin 1 → IVec S16 32) a x).toNat < S512.size a := fun v2159 k0_hw316 => k0_hw316.1
theorem k0_idx422_inb : ∀ (v2159 : IVec S16 32) (k0_hw316 : k0_chk316 v2159), ∀ a x, ((![v2159] : Fin 1 → IVec S16 32) a x).toNat < S512.size a := fun v2159 k0_hw316 => k0_hw316.2

def k0_chk317 (v2159 : IVec S16 32) (v2170 : IVec S16 32) : Prop :=
  (∀ a x, ((![v2159, v2170] : Fin 2 → IVec S16 32) a x).toNat < S512x16.size a)
theorem k0_idx423_inb : ∀ (v2159 : IVec S16 32) (v2170 : IVec S16 32) (k0_hw317 : k0_chk317 v2159 v2170), ∀ a x, ((![v2159, v2170] : Fin 2 → IVec S16 32) a x).toNat < S512x16.size a := fun v2159 v2170 k0_hw317 => k0_hw317

def k0_chk318 (v2159 : IVec S16 32) (v2172 : IVec S16 32) : Prop :=
  (∀ a x, ((![v2159, v2172] : Fin 2 → IVec S16 32) a x).toNat < S512x16.size a)
theorem k0_idx424_inb : ∀ (v2159 : IVec S16 32) (v2172 : IVec S16 32) (k0_hw318 : k0_chk318 v2159 v2172), ∀ a x, ((![v2159, v2172] : Fin 2 → IVec S16 32) a x).toNat < S512x16.size a := fun v2159 v2172 k0_hw318 => k0_hw318

def k0_chk319 (v2177 : IVec S16 32) : Prop :=
  (∀ a x, ((![v2177] : Fin 1 → IVec S16 32) a x).toNat < S512.size a) ∧
  (∀ a x, ((![v2177] : Fin 1 → IVec S16 32) a x).toNat < S512.size a)
theorem k0_idx425_inb : ∀ (v2177 : IVec S16 32) (k0_hw319 : k0_chk319 v2177), ∀ a x, ((![v2177] : Fin 1 → IVec S16 32) a x).toNat < S512.size a := fun v2177 k0_hw319 => k0_hw319.1
theorem k0_idx426_inb : ∀ (v2177 : IVec S16 32) (k0_hw319 : k0_chk319 v2177), ∀ a x, ((![v2177] : Fin 1 → IVec S16 32) a x).toNat < S512.size a := fun v2177 k0_hw319 => k0_hw319.2

def k0_chk320 (v2177 : IVec S16 32) (v2188 : IVec S16 32) : Prop :=
  (∀ a x, ((![v2177, v2188] : Fin 2 → IVec S16 32) a x).toNat < S512x16.size a)
theorem k0_idx427_inb : ∀ (v2177 : IVec S16 32) (v2188 : IVec S16 32) (k0_hw320 : k0_chk320 v2177 v2188), ∀ a x, ((![v2177, v2188] : Fin 2 → IVec S16 32) a x).toNat < S512x16.size a := fun v2177 v2188 k0_hw320 => k0_hw320

def k0_chk321 (v2177 : IVec S16 32) (v2190 : IVec S16 32) : Prop :=
  (∀ a x, ((![v2177, v2190] : Fin 2 → IVec S16 32) a x).toNat < S512x16.size a)
theorem k0_idx428_inb : ∀ (v2177 : IVec S16 32) (v2190 : IVec S16 32) (k0_hw321 : k0_chk321 v2177 v2190), ∀ a x, ((![v2177, v2190] : Fin 2 → IVec S16 32) a x).toNat < S512x16.size a := fun v2177 v2190 k0_hw321 => k0_hw321

def k0_chk322 (v2195 : IVec S16 32) : Prop :=
  (∀ a x, ((![v2195] : Fin 1 → IVec S16 32) a x).toNat < S512.size a) ∧
  (∀ a x, ((![v2195] : Fin 1 → IVec S16 32) a x).toNat < S512.size a)
theorem k0_idx429_inb : ∀ (v2195 : IVec S16 32) (k0_hw322 : k0_chk322 v2195), ∀ a x, ((![v2195] : Fin 1 → IVec S16 32) a x).toNat < S512.size a := fun v2195 k0_hw322 => k0_hw322.1
theorem k0_idx430_inb : ∀ (v2195 : IVec S16 32) (k0_hw322 : k0_chk322 v2195), ∀ a x, ((![v2195] : Fin 1 → IVec S16 32) a x).toNat < S512.size a := fun v2195 k0_hw322 => k0_hw322.2

def k0_chk323 (v2195 : IVec S16 32) (v2206 : IVec S16 32) : Prop :=
  (∀ a x, ((![v2195, v2206] : Fin 2 → IVec S16 32) a x).toNat < S512x16.size a)
theorem k0_idx431_inb : ∀ (v2195 : IVec S16 32) (v2206 : IVec S16 32) (k0_hw323 : k0_chk323 v2195 v2206), ∀ a x, ((![v2195, v2206] : Fin 2 → IVec S16 32) a x).toNat < S512x16.size a := fun v2195 v2206 k0_hw323 => k0_hw323

def k0_chk324 (v2195 : IVec S16 32) (v2208 : IVec S16 32) : Prop :=
  (∀ a x, ((![v2195, v2208] : Fin 2 → IVec S16 32) a x).toNat < S512x16.size a)
theorem k0_idx432_inb : ∀ (v2195 : IVec S16 32) (v2208 : IVec S16 32) (k0_hw324 : k0_chk324 v2195 v2208), ∀ a x, ((![v2195, v2208] : Fin 2 → IVec S16 32) a x).toNat < S512x16.size a := fun v2195 v2208 k0_hw324 => k0_hw324

def k0_chk325 (v2213 : IVec S16 32) : Prop :=
  (∀ a x, ((![v2213] : Fin 1 → IVec S16 32) a x).toNat < S512.size a) ∧
  (∀ a x, ((![v2213] : Fin 1 → IVec S16 32) a x).toNat < S512.size a)
theorem k0_idx433_inb : ∀ (v2213 : IVec S16 32) (k0_hw325 : k0_chk325 v2213), ∀ a x, ((![v2213] : Fin 1 → IVec S16 32) a x).toNat < S512.size a := fun v2213 k0_hw325 => k0_hw325.1
theorem k0_idx434_inb : ∀ (v2213 : IVec S16 32) (k0_hw325 : k0_chk325 v2213), ∀ a x, ((![v2213] : Fin 1 → IVec S16 32) a x).toNat < S512.size a := fun v2213 k0_hw325 => k0_hw325.2

def k0_chk326 (v2213 : IVec S16 32) (v2224 : IVec S16 32) : Prop :=
  (∀ a x, ((![v2213, v2224] : Fin 2 → IVec S16 32) a x).toNat < S512x16.size a)
theorem k0_idx435_inb : ∀ (v2213 : IVec S16 32) (v2224 : IVec S16 32) (k0_hw326 : k0_chk326 v2213 v2224), ∀ a x, ((![v2213, v2224] : Fin 2 → IVec S16 32) a x).toNat < S512x16.size a := fun v2213 v2224 k0_hw326 => k0_hw326

def k0_chk327 (v2213 : IVec S16 32) (v2226 : IVec S16 32) : Prop :=
  (∀ a x, ((![v2213, v2226] : Fin 2 → IVec S16 32) a x).toNat < S512x16.size a)
theorem k0_idx436_inb : ∀ (v2213 : IVec S16 32) (v2226 : IVec S16 32) (k0_hw327 : k0_chk327 v2213 v2226), ∀ a x, ((![v2213, v2226] : Fin 2 → IVec S16 32) a x).toNat < S512x16.size a := fun v2213 v2226 k0_hw327 => k0_hw327

def k0_chk328 (v2231 : IVec S16 32) : Prop :=
  (∀ a x, ((![v2231] : Fin 1 → IVec S16 32) a x).toNat < S512.size a) ∧
  (∀ a x, ((![v2231] : Fin 1 → IVec S16 32) a x).toNat < S512.size a)
theorem k0_idx437_inb : ∀ (v2231 : IVec S16 32) (k0_hw328 : k0_chk328 v2231), ∀ a x, ((![v2231] : Fin 1 → IVec S16 32) a x).toNat < S512.size a := fun v2231 k0_hw328 => k0_hw328.1
theorem k0_idx438_inb : ∀ (v2231 : IVec S16 32) (k0_hw328 : k0_chk328 v2231), ∀ a x, ((![v2231] : Fin 1 → IVec S16 32) a x).toNat < S512.size a := fun v2231 k0_hw328 => k0_hw328.2

def k0_chk329 (v2231 : IVec S16 32) (v2242 : IVec S16 32) : Prop :=
  (∀ a x, ((![v2231, v2242] : Fin 2 → IVec S16 32) a x).toNat < S512x16.size a)
theorem k0_idx439_inb : ∀ (v2231 : IVec S16 32) (v2242 : IVec S16 32) (k0_hw329 : k0_chk329 v2231 v2242), ∀ a x, ((![v2231, v2242] : Fin 2 → IVec S16 32) a x).toNat < S512x16.size a := fun v2231 v2242 k0_hw329 => k0_hw329

def k0_chk330 (v2231 : IVec S16 32) (v2244 : IVec S16 32) : Prop :=
  (∀ a x, ((![v2231, v2244] : Fin 2 → IVec S16 32) a x).toNat < S512x16.size a)
theorem k0_idx440_inb : ∀ (v2231 : IVec S16 32) (v2244 : IVec S16 32) (k0_hw330 : k0_chk330 v2231 v2244), ∀ a x, ((![v2231, v2244] : Fin 2 → IVec S16 32) a x).toNat < S512x16.size a := fun v2231 v2244 k0_hw330 => k0_hw330

def k0_chk331 (v2249 : IVec S16 32) : Prop :=
  (∀ a x, ((![v2249] : Fin 1 → IVec S16 32) a x).toNat < S512.size a) ∧
  (∀ a x, ((![v2249] : Fin 1 → IVec S16 32) a x).toNat < S512.size a)
theorem k0_idx441_inb : ∀ (v2249 : IVec S16 32) (k0_hw331 : k0_chk331 v2249), ∀ a x, ((![v2249] : Fin 1 → IVec S16 32) a x).toNat < S512.size a := fun v2249 k0_hw331 => k0_hw331.1
theorem k0_idx442_inb : ∀ (v2249 : IVec S16 32) (k0_hw331 : k0_chk331 v2249), ∀ a x, ((![v2249] : Fin 1 → IVec S16 32) a x).toNat < S512.size a := fun v2249 k0_hw331 => k0_hw331.2

def k0_chk332 (v2249 : IVec S16 32) (v2260 : IVec S16 32) : Prop :=
  (∀ a x, ((![v2249, v2260] : Fin 2 → IVec S16 32) a x).toNat < S512x16.size a)
theorem k0_idx443_inb : ∀ (v2249 : IVec S16 32) (v2260 : IVec S16 32) (k0_hw332 : k0_chk332 v2249 v2260), ∀ a x, ((![v2249, v2260] : Fin 2 → IVec S16 32) a x).toNat < S512x16.size a := fun v2249 v2260 k0_hw332 => k0_hw332

def k0_chk333 (v2249 : IVec S16 32) (v2262 : IVec S16 32) : Prop :=
  (∀ a x, ((![v2249, v2262] : Fin 2 → IVec S16 32) a x).toNat < S512x16.size a)
theorem k0_idx444_inb : ∀ (v2249 : IVec S16 32) (v2262 : IVec S16 32) (k0_hw333 : k0_chk333 v2249 v2262), ∀ a x, ((![v2249, v2262] : Fin 2 → IVec S16 32) a x).toNat < S512x16.size a := fun v2249 v2262 k0_hw333 => k0_hw333

def k0_chk334 (v2267 : IVec S16 32) : Prop :=
  (∀ a x, ((![v2267] : Fin 1 → IVec S16 32) a x).toNat < S512.size a) ∧
  (∀ a x, ((![v2267] : Fin 1 → IVec S16 32) a x).toNat < S512.size a)
theorem k0_idx445_inb : ∀ (v2267 : IVec S16 32) (k0_hw334 : k0_chk334 v2267), ∀ a x, ((![v2267] : Fin 1 → IVec S16 32) a x).toNat < S512.size a := fun v2267 k0_hw334 => k0_hw334.1
theorem k0_idx446_inb : ∀ (v2267 : IVec S16 32) (k0_hw334 : k0_chk334 v2267), ∀ a x, ((![v2267] : Fin 1 → IVec S16 32) a x).toNat < S512.size a := fun v2267 k0_hw334 => k0_hw334.2

def k0_chk335 (v2267 : IVec S16 32) (v2278 : IVec S16 32) : Prop :=
  (∀ a x, ((![v2267, v2278] : Fin 2 → IVec S16 32) a x).toNat < S512x16.size a)
theorem k0_idx447_inb : ∀ (v2267 : IVec S16 32) (v2278 : IVec S16 32) (k0_hw335 : k0_chk335 v2267 v2278), ∀ a x, ((![v2267, v2278] : Fin 2 → IVec S16 32) a x).toNat < S512x16.size a := fun v2267 v2278 k0_hw335 => k0_hw335

def k0_chk336 (v2267 : IVec S16 32) (v2280 : IVec S16 32) : Prop :=
  (∀ a x, ((![v2267, v2280] : Fin 2 → IVec S16 32) a x).toNat < S512x16.size a)
theorem k0_idx448_inb : ∀ (v2267 : IVec S16 32) (v2280 : IVec S16 32) (k0_hw336 : k0_chk336 v2267 v2280), ∀ a x, ((![v2267, v2280] : Fin 2 → IVec S16 32) a x).toNat < S512x16.size a := fun v2267 v2280 k0_hw336 => k0_hw336

def k0_chk337 (v2285 : IVec S16 32) : Prop :=
  (∀ a x, ((![v2285] : Fin 1 → IVec S16 32) a x).toNat < S512.size a) ∧
  (∀ a x, ((![v2285] : Fin 1 → IVec S16 32) a x).toNat < S512.size a)
theorem k0_idx449_inb : ∀ (v2285 : IVec S16 32) (k0_hw337 : k0_chk337 v2285), ∀ a x, ((![v2285] : Fin 1 → IVec S16 32) a x).toNat < S512.size a := fun v2285 k0_hw337 => k0_hw337.1
theorem k0_idx450_inb : ∀ (v2285 : IVec S16 32) (k0_hw337 : k0_chk337 v2285), ∀ a x, ((![v2285] : Fin 1 → IVec S16 32) a x).toNat < S512.size a := fun v2285 k0_hw337 => k0_hw337.2

def k0_chk338 (v2285 : IVec S16 32) (v2296 : IVec S16 32) : Prop :=
  (∀ a x, ((![v2285, v2296] : Fin 2 → IVec S16 32) a x).toNat < S512x16.size a)
theorem k0_idx451_inb : ∀ (v2285 : IVec S16 32) (v2296 : IVec S16 32) (k0_hw338 : k0_chk338 v2285 v2296), ∀ a x, ((![v2285, v2296] : Fin 2 → IVec S16 32) a x).toNat < S512x16.size a := fun v2285 v2296 k0_hw338 => k0_hw338

def k0_chk339 (v2285 : IVec S16 32) (v2298 : IVec S16 32) : Prop :=
  (∀ a x, ((![v2285, v2298] : Fin 2 → IVec S16 32) a x).toNat < S512x16.size a)
theorem k0_idx452_inb : ∀ (v2285 : IVec S16 32) (v2298 : IVec S16 32) (k0_hw339 : k0_chk339 v2285 v2298), ∀ a x, ((![v2285, v2298] : Fin 2 → IVec S16 32) a x).toNat < S512x16.size a := fun v2285 v2298 k0_hw339 => k0_hw339

def k0_chk340 (v2303 : IVec S16 32) : Prop :=
  (∀ a x, ((![v2303] : Fin 1 → IVec S16 32) a x).toNat < S512.size a) ∧
  (∀ a x, ((![v2303] : Fin 1 → IVec S16 32) a x).toNat < S512.size a)
theorem k0_idx453_inb : ∀ (v2303 : IVec S16 32) (k0_hw340 : k0_chk340 v2303), ∀ a x, ((![v2303] : Fin 1 → IVec S16 32) a x).toNat < S512.size a := fun v2303 k0_hw340 => k0_hw340.1
theorem k0_idx454_inb : ∀ (v2303 : IVec S16 32) (k0_hw340 : k0_chk340 v2303), ∀ a x, ((![v2303] : Fin 1 → IVec S16 32) a x).toNat < S512.size a := fun v2303 k0_hw340 => k0_hw340.2

def k0_chk341 (v2303 : IVec S16 32) (v2314 : IVec S16 32) : Prop :=
  (∀ a x, ((![v2303, v2314] : Fin 2 → IVec S16 32) a x).toNat < S512x16.size a)
theorem k0_idx455_inb : ∀ (v2303 : IVec S16 32) (v2314 : IVec S16 32) (k0_hw341 : k0_chk341 v2303 v2314), ∀ a x, ((![v2303, v2314] : Fin 2 → IVec S16 32) a x).toNat < S512x16.size a := fun v2303 v2314 k0_hw341 => k0_hw341

def k0_chk342 (v2303 : IVec S16 32) (v2316 : IVec S16 32) : Prop :=
  (∀ a x, ((![v2303, v2316] : Fin 2 → IVec S16 32) a x).toNat < S512x16.size a)
theorem k0_idx456_inb : ∀ (v2303 : IVec S16 32) (v2316 : IVec S16 32) (k0_hw342 : k0_chk342 v2303 v2316), ∀ a x, ((![v2303, v2316] : Fin 2 → IVec S16 32) a x).toNat < S512x16.size a := fun v2303 v2316 k0_hw342 => k0_hw342

def k0_chk343 (v2321 : IVec S16 32) : Prop :=
  (∀ a x, ((![v2321] : Fin 1 → IVec S16 32) a x).toNat < S512.size a) ∧
  (∀ a x, ((![v2321] : Fin 1 → IVec S16 32) a x).toNat < S512.size a)
theorem k0_idx457_inb : ∀ (v2321 : IVec S16 32) (k0_hw343 : k0_chk343 v2321), ∀ a x, ((![v2321] : Fin 1 → IVec S16 32) a x).toNat < S512.size a := fun v2321 k0_hw343 => k0_hw343.1
theorem k0_idx458_inb : ∀ (v2321 : IVec S16 32) (k0_hw343 : k0_chk343 v2321), ∀ a x, ((![v2321] : Fin 1 → IVec S16 32) a x).toNat < S512.size a := fun v2321 k0_hw343 => k0_hw343.2

def k0_chk344 (v2321 : IVec S16 32) (v2332 : IVec S16 32) : Prop :=
  (∀ a x, ((![v2321, v2332] : Fin 2 → IVec S16 32) a x).toNat < S512x16.size a)
theorem k0_idx459_inb : ∀ (v2321 : IVec S16 32) (v2332 : IVec S16 32) (k0_hw344 : k0_chk344 v2321 v2332), ∀ a x, ((![v2321, v2332] : Fin 2 → IVec S16 32) a x).toNat < S512x16.size a := fun v2321 v2332 k0_hw344 => k0_hw344

def k0_chk345 (v2321 : IVec S16 32) (v2334 : IVec S16 32) : Prop :=
  (∀ a x, ((![v2321, v2334] : Fin 2 → IVec S16 32) a x).toNat < S512x16.size a)
theorem k0_idx460_inb : ∀ (v2321 : IVec S16 32) (v2334 : IVec S16 32) (k0_hw345 : k0_chk345 v2321 v2334), ∀ a x, ((![v2321, v2334] : Fin 2 → IVec S16 32) a x).toNat < S512x16.size a := fun v2321 v2334 k0_hw345 => k0_hw345

def k0_chk346 (v2339 : IVec S16 32) : Prop :=
  (∀ a x, ((![v2339] : Fin 1 → IVec S16 32) a x).toNat < S512.size a) ∧
  (∀ a x, ((![v2339] : Fin 1 → IVec S16 32) a x).toNat < S512.size a)
theorem k0_idx461_inb : ∀ (v2339 : IVec S16 32) (k0_hw346 : k0_chk346 v2339), ∀ a x, ((![v2339] : Fin 1 → IVec S16 32) a x).toNat < S512.size a := fun v2339 k0_hw346 => k0_hw346.1
theorem k0_idx462_inb : ∀ (v2339 : IVec S16 32) (k0_hw346 : k0_chk346 v2339), ∀ a x, ((![v2339] : Fin 1 → IVec S16 32) a x).toNat < S512.size a := fun v2339 k0_hw346 => k0_hw346.2

def k0_chk347 (v2339 : IVec S16 32) (v2350 : IVec S16 32) : Prop :=
  (∀ a x, ((![v2339, v2350] : Fin 2 → IVec S16 32) a x).toNat < S512x16.size a)
theorem k0_idx463_inb : ∀ (v2339 : IVec S16 32) (v2350 : IVec S16 32) (k0_hw347 : k0_chk347 v2339 v2350), ∀ a x, ((![v2339, v2350] : Fin 2 → IVec S16 32) a x).toNat < S512x16.size a := fun v2339 v2350 k0_hw347 => k0_hw347

def k0_chk348 (v2339 : IVec S16 32) (v2352 : IVec S16 32) : Prop :=
  (∀ a x, ((![v2339, v2352] : Fin 2 → IVec S16 32) a x).toNat < S512x16.size a)
theorem k0_idx464_inb : ∀ (v2339 : IVec S16 32) (v2352 : IVec S16 32) (k0_hw348 : k0_chk348 v2339 v2352), ∀ a x, ((![v2339, v2352] : Fin 2 → IVec S16 32) a x).toNat < S512x16.size a := fun v2339 v2352 k0_hw348 => k0_hw348

def k0_chk349 (v2357 : IVec S16 32) : Prop :=
  (∀ a x, ((![v2357] : Fin 1 → IVec S16 32) a x).toNat < S512.size a) ∧
  (∀ a x, ((![v2357] : Fin 1 → IVec S16 32) a x).toNat < S512.size a)
theorem k0_idx465_inb : ∀ (v2357 : IVec S16 32) (k0_hw349 : k0_chk349 v2357), ∀ a x, ((![v2357] : Fin 1 → IVec S16 32) a x).toNat < S512.size a := fun v2357 k0_hw349 => k0_hw349.1
theorem k0_idx466_inb : ∀ (v2357 : IVec S16 32) (k0_hw349 : k0_chk349 v2357), ∀ a x, ((![v2357] : Fin 1 → IVec S16 32) a x).toNat < S512.size a := fun v2357 k0_hw349 => k0_hw349.2

def k0_chk350 (v2357 : IVec S16 32) (v2368 : IVec S16 32) : Prop :=
  (∀ a x, ((![v2357, v2368] : Fin 2 → IVec S16 32) a x).toNat < S512x16.size a)
theorem k0_idx467_inb : ∀ (v2357 : IVec S16 32) (v2368 : IVec S16 32) (k0_hw350 : k0_chk350 v2357 v2368), ∀ a x, ((![v2357, v2368] : Fin 2 → IVec S16 32) a x).toNat < S512x16.size a := fun v2357 v2368 k0_hw350 => k0_hw350

def k0_chk351 (v2357 : IVec S16 32) (v2370 : IVec S16 32) : Prop :=
  (∀ a x, ((![v2357, v2370] : Fin 2 → IVec S16 32) a x).toNat < S512x16.size a)
theorem k0_idx468_inb : ∀ (v2357 : IVec S16 32) (v2370 : IVec S16 32) (k0_hw351 : k0_chk351 v2357 v2370), ∀ a x, ((![v2357, v2370] : Fin 2 → IVec S16 32) a x).toNat < S512x16.size a := fun v2357 v2370 k0_hw351 => k0_hw351

def k0_chk352 (v2375 : IVec S16 32) : Prop :=
  (∀ a x, ((![v2375] : Fin 1 → IVec S16 32) a x).toNat < S512.size a) ∧
  (∀ a x, ((![v2375] : Fin 1 → IVec S16 32) a x).toNat < S512.size a)
theorem k0_idx469_inb : ∀ (v2375 : IVec S16 32) (k0_hw352 : k0_chk352 v2375), ∀ a x, ((![v2375] : Fin 1 → IVec S16 32) a x).toNat < S512.size a := fun v2375 k0_hw352 => k0_hw352.1
theorem k0_idx470_inb : ∀ (v2375 : IVec S16 32) (k0_hw352 : k0_chk352 v2375), ∀ a x, ((![v2375] : Fin 1 → IVec S16 32) a x).toNat < S512.size a := fun v2375 k0_hw352 => k0_hw352.2

def k0_chk353 (v2375 : IVec S16 32) (v2386 : IVec S16 32) : Prop :=
  (∀ a x, ((![v2375, v2386] : Fin 2 → IVec S16 32) a x).toNat < S512x16.size a)
theorem k0_idx471_inb : ∀ (v2375 : IVec S16 32) (v2386 : IVec S16 32) (k0_hw353 : k0_chk353 v2375 v2386), ∀ a x, ((![v2375, v2386] : Fin 2 → IVec S16 32) a x).toNat < S512x16.size a := fun v2375 v2386 k0_hw353 => k0_hw353

def k0_chk354 (v2375 : IVec S16 32) (v2388 : IVec S16 32) : Prop :=
  (∀ a x, ((![v2375, v2388] : Fin 2 → IVec S16 32) a x).toNat < S512x16.size a)
theorem k0_idx472_inb : ∀ (v2375 : IVec S16 32) (v2388 : IVec S16 32) (k0_hw354 : k0_chk354 v2375 v2388), ∀ a x, ((![v2375, v2388] : Fin 2 → IVec S16 32) a x).toNat < S512x16.size a := fun v2375 v2388 k0_hw354 => k0_hw354

def k0_chk355 (v2393 : IVec S16 32) : Prop :=
  (∀ a x, ((![v2393] : Fin 1 → IVec S16 32) a x).toNat < S512.size a) ∧
  (∀ a x, ((![v2393] : Fin 1 → IVec S16 32) a x).toNat < S512.size a)
theorem k0_idx473_inb : ∀ (v2393 : IVec S16 32) (k0_hw355 : k0_chk355 v2393), ∀ a x, ((![v2393] : Fin 1 → IVec S16 32) a x).toNat < S512.size a := fun v2393 k0_hw355 => k0_hw355.1
theorem k0_idx474_inb : ∀ (v2393 : IVec S16 32) (k0_hw355 : k0_chk355 v2393), ∀ a x, ((![v2393] : Fin 1 → IVec S16 32) a x).toNat < S512.size a := fun v2393 k0_hw355 => k0_hw355.2

def k0_chk356 (v2393 : IVec S16 32) (v2404 : IVec S16 32) : Prop :=
  (∀ a x, ((![v2393, v2404] : Fin 2 → IVec S16 32) a x).toNat < S512x16.size a)
theorem k0_idx475_inb : ∀ (v2393 : IVec S16 32) (v2404 : IVec S16 32) (k0_hw356 : k0_chk356 v2393 v2404), ∀ a x, ((![v2393, v2404] : Fin 2 → IVec S16 32) a x).toNat < S512x16.size a := fun v2393 v2404 k0_hw356 => k0_hw356

def k0_chk357 (v2393 : IVec S16 32) (v2406 : IVec S16 32) : Prop :=
  (∀ a x, ((![v2393, v2406] : Fin 2 → IVec S16 32) a x).toNat < S512x16.size a)
theorem k0_idx476_inb : ∀ (v2393 : IVec S16 32) (v2406 : IVec S16 32) (k0_hw357 : k0_chk357 v2393 v2406), ∀ a x, ((![v2393, v2406] : Fin 2 → IVec S16 32) a x).toNat < S512x16.size a := fun v2393 v2406 k0_hw357 => k0_hw357

def k0_chk358 (v2411 : IVec S16 32) : Prop :=
  (∀ a x, ((![v2411] : Fin 1 → IVec S16 32) a x).toNat < S512.size a) ∧
  (∀ a x, ((![v2411] : Fin 1 → IVec S16 32) a x).toNat < S512.size a)
theorem k0_idx477_inb : ∀ (v2411 : IVec S16 32) (k0_hw358 : k0_chk358 v2411), ∀ a x, ((![v2411] : Fin 1 → IVec S16 32) a x).toNat < S512.size a := fun v2411 k0_hw358 => k0_hw358.1
theorem k0_idx478_inb : ∀ (v2411 : IVec S16 32) (k0_hw358 : k0_chk358 v2411), ∀ a x, ((![v2411] : Fin 1 → IVec S16 32) a x).toNat < S512.size a := fun v2411 k0_hw358 => k0_hw358.2

def k0_chk359 (v2411 : IVec S16 32) (v2422 : IVec S16 32) : Prop :=
  (∀ a x, ((![v2411, v2422] : Fin 2 → IVec S16 32) a x).toNat < S512x16.size a)
theorem k0_idx479_inb : ∀ (v2411 : IVec S16 32) (v2422 : IVec S16 32) (k0_hw359 : k0_chk359 v2411 v2422), ∀ a x, ((![v2411, v2422] : Fin 2 → IVec S16 32) a x).toNat < S512x16.size a := fun v2411 v2422 k0_hw359 => k0_hw359

def k0_chk360 (v2411 : IVec S16 32) (v2424 : IVec S16 32) : Prop :=
  (∀ a x, ((![v2411, v2424] : Fin 2 → IVec S16 32) a x).toNat < S512x16.size a)
theorem k0_idx480_inb : ∀ (v2411 : IVec S16 32) (v2424 : IVec S16 32) (k0_hw360 : k0_chk360 v2411 v2424), ∀ a x, ((![v2411, v2424] : Fin 2 → IVec S16 32) a x).toNat < S512x16.size a := fun v2411 v2424 k0_hw360 => k0_hw360

def k0_chk361 (v2429 : IVec S16 32) : Prop :=
  (∀ a x, ((![v2429] : Fin 1 → IVec S16 32) a x).toNat < S512.size a) ∧
  (∀ a x, ((![v2429] : Fin 1 → IVec S16 32) a x).toNat < S512.size a)
theorem k0_idx481_inb : ∀ (v2429 : IVec S16 32) (k0_hw361 : k0_chk361 v2429), ∀ a x, ((![v2429] : Fin 1 → IVec S16 32) a x).toNat < S512.size a := fun v2429 k0_hw361 => k0_hw361.1
theorem k0_idx482_inb : ∀ (v2429 : IVec S16 32) (k0_hw361 : k0_chk361 v2429), ∀ a x, ((![v2429] : Fin 1 → IVec S16 32) a x).toNat < S512.size a := fun v2429 k0_hw361 => k0_hw361.2

def k0_chk362 (v2429 : IVec S16 32) (v2440 : IVec S16 32) : Prop :=
  (∀ a x, ((![v2429, v2440] : Fin 2 → IVec S16 32) a x).toNat < S512x16.size a)
theorem k0_idx483_inb : ∀ (v2429 : IVec S16 32) (v2440 : IVec S16 32) (k0_hw362 : k0_chk362 v2429 v2440), ∀ a x, ((![v2429, v2440] : Fin 2 → IVec S16 32) a x).toNat < S512x16.size a := fun v2429 v2440 k0_hw362 => k0_hw362

def k0_chk363 (v2429 : IVec S16 32) (v2442 : IVec S16 32) : Prop :=
  (∀ a x, ((![v2429, v2442] : Fin 2 → IVec S16 32) a x).toNat < S512x16.size a)
theorem k0_idx484_inb : ∀ (v2429 : IVec S16 32) (v2442 : IVec S16 32) (k0_hw363 : k0_chk363 v2429 v2442), ∀ a x, ((![v2429, v2442] : Fin 2 → IVec S16 32) a x).toNat < S512x16.size a := fun v2429 v2442 k0_hw363 => k0_hw363

def k0_chk364 (v2447 : IVec S16 32) : Prop :=
  (∀ a x, ((![v2447] : Fin 1 → IVec S16 32) a x).toNat < S512.size a) ∧
  (∀ a x, ((![v2447] : Fin 1 → IVec S16 32) a x).toNat < S512.size a)
theorem k0_idx485_inb : ∀ (v2447 : IVec S16 32) (k0_hw364 : k0_chk364 v2447), ∀ a x, ((![v2447] : Fin 1 → IVec S16 32) a x).toNat < S512.size a := fun v2447 k0_hw364 => k0_hw364.1
theorem k0_idx486_inb : ∀ (v2447 : IVec S16 32) (k0_hw364 : k0_chk364 v2447), ∀ a x, ((![v2447] : Fin 1 → IVec S16 32) a x).toNat < S512.size a := fun v2447 k0_hw364 => k0_hw364.2

def k0_chk365 (v2447 : IVec S16 32) (v2458 : IVec S16 32) : Prop :=
  (∀ a x, ((![v2447, v2458] : Fin 2 → IVec S16 32) a x).toNat < S512x16.size a)
theorem k0_idx487_inb : ∀ (v2447 : IVec S16 32) (v2458 : IVec S16 32) (k0_hw365 : k0_chk365 v2447 v2458), ∀ a x, ((![v2447, v2458] : Fin 2 → IVec S16 32) a x).toNat < S512x16.size a := fun v2447 v2458 k0_hw365 => k0_hw365

def k0_chk366 (v2447 : IVec S16 32) (v2460 : IVec S16 32) : Prop :=
  (∀ a x, ((![v2447, v2460] : Fin 2 → IVec S16 32) a x).toNat < S512x16.size a)
theorem k0_idx488_inb : ∀ (v2447 : IVec S16 32) (v2460 : IVec S16 32) (k0_hw366 : k0_chk366 v2447 v2460), ∀ a x, ((![v2447, v2460] : Fin 2 → IVec S16 32) a x).toNat < S512x16.size a := fun v2447 v2460 k0_hw366 => k0_hw366

def k0_chk367 (v2465 : IVec S16 32) : Prop :=
  (∀ a x, ((![v2465] : Fin 1 → IVec S16 32) a x).toNat < S512.size a) ∧
  (∀ a x, ((![v2465] : Fin 1 → IVec S16 32) a x).toNat < S512.size a)
theorem k0_idx489_inb : ∀ (v2465 : IVec S16 32) (k0_hw367 : k0_chk367 v2465), ∀ a x, ((![v2465] : Fin 1 → IVec S16 32) a x).toNat < S512.size a := fun v2465 k0_hw367 => k0_hw367.1
theorem k0_idx490_inb : ∀ (v2465 : IVec S16 32) (k0_hw367 : k0_chk367 v2465), ∀ a x, ((![v2465] : Fin 1 → IVec S16 32) a x).toNat < S512.size a := fun v2465 k0_hw367 => k0_hw367.2

def k0_chk368 (v2465 : IVec S16 32) (v2476 : IVec S16 32) : Prop :=
  (∀ a x, ((![v2465, v2476] : Fin 2 → IVec S16 32) a x).toNat < S512x16.size a)
theorem k0_idx491_inb : ∀ (v2465 : IVec S16 32) (v2476 : IVec S16 32) (k0_hw368 : k0_chk368 v2465 v2476), ∀ a x, ((![v2465, v2476] : Fin 2 → IVec S16 32) a x).toNat < S512x16.size a := fun v2465 v2476 k0_hw368 => k0_hw368

def k0_chk369 (v2465 : IVec S16 32) (v2478 : IVec S16 32) : Prop :=
  (∀ a x, ((![v2465, v2478] : Fin 2 → IVec S16 32) a x).toNat < S512x16.size a)
theorem k0_idx492_inb : ∀ (v2465 : IVec S16 32) (v2478 : IVec S16 32) (k0_hw369 : k0_chk369 v2465 v2478), ∀ a x, ((![v2465, v2478] : Fin 2 → IVec S16 32) a x).toNat < S512x16.size a := fun v2465 v2478 k0_hw369 => k0_hw369

def k0_chk370 (v2483 : IVec S16 32) : Prop :=
  (∀ a x, ((![v2483] : Fin 1 → IVec S16 32) a x).toNat < S512.size a) ∧
  (∀ a x, ((![v2483] : Fin 1 → IVec S16 32) a x).toNat < S512.size a)
theorem k0_idx493_inb : ∀ (v2483 : IVec S16 32) (k0_hw370 : k0_chk370 v2483), ∀ a x, ((![v2483] : Fin 1 → IVec S16 32) a x).toNat < S512.size a := fun v2483 k0_hw370 => k0_hw370.1
theorem k0_idx494_inb : ∀ (v2483 : IVec S16 32) (k0_hw370 : k0_chk370 v2483), ∀ a x, ((![v2483] : Fin 1 → IVec S16 32) a x).toNat < S512.size a := fun v2483 k0_hw370 => k0_hw370.2

def k0_chk371 (v2483 : IVec S16 32) (v2494 : IVec S16 32) : Prop :=
  (∀ a x, ((![v2483, v2494] : Fin 2 → IVec S16 32) a x).toNat < S512x16.size a)
theorem k0_idx495_inb : ∀ (v2483 : IVec S16 32) (v2494 : IVec S16 32) (k0_hw371 : k0_chk371 v2483 v2494), ∀ a x, ((![v2483, v2494] : Fin 2 → IVec S16 32) a x).toNat < S512x16.size a := fun v2483 v2494 k0_hw371 => k0_hw371

def k0_chk372 (v2483 : IVec S16 32) (v2496 : IVec S16 32) : Prop :=
  (∀ a x, ((![v2483, v2496] : Fin 2 → IVec S16 32) a x).toNat < S512x16.size a)
theorem k0_idx496_inb : ∀ (v2483 : IVec S16 32) (v2496 : IVec S16 32) (k0_hw372 : k0_chk372 v2483 v2496), ∀ a x, ((![v2483, v2496] : Fin 2 → IVec S16 32) a x).toNat < S512x16.size a := fun v2483 v2496 k0_hw372 => k0_hw372

def k0_chk373 (v2501 : IVec S16 32) : Prop :=
  (∀ a x, ((![v2501] : Fin 1 → IVec S16 32) a x).toNat < S512.size a) ∧
  (∀ a x, ((![v2501] : Fin 1 → IVec S16 32) a x).toNat < S512.size a)
theorem k0_idx497_inb : ∀ (v2501 : IVec S16 32) (k0_hw373 : k0_chk373 v2501), ∀ a x, ((![v2501] : Fin 1 → IVec S16 32) a x).toNat < S512.size a := fun v2501 k0_hw373 => k0_hw373.1
theorem k0_idx498_inb : ∀ (v2501 : IVec S16 32) (k0_hw373 : k0_chk373 v2501), ∀ a x, ((![v2501] : Fin 1 → IVec S16 32) a x).toNat < S512.size a := fun v2501 k0_hw373 => k0_hw373.2

def k0_chk374 (v2501 : IVec S16 32) (v2512 : IVec S16 32) : Prop :=
  (∀ a x, ((![v2501, v2512] : Fin 2 → IVec S16 32) a x).toNat < S512x16.size a)
theorem k0_idx499_inb : ∀ (v2501 : IVec S16 32) (v2512 : IVec S16 32) (k0_hw374 : k0_chk374 v2501 v2512), ∀ a x, ((![v2501, v2512] : Fin 2 → IVec S16 32) a x).toNat < S512x16.size a := fun v2501 v2512 k0_hw374 => k0_hw374

def k0_chk375 (v2501 : IVec S16 32) (v2514 : IVec S16 32) : Prop :=
  (∀ a x, ((![v2501, v2514] : Fin 2 → IVec S16 32) a x).toNat < S512x16.size a)
theorem k0_idx500_inb : ∀ (v2501 : IVec S16 32) (v2514 : IVec S16 32) (k0_hw375 : k0_chk375 v2501 v2514), ∀ a x, ((![v2501, v2514] : Fin 2 → IVec S16 32) a x).toNat < S512x16.size a := fun v2501 v2514 k0_hw375 => k0_hw375

def k0_chk376 (v2519 : IVec S16 32) : Prop :=
  (∀ a x, ((![v2519] : Fin 1 → IVec S16 32) a x).toNat < S512.size a) ∧
  (∀ a x, ((![v2519] : Fin 1 → IVec S16 32) a x).toNat < S512.size a)
theorem k0_idx501_inb : ∀ (v2519 : IVec S16 32) (k0_hw376 : k0_chk376 v2519), ∀ a x, ((![v2519] : Fin 1 → IVec S16 32) a x).toNat < S512.size a := fun v2519 k0_hw376 => k0_hw376.1
theorem k0_idx502_inb : ∀ (v2519 : IVec S16 32) (k0_hw376 : k0_chk376 v2519), ∀ a x, ((![v2519] : Fin 1 → IVec S16 32) a x).toNat < S512.size a := fun v2519 k0_hw376 => k0_hw376.2

def k0_chk377 (v2519 : IVec S16 32) (v2530 : IVec S16 32) : Prop :=
  (∀ a x, ((![v2519, v2530] : Fin 2 → IVec S16 32) a x).toNat < S512x16.size a)
theorem k0_idx503_inb : ∀ (v2519 : IVec S16 32) (v2530 : IVec S16 32) (k0_hw377 : k0_chk377 v2519 v2530), ∀ a x, ((![v2519, v2530] : Fin 2 → IVec S16 32) a x).toNat < S512x16.size a := fun v2519 v2530 k0_hw377 => k0_hw377

def k0_chk378 (v2519 : IVec S16 32) (v2532 : IVec S16 32) : Prop :=
  (∀ a x, ((![v2519, v2532] : Fin 2 → IVec S16 32) a x).toNat < S512x16.size a)
theorem k0_idx504_inb : ∀ (v2519 : IVec S16 32) (v2532 : IVec S16 32) (k0_hw378 : k0_chk378 v2519 v2532), ∀ a x, ((![v2519, v2532] : Fin 2 → IVec S16 32) a x).toNat < S512x16.size a := fun v2519 v2532 k0_hw378 => k0_hw378

def k0_chk379 (v2537 : IVec S16 32) : Prop :=
  (∀ a x, ((![v2537] : Fin 1 → IVec S16 32) a x).toNat < S512.size a) ∧
  (∀ a x, ((![v2537] : Fin 1 → IVec S16 32) a x).toNat < S512.size a)
theorem k0_idx505_inb : ∀ (v2537 : IVec S16 32) (k0_hw379 : k0_chk379 v2537), ∀ a x, ((![v2537] : Fin 1 → IVec S16 32) a x).toNat < S512.size a := fun v2537 k0_hw379 => k0_hw379.1
theorem k0_idx506_inb : ∀ (v2537 : IVec S16 32) (k0_hw379 : k0_chk379 v2537), ∀ a x, ((![v2537] : Fin 1 → IVec S16 32) a x).toNat < S512.size a := fun v2537 k0_hw379 => k0_hw379.2

def k0_chk380 (v2537 : IVec S16 32) (v2548 : IVec S16 32) : Prop :=
  (∀ a x, ((![v2537, v2548] : Fin 2 → IVec S16 32) a x).toNat < S512x16.size a)
theorem k0_idx507_inb : ∀ (v2537 : IVec S16 32) (v2548 : IVec S16 32) (k0_hw380 : k0_chk380 v2537 v2548), ∀ a x, ((![v2537, v2548] : Fin 2 → IVec S16 32) a x).toNat < S512x16.size a := fun v2537 v2548 k0_hw380 => k0_hw380

def k0_chk381 (v2537 : IVec S16 32) (v2550 : IVec S16 32) : Prop :=
  (∀ a x, ((![v2537, v2550] : Fin 2 → IVec S16 32) a x).toNat < S512x16.size a)
theorem k0_idx508_inb : ∀ (v2537 : IVec S16 32) (v2550 : IVec S16 32) (k0_hw381 : k0_chk381 v2537 v2550), ∀ a x, ((![v2537, v2550] : Fin 2 → IVec S16 32) a x).toNat < S512x16.size a := fun v2537 v2550 k0_hw381 => k0_hw381

def k0_chk382 (v2555 : IVec S16 32) : Prop :=
  (∀ a x, ((![v2555] : Fin 1 → IVec S16 32) a x).toNat < S512.size a) ∧
  (∀ a x, ((![v2555] : Fin 1 → IVec S16 32) a x).toNat < S512.size a)
theorem k0_idx509_inb : ∀ (v2555 : IVec S16 32) (k0_hw382 : k0_chk382 v2555), ∀ a x, ((![v2555] : Fin 1 → IVec S16 32) a x).toNat < S512.size a := fun v2555 k0_hw382 => k0_hw382.1
theorem k0_idx510_inb : ∀ (v2555 : IVec S16 32) (k0_hw382 : k0_chk382 v2555), ∀ a x, ((![v2555] : Fin 1 → IVec S16 32) a x).toNat < S512.size a := fun v2555 k0_hw382 => k0_hw382.2

def k0_chk383 (v2555 : IVec S16 32) (v2566 : IVec S16 32) : Prop :=
  (∀ a x, ((![v2555, v2566] : Fin 2 → IVec S16 32) a x).toNat < S512x16.size a)
theorem k0_idx511_inb : ∀ (v2555 : IVec S16 32) (v2566 : IVec S16 32) (k0_hw383 : k0_chk383 v2555 v2566), ∀ a x, ((![v2555, v2566] : Fin 2 → IVec S16 32) a x).toNat < S512x16.size a := fun v2555 v2566 k0_hw383 => k0_hw383

def k0_chk384 (v2555 : IVec S16 32) (v2568 : IVec S16 32) : Prop :=
  (∀ a x, ((![v2555, v2568] : Fin 2 → IVec S16 32) a x).toNat < S512x16.size a)
theorem k0_idx512_inb : ∀ (v2555 : IVec S16 32) (v2568 : IVec S16 32) (k0_hw384 : k0_chk384 v2555 v2568), ∀ a x, ((![v2555, v2568] : Fin 2 → IVec S16 32) a x).toNat < S512x16.size a := fun v2555 v2568 k0_hw384 => k0_hw384
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2572 : BitVec 32 := Scalar.muli v1 c2048_i32
  ![v2572.toNat]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2048x2 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x2 : Shape := ⟨2, ![16384, 2]⟩
abbrev S58416x4 : Shape := ⟨2, ![58416, 4]⟩
abbrev S4x64 : Shape := ⟨2, ![4, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S16384x1 : Shape := ⟨2, ![16384, 1]⟩
abbrev S16384 : Shape := ⟨1, ![16384]⟩
abbrev S_ : Shape := ⟨0, ![]⟩
abbrev S1 : Shape := ⟨1, ![1]⟩
abbrev S1x1 : Shape := ⟨2, ![1, 1]⟩
abbrev S16384x4 : Shape := ⟨2, ![16384, 4]⟩
abbrev S16384x64 : Shape := ⟨2, ![16384, 64]⟩
abbrev S1x64 : Shape := ⟨2, ![1, 64]⟩
abbrev S16384x32 : Shape := ⟨2, ![16384, 32]⟩
abbrev S1x32 : Shape := ⟨2, ![1, 32]⟩
abbrev S1x2 : Shape := ⟨2, ![1, 2]⟩

abbrev nBuf : Space → Nat
  | .hbm => 77
  | .vmem => 0
  | .smem => 0
  | _ => 0

abbrev bufTy : (tb : Table) → Fin (tcTables nBuf tb) → BufTy
  | .hbm, ⟨0, _⟩ => ⟨S16384x2, .i32⟩
  | .hbm, ⟨1, _⟩ => ⟨S58416x4, .f32⟩
  | .hbm, ⟨2, _⟩ => ⟨S4x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x2, .f32⟩
  | .hbm, ⟨7, _⟩ => ⟨S2, .f32⟩
  | .hbm, ⟨8, _⟩ => ⟨S16384x1, .i32⟩
  | .hbm, ⟨9, _⟩ => ⟨S16384, .i32⟩
  | .hbm, ⟨10, _⟩ => ⟨S_, .i32⟩
  | .hbm, ⟨11, _⟩ => ⟨S16384, .i32⟩
  | .hbm, ⟨12, _⟩ => ⟨S16384, .i1⟩
  | .hbm, ⟨13, _⟩ => ⟨S_, .i32⟩
  | .hbm, ⟨14, _⟩ => ⟨S16384, .i32⟩
  | .hbm, ⟨15, _⟩ => ⟨S16384, .i32⟩
  | .hbm, ⟨16, _⟩ => ⟨S16384, .i32⟩
  | .hbm, ⟨17, _⟩ => ⟨S16384x1, .i32⟩
  | .hbm, ⟨18, _⟩ => ⟨S1, .i32⟩
  | .hbm, ⟨19, _⟩ => ⟨S_, .i32⟩
  | .hbm, ⟨20, _⟩ => ⟨S16384x1, .i32⟩
  | .hbm, ⟨21, _⟩ => ⟨S16384x1, .i1⟩
  | .hbm, ⟨22, _⟩ => ⟨S1x1, .i32⟩
  | .hbm, ⟨23, _⟩ => ⟨S16384x1, .i32⟩
  | .hbm, ⟨24, _⟩ => ⟨S16384x1, .i1⟩
  | .hbm, ⟨25, _⟩ => ⟨S16384x1, .i1⟩
  | .hbm, ⟨26, _⟩ => ⟨S_, .i1⟩
  | .hbm, ⟨27, _⟩ => ⟨S16384, .i1⟩
  | .hbm, ⟨28, _⟩ => ⟨S16384x4, .f32⟩
  | .hbm, ⟨29, _⟩ => ⟨S16384x4, .i1⟩
  | .hbm, ⟨30, _⟩ => ⟨S_, .f32⟩
  | .hbm, ⟨31, _⟩ => ⟨S16384x4, .f32⟩
  | .hbm, ⟨32, _⟩ => ⟨S16384x4, .f32⟩
  | .hbm, ⟨33, _⟩ => ⟨S16384x1, .i32⟩
  | .hbm, ⟨34, _⟩ => ⟨S16384, .i32⟩
  | .hbm, ⟨35, _⟩ => ⟨S_, .i32⟩
  | .hbm, ⟨36, _⟩ => ⟨S16384, .i32⟩
  | .hbm, ⟨37, _⟩ => ⟨S16384, .i1⟩
  | .hbm, ⟨38, _⟩ => ⟨S_, .i32⟩
  | .hbm, ⟨39, _⟩ => ⟨S16384, .i32⟩
  | .hbm, ⟨40, _⟩ => ⟨S16384, .i32⟩
  | .hbm, ⟨41, _⟩ => ⟨S16384, .i32⟩
  | .hbm, ⟨42, _⟩ => ⟨S16384x1, .i32⟩
  | .hbm, ⟨43, _⟩ => ⟨S1, .i32⟩
  | .hbm, ⟨44, _⟩ => ⟨S_, .i32⟩
  | .hbm, ⟨45, _⟩ => ⟨S16384x1, .i32⟩
  | .hbm, ⟨46, _⟩ => ⟨S16384x1, .i1⟩
  | .hbm, ⟨47, _⟩ => ⟨S1x1, .i32⟩
  | .hbm, ⟨48, _⟩ => ⟨S16384x1, .i32⟩
  | .hbm, ⟨49, _⟩ => ⟨S16384x1, .i1⟩
  | .hbm, ⟨50, _⟩ => ⟨S16384x1, .i1⟩
  | .hbm, ⟨51, _⟩ => ⟨S_, .i1⟩
  | .hbm, ⟨52, _⟩ => ⟨S16384, .i1⟩
  | .hbm, ⟨53, _⟩ => ⟨S16384x4, .f32⟩
  | .hbm, ⟨54, _⟩ => ⟨S16384x4, .i1⟩
  | .hbm, ⟨55, _⟩ => ⟨S_, .f32⟩
  | .hbm, ⟨56, _⟩ => ⟨S16384x4, .f32⟩
  | .hbm, ⟨57, _⟩ => ⟨S16384x4, .f32⟩
  | .hbm, ⟨58, _⟩ => ⟨S16384x4, .f32⟩
  | .hbm, ⟨59, _⟩ => ⟨S16384x64, .f32⟩
  | .hbm, ⟨60, _⟩ => ⟨S1x64, .f32⟩
  | .hbm, ⟨61, _⟩ => ⟨S16384x64, .f32⟩
  | .hbm, ⟨62, _⟩ => ⟨S16384x64, .f32⟩
  | .hbm, ⟨63, _⟩ => ⟨S_, .f32⟩
  | .hbm, ⟨64, _⟩ => ⟨S16384x64, .f32⟩
  | .hbm, ⟨65, _⟩ => ⟨S16384x64, .f32⟩
  | .hbm, ⟨66, _⟩ => ⟨S16384x32, .f32⟩
  | .hbm, ⟨67, _⟩ => ⟨S1x32, .f32⟩
  | .hbm, ⟨68, _⟩ => ⟨S16384x32, .f32⟩
  | .hbm, ⟨69, _⟩ => ⟨S16384x32, .f32⟩
  | .hbm, ⟨70, _⟩ => ⟨S_, .f32⟩
  | .hbm, ⟨71, _⟩ => ⟨S16384x32, .f32⟩
  | .hbm, ⟨72, _⟩ => ⟨S16384x32, .f32⟩
  | .hbm, ⟨73, _⟩ => ⟨S16384x2, .f32⟩
  | .hbm, ⟨74, _⟩ => ⟨S1x2, .f32⟩
  | .hbm, ⟨75, _⟩ => ⟨S16384x2, .f32⟩
  | .hbm, ⟨76, _⟩ => ⟨S16384x2, .f32⟩
  | _, _ => ⟨S16384x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_call2_cst : Ref sig .tc := ⟨.hbm, 63, rfl⟩
abbrev main_call2_v0 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_call3_cst : Ref sig .tc := ⟨.hbm, 70, rfl⟩
abbrev main_call3_v0 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩

abbrev nD : Nat := 1
abbrev τ : Topo := Topo.v7x

variable {F : FTy → Type} [FloatOps F]
-- ==== Proof.Body.lean ====
module

public import proofs.«01_k».proof.Proof.Gen.KernelIdeal

@[expose] public section

noncomputable section

/-! # The tile body as two counted loops

The printed body of the vector-subcore kernel is one straight line: thirty-two steps that shift the sixteen indices of
a group, two gathers of rows, and one hundred and twenty-eight steps that read the wanted four columns out of the
gathered rows and store their products. Here it is the same program with each of the two kinds of step written once. -/

namespace Cert.Proof.Body

open Cert.KernelIdeal Cert.KernelIdeal.Gen
open Idealize.ShloMosaic Idealize.SL.Sem

variable {F : FTy → Type} [FloatOps F]

/-- The programs of one vector subcore. -/
abbrev TileProg (F : FTy → Type) [FloatOps F] (i : grid0.Coords) : Type 1 :=
  Prog (TpuEff nD τ sig (Elt F) Λ₀ (.scVector ((i 0).castLE hcore0) ((i 1).castLE hsub0))) PUnit

theorem inbA (c : ℕ) (h : c < 32) : ∀ a, (![16 * c] : Fin 1 → Nat) a + S16.size a ≤ S512.size a := by
  intro a; fin_cases a; show 16 * c + 16 ≤ 512; omega
theorem inbB (t : ℕ) (h : t < 128) : ∀ a, (![16 * t] : Fin 1 → Nat) a + S16.size a ≤ S2048.size a := by
  intro a; fin_cases a; show 16 * t + 16 ≤ 2048; omega

/-- Group `c` of a list of 512 words, and group `t` of the 2048 results. -/
abbrev rectA (c : ℕ) (h : c < 32) : Rect S512 := Rect.unit (s := S512) ![16 * c] S16.size (inbA c h)
abbrev rectB (t : ℕ) (h : t < 128) : Rect S2048 := Rect.unit (s := S2048) ![16 * t] S16.size (inbB t h)

/-- A word divided by four: the row of sixteen that holds the four wanted columns. -/
abbrev shr2 (v : IVec S16 32) : IVec S16 32 := shrsi v (broadcast S16 2#32)
abbrev lanes : IVec S16 32 := iota .scVector S16 32 [0] iota_S16_d0_w32_scVector
/-- The four list positions group `t` reads, each named by four lanes. -/
abbrev rowT (t : ℕ) : IVec S16 32 := addi (shr2 lanes) (broadcast S16 (BitVec.ofNat 32 (4 * t)))
/-- The columns to read: four times the word's remainder by four, plus the lane's own column. -/
abbrev colT (v : IVec S16 32) : IVec S16 32 :=
  addi (muli (andi v (broadcast S16 3#32)) (broadcast S16 4#32)) (andi lanes (broadcast S16 3#32))

/-- The words of a fetched list at the positions of group `t`. -/
abbrev pick (f : Vec F S512 .i32) (t : ℕ) (h : k0_chk1 (rowT t)) : IVec S16 32 :=
  (loadIdx f ![rowT t] (k0_idx1_inb (rowT t) h) : Vec F S16 .i32)

section
variable (i : grid0.Coords)
  (arg2 : Memref sig .scVector .hbm S14604x16 .f32)
  (arg3 : Memref sig .scVector .hbm S16384 .i32) (arg4 : Memref sig .scVector .hbm S16384 .i32)
  (arg5 : Memref sig .scVector .hbm S65536 .f32)
  (arg6 : Memref sig .scVector .vmem S512 .i32) (harg6 : arg6.IsWhole) (arg7 : Memref sig .scVector .vmem S512 .i32) (harg7 : arg7.IsWhole)
  (arg8 : Memref sig .scVector .vmem S512 .i32) (arg9 : Memref sig .scVector .vmem S512 .i32)
  (arg10 : Memref sig .scVector .vmem S512x16 .f32) (harg10 : arg10.IsWhole) (arg11 : Memref sig .scVector .vmem S512x16 .f32) (harg11 : arg11.IsWhole)
  (arg12 : Memref sig .scVector .vmem S2048 .f32) (harg12 : arg12.IsWhole)
  (arg13 arg14 r0 r1 r2 : DmaSems sig S_)

/-- One step of the first loop: both lists' group `c`, divided by four. -/
def stepA (c : ℕ) (h : c < 32) (K : TileProg F i) : TileProg F i :=
  .op (.load arg6 (rectA c h).toLoadRect (View.loadsAt_vmem h_S16)) fun (v : Vec F S16 .i32) =>
  .op (.load arg8 (rectA c h).toLoadRect (View.loadsAt_vmem h_S16)) fun _ =>
  .op (.store arg8 (rectA c h) (shr2 v : Vec F S16 .i32) Finset.univ (View.stores_vmem_bits_univ h_S16 rfl) (.inl rfl)) fun _ =>
  .op (.load arg7 (rectA c h).toLoadRect (View.loadsAt_vmem h_S16)) fun (w : Vec F S16 .i32) =>
  .op (.load arg9 (rectA c h).toLoadRect (View.loadsAt_vmem h_S16)) fun _ =>
  .op (.store arg9 (rectA c h) (shr2 w : Vec F S16 .i32) Finset.univ (View.stores_vmem_bits_univ h_S16 rfl) (.inl rfl)) fun _ => K

/-- One step of the second loop: four pairs of indices, four columns each. -/
def stepB (t : ℕ) (h : t < 128) (K : TileProg F i) : TileProg F i :=
  .op (TpuEff.assume (k0_chk1 (rowT t)) (k0_chk1.dec (rowT t))) fun h1 =>
  .op (.load arg6 (.whole S512) (View.loadsAt_whole (View.loads_vmem h_S512))) fun (f0 : Vec F S512 .i32) =>
  .op (.load arg7 (.whole S512) (View.loadsAt_whole (View.loads_vmem h_S512))) fun (f1 : Vec F S512 .i32) =>
  .op (TpuEff.assume (k0_chk2 (rowT t) (colT (pick f0 t h1.down))) (k0_chk2.dec _ _)) fun h2 =>
  .op (.load arg10 (.whole S512x16) (View.loadsAt_whole (View.loads_vmem h_S512x16))) fun (g0 : Vec F S512x16 .f32) =>
  .op (TpuEff.assume (k0_chk2 (rowT t) (colT (pick f1 t h1.down))) (k0_chk2.dec _ _)) fun h3 =>
  .op (.load arg11 (.whole S512x16) (View.loadsAt_whole (View.loads_vmem h_S512x16))) fun (g1 : Vec F S512x16 .f32) =>
  .op (.load arg12 (rectB t h).toLoadRect (View.loadsAt_vmem h_S16)) fun _ =>
  .op (.store arg12 (rectB t h)
    (mulf (loadIdx g0 ![rowT t, colT (pick f0 t h1.down)] (k0_idx3_inb _ _ h2.down) : Vec F S16 .f32)
      (loadIdx g1 ![rowT t, colT (pick f1 t h1.down)] (k0_idx3_inb _ _ h3.down) : Vec F S16 .f32) : FVec F S16 .f32)
    Finset.univ (View.stores_vmem_bits_univ h_S16 rfl) (.inl rfl)) fun _ => K

/-- The last `n` steps of the first loop, then `K`. -/
def loopA (K : TileProg F i) : (n : ℕ) → n ≤ 32 → TileProg F i
  | 0, _ => K
  | n + 1, h => stepA i arg6 arg7 arg8 arg9 (31 - n) (by omega) (loopA K n (by omega))

/-- The last `n` steps of the second loop, then `K`. -/
def loopB (K : TileProg F i) : (n : ℕ) → n ≤ 128 → TileProg F i
  | 0, _ => K
  | n + 1, h => stepB i arg6 arg7 arg10 arg11 arg12 (127 - n) (by omega) (loopB K n (by omega))

abbrev lst (m : Memref sig .scVector .hbm S16384 .i32) : Memref sig .scVector .hbm S512 .i32 :=
  m.slice (Rect.unit (s := S16384) (k0_off1 i) S512.size (k0_off1_inb i)) (fun _ => rfl)
abbrev tbl : Memref sig .scVector .hbm S14604x16 .f32 :=
  arg2.slice (Rect.unit (s := S14604x16) ![0, 0] S14604x16.size inb_S14604x16_S14604x16_0_0) (fun _ => rfl)
abbrev outp : Memref sig .scVector .hbm S2048 .f32 :=
  arg5.slice (Rect.unit (s := S65536) (k0_off2 i) S2048.size (k0_off2_inb i)) (fun _ => rfl)

/-- The write-out of the results and its wait. -/
def tailP : TileProg F i :=
  .op (.enqueueDma arg12 (.here (outp i arg5)) (.dma r2.sem) harg12.wordExact (View.wordExact_bits rfl) ⟨Or.inl rfl, trivial⟩) fun _ =>
  .op (.waitDma2 r2.sem arg12 (outp i arg5) harg12.wordExact (View.wordExact_bits rfl)) fun _ => .ret ⟨⟩

/-- The two gathers of rows and their waits, then `K`. -/
def gathers (K : TileProg F i) : TileProg F i :=
  SparseCore.enqueueIndirectGather rfl (tbl arg2) arg10 gathers_S14604x16_S512x16 arg8 rfl arg13.sem (View.wordExact_bits rfl) rfl (Or.inl rfl) >>= fun _ =>
  SparseCore.enqueueIndirectGather rfl (tbl arg2) arg11 gathers_S14604x16_S512x16 arg9 rfl arg14.sem (View.wordExact_bits rfl) rfl (Or.inl rfl) >>= fun _ =>
  .op (.waitDma2 arg13.sem (tbl arg2) arg10 (View.wordExact_bits rfl) harg10.wordExact) fun _ =>
  .op (.waitDma2 arg14.sem (tbl arg2) arg11 (View.wordExact_bits rfl) harg11.wordExact) fun _ => K

/-- The two index fetches and their waits, then `K`. -/
def headP (K : TileProg F i) : TileProg F i :=
  .op (.enqueueDma (lst i arg3) (.here arg6) (.dma r0.sem) (View.wordExact_bits rfl) harg6.wordExact ⟨Or.inl rfl, trivial⟩) fun _ =>
  .op (.waitDma2 r0.sem (lst i arg3) arg6 (View.wordExact_bits rfl) harg6.wordExact) fun _ =>
  .op (.enqueueDma (lst i arg4) (.here arg7) (.dma r1.sem) (View.wordExact_bits rfl) harg7.wordExact ⟨Or.inl rfl, trivial⟩) fun _ =>
  .op (.waitDma2 r1.sem (lst i arg4) arg7 (View.wordExact_bits rfl) harg7.wordExact) fun _ => K

/-- The whole body. -/
def bodyP : TileProg F i :=
  headP i arg3 arg4 arg6 harg6 arg7 harg7 r0 r1 <|
  (fun K => loopA i arg6 arg7 arg8 arg9 K 32 le_rfl) <|
  gathers i arg2 arg8 arg9 arg10 harg10 arg11 harg11 arg13 arg14 <|
  (fun K => loopB i arg6 arg7 arg10 arg11 arg12 K 128 le_rfl) <|
  tailP i arg5 arg12 harg12 r2
end

set_option maxRecDepth 1000000 in
set_option maxHeartbeats 0 in
theorem body_eq (i : grid0.Coords)
    (arg2 : Memref sig .scVector .hbm S14604x16 .f32) (harg2 : arg2.IsWhole)
    (arg3 : Memref sig .scVector .hbm S16384 .i32) (harg3 : arg3.IsWhole) (arg4 : Memref sig .scVector .hbm S16384 .i32) (harg4 : arg4.IsWhole)
    (arg5 : Memref sig .scVector .hbm S65536 .f32) (harg5 : arg5.IsWhole)
    (arg6 : Memref sig .scVector .vmem S512 .i32) (harg6 : arg6.IsWhole) (arg7 : Memref sig .scVector .vmem S512 .i32) (harg7 : arg7.IsWhole)
    (arg8 : Memref sig .scVector .vmem S512 .i32) (harg8 : arg8.IsWhole) (arg9 : Memref sig .scVector .vmem S512 .i32) (harg9 : arg9.IsWhole)
    (arg10 : Memref sig .scVector .vmem S512x16 .f32) (harg10 : arg10.IsWhole) (arg11 : Memref sig .scVector .vmem S512x16 .f32) (harg11 : arg11.IsWhole)
    (arg12 : Memref sig .scVector .vmem S2048 .f32) (harg12 : arg12.IsWhole) (arg13 arg14 r0 r1 r2 : DmaSems sig S_) :
    cc0__sc_gather_body (F := F) i arg2 harg2 arg3 harg3 arg4 harg4 arg5 harg5 arg6 harg6 arg7 harg7 arg8 harg8 arg9 harg9 arg10 harg10
        arg11 harg11 arg12 harg12 arg13 arg14 r0 r1 r2
      = bodyP i arg2 arg3 arg4 arg5 arg6 harg6 arg7 harg7 arg8 arg9 arg10 harg10 arg11 harg11 arg12 harg12 arg13 arg14 r0 r1 r2 := by
  rfl

end Cert.Proof.Body

end
-- ==== Proof.Setup.lean ====
module

public import proofs.«01_k».proof.Proof.Body
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.ValueIdxCore
public import Idealize.ShloMosaic.Lib.Tactic

@[expose] public section

noncomputable section

/-! # What the launch is stated over

The program as the launch theorem sees it, the ghost state it runs with, the arrays the vector subcores share, and the
functions they compute: the two lists of indices, the table's rows of sixteen, and the flat array of products. -/

namespace Cert.Proof.Setup

open Cert.KernelIdeal Cert.KernelIdeal.Gen
open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)
open Cert.Proof.Body

variable {F : FTy → Type}

/-! ## The program -/

abbrev ΛP [FloatOps F] : Labels := Pipeline.Sig Λ₀ (Fin 1) fun p => (pcfgs (F := F) p).Adm
abbrev K [FloatOps F] : SparseCore.Cfg τ sig (ΛP (F := F)) 1 := sc (F := F)
theorem nSub_zero [FloatOps F] : (K (F := F)).nSub 0 = 16 := rfl
theorem nCore_zero [FloatOps F] : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the staging cells' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The staging cells' rounds sit in the left half of the right factor. -/
def EP : Emb UP (MT nD τ sig (HIx 1) (Elt F) ℕ UU ℕ) :=
  (Emb.inl : Emb UP (UP × Counters)).trans (embR (A := UH) (B := UP × Counters))
instance EP_landsIn : (EP : Emb UP 𝕄).LandsIn (upEmb : UEmb _ 𝕄) := by unfold EP; infer_instance

/-! ## The arrays the vector subcores read and write -/

variable (m : (ℓ : Loc nD τ sig) → Buf (Elt F) ℓ)

abbrev xLoc (d : Dev nD) : Loc nD τ sig := (SparseCore.T d : Thread nD τ).loc main_arg0
abbrev eLoc (d : Dev nD) : Loc nD τ sig := (SparseCore.T d : Thread nD τ).loc main_arg1
abbrev tLoc (d : Dev nD) : Loc nD τ sig := (SparseCore.T d : Thread nD τ).loc main_v4
abbrev aLoc (d : Dev nD) : Loc nD τ sig := (SparseCore.T d : Thread nD τ).loc main_v1
abbrev bLoc (d : Dev nD) : Loc nD τ sig := (SparseCore.T d : Thread nD τ).loc main_v3
abbrev oLoc (d : Dev nD) : Loc nD τ sig := (SparseCore.T d : Thread nD τ).loc main_v5

/-- The two columns of the index array, each as one list. -/
def vA (d : Dev nD) : S16384.Idx → BitVec 32 := fun j => (m (xLoc d) : S16384x2.Idx → BitVec 32) (ix2 (n0 := 16384) (n1 := 2) (j 0) 0)
def vB (d : Dev nD) : S16384.Idx → BitVec 32 := fun j => (m (xLoc d) : S16384x2.Idx → BitVec 32) (ix2 (n0 := 16384) (n1 := 2) (j 0) 1)
/-- The table, four of its rows to a row of sixteen. -/
def vT (d : Dev nD) : S14604x16.Idx → F .f32 :=
  shapeCast S14604x16 (m (eLoc d) : S58416x4.Idx → F .f32) shapeCasts_S58416x4_S14604x16

/-- A word divided by four. -/
abbrev shw (w : BitVec 32) : BitVec 32 := IntOp.shrsi .vector w 2#32

/-- The column of a row of sixteen that holds column `b` of the table's row `w`. -/
def colN (w : BitVec 32) (b : ℕ) : ℕ := 4 * (w.toNat % 4) + b % 4
theorem colN_lt (w : BitVec 32) (b : ℕ) : colN w b < 16 := by unfold colN; omega

theorem div4_lt (j : S2048.Idx) : (j 0).val / 4 < 512 := by have : (j 0).val < 2048 := (j 0).isLt; omega
/-- The list position a result of a block belongs to. -/
abbrev pos (j : S2048.Idx) : S512.Idx := ix1 (n := 512) ⟨(j 0).val / 4, div4_lt j⟩
/-- Where a result finds its factor among the gathered rows. -/
abbrev cell (f : S512.Idx → BitVec 32) (j : S2048.Idx) : S512x16.Idx :=
  ix2 (n0 := 512) (n1 := 16) ⟨(j 0).val / 4, div4_lt j⟩ ⟨colN (f (pos j)) (j 0).val, colN_lt _ _⟩
/-- One result of a block, from the two lists and the two sets of gathered rows. -/
def prodAt [FloatOps F] (f0 f1 : S512.Idx → BitVec 32) (g0 g1 : S512x16.Idx → F .f32) (j : S2048.Idx) : F .f32 :=
  FloatOps.mulf (g0 (cell f0 j)) (g1 (cell f1 j))

theorem fdiv4_lt (k : S65536.Idx) : (k 0).val / 4 < 16384 := by have : (k 0).val < 65536 := (k 0).isLt; omega
abbrev fpos (k : S65536.Idx) : S16384.Idx := ix1 (n := 16384) ⟨(k 0).val / 4, fdiv4_lt k⟩
/-- The table's element that list `x` names for a result. -/
def factor (x : S16384.Idx → BitVec 32) (t : S14604x16.Idx → F .f32) (k : S65536.Idx) : F .f32 :=
  t (ix2 (n0 := 14604) (n1 := 16) ⟨(shw (x (fpos k))).toNat % 14604, Nat.mod_lt _ (by decide)⟩ ⟨colN (x (fpos k)) (k 0).val, colN_lt _ _⟩)
/-- The flat array of products. -/
def vO [FloatOps F] (d : Dev nD) : S65536.Idx → F .f32 := fun k =>
  FloatOps.mulf (factor (vA m d) (vT m d) k) (factor (vB m d) (vT m d) k)

/-- What the proof asks of the launch memory: every index is below the table's row count. -/
def PreOK : Prop := ∀ (d : Dev nD) (j : S16384x2.Idx), (m (xLoc d) j : BitVec 32).toNat < 58416

theorem shw_toNat {w : BitVec 32} (h : w.toNat < 58416) : (shw w).toNat = w.toNat / 4 := by
  have h2 : (2#32 : BitVec 32).toNat < 32 := by decide
  show (IntOp.shrsi .vector w 2#32).toNat = _
  unfold IntOp.shrsi
  rw [if_pos h2]
  show (w.sshiftRight 2).toNat = _
  rw [BitVec.sshiftRight_eq_of_msb_false, BitVec.toNat_ushiftRight, Nat.shiftRight_eq_div_pow]
  · rw [BitVec.msb_eq_false_iff_two_mul_lt]; omega

variable {m}
theorem vA_lt (h : PreOK m) (d : Dev nD) (j : S16384.Idx) : (vA m d j).toNat < 58416 := h d _
theorem vB_lt (h : PreOK m) (d : Dev nD) (j : S16384.Idx) : (vB m d j).toNat < 58416 := h d _

end Cert.Proof.Setup

end
-- ==== Proof.Loops.lean ====
module

public import proofs.«01_k».proof.Proof.Setup

@[expose] public section

noncomputable section

/-! # The two counted loops of a vector subcore

Each loop is proved by induction on the steps left: one step's proof, at a symbolic step number, serves all of them. -/

namespace Cert.Proof.Loops

open Cert.KernelIdeal Cert.KernelIdeal.Gen
open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2)
open Cert.Proof.Body Cert.Proof.Setup

variable {F : FTy → Type}

local notation "𝕄" => MT nD τ sig (HIx 1) (Elt F) ℕ UU ℕ

/-! ## The words the lanes compute -/

theorem lane_lt (x : S16.Idx) : (x 0).val < 16 := (x 0).isLt

theorem lanes_toNat (x : S16.Idx) : (lanes x).toNat = (x 0).val := by
  have h := lane_lt x
  show (BitVec.ofNat 32 (0 * 16 + (x 0).val)).toNat = _
  rw [BitVec.toNat_ofNat]; omega

theorem lanes_div (x : S16.Idx) : (shr2 lanes x).toNat = (x 0).val / 4 := by
  have h := lane_lt x
  have e := lanes_toNat x
  show (shw (lanes x)).toNat = _
  rw [shw_toNat (by omega), e]

theorem rowT_toNat (t : ℕ) (ht : t < 128) (x : S16.Idx) : (rowT t x).toNat = 4 * t + (x 0).val / 4 := by
  have h := lane_lt x
  show ((shr2 lanes x) + BitVec.ofNat 32 (4 * t)).toNat = _
  rw [BitVec.toNat_add, lanes_div, BitVec.toNat_ofNat]; omega

theorem and3_toNat (w : BitVec 32) : (w &&& 3#32).toNat = w.toNat % 4 := by
  rw [BitVec.toNat_and]; exact Nat.and_two_pow_sub_one_eq_mod w.toNat 2

theorem colT_toNat (v : IVec S16 32) (x : S16.Idx) : (colT v x).toNat = 4 * ((v x).toNat % 4) + (x 0).val % 4 := by
  have h := lane_lt x
  show ((v x &&& 3#32) * 4#32 + (lanes x &&& 3#32)).toNat = _
  rw [BitVec.toNat_add, BitVec.toNat_mul, and3_toNat, and3_toNat, lanes_toNat]
  show ((v x).toNat % 4 * 4 % 2 ^ 32 + (x 0).val % 4) % 2 ^ 32 = _
  omega

theorem chk1 (t : ℕ) (ht : t < 128) : k0_chk1 (rowT t) := by
  have key : ∀ a x, ((![rowT t] : Fin 1 → IVec S16 32) a x).toNat < S512.size a := by
    intro a x
    have h := lane_lt x
    match a with
    | 0 => show (rowT t x).toNat < 512; rw [rowT_toNat t ht]; omega
  exact ⟨key, key⟩

theorem chk2 (t : ℕ) (ht : t < 128) (v : IVec S16 32) : k0_chk2 (rowT t) (colT v) := by
  intro a x
  have h := lane_lt x
  match a with
  | 0 => show (rowT t x).toNat < 512; rw [rowT_toNat t ht]; omega
  | 1 => show (colT v x).toNat < 16; rw [colT_toNat]; omega

/-! ## A group stored into a whole buffer -/

section Store
variable {Val : EltTy → Type}

/-- A store through a rectangle of a whole buffer, read inside the rectangle, -/
theorem store_in {b : Ref sig .scVector} (f : b.ty.Contents Val) (r : Rect b.ty.shape) (w : r.shape.Idx → Val b.ty.elt) (x : r.shape.Idx) :
    (((Memref.whole b).access r).write Val f w Finset.univ) (r.emb x) = w x :=
  View.read_slice_write_emb (v := View.whole b) r f w (Finset.mem_univ x)

/-- and outside it. -/
theorem store_out {b : Ref sig .scVector} (f : b.ty.Contents Val) (r : Rect b.ty.shape)
    (w : r.shape.Idx → Val b.ty.elt) (y : b.ty.shape.Idx) (h : y ∉ r.set) :
    (((Memref.whole b).access r).write Val f w Finset.univ) y = f y :=
  View.read_slice_write_of_not_mem (v := View.whole b) r f w Finset.univ (by rwa [Rect.map_emb_univ])

end Store

/-- Lane `x` of group `n` of a list of `N`. -/
theorem mem_group {N : ℕ} (o : ℕ) (inb : ∀ a, (![o] : Fin 1 → ℕ) a + S16.size a ≤ (⟨1, ![N]⟩ : Shape).size a) (y : (⟨1, ![N]⟩ : Shape).Idx)
    (h1 : o ≤ (y 0).val) (h2 : (y 0).val < o + 16) :
    ∃ x : S16.Idx, (Rect.unit (s := ⟨1, ![N]⟩) ![o] S16.size inb).emb x = y ∧ (y 0).val = o + (x 0).val := by
  refine ⟨ix1 (n := 16) ⟨(y 0).val - o, by omega⟩, ?_, by show _ = o + ((y 0).val - o); omega⟩
  refine Rect.emb_eq_of_coords _ _ _ fun a => ?_
  match a with
  | 0 => show (y 0).val = o + 1 * ((y 0).val - o); omega
theorem not_mem_group {N : ℕ} (o : ℕ) (inb : ∀ a, (![o] : Fin 1 → ℕ) a + S16.size a ≤ (⟨1, ![N]⟩ : Shape).size a) (y : (⟨1, ![N]⟩ : Shape).Idx)
    (h1 : (y 0).val < o) : y ∉ (Rect.unit (s := ⟨1, ![N]⟩) ![o] S16.size inb).set :=
  Rect.not_mem_set_of_axis _ y 0 o 16 rfl rfl rfl (.inl h1)

/-! ## The vector subcore's thread and buffers -/

abbrev cV (i : grid0.Coords) : Fin τ.nSC := (i 0).castLE hcore0
abbrev jV (i : grid0.Coords) : Fin τ.nSub := (i 1).castLE hsub0
abbrev thr (d : Dev nD) (i : grid0.Coords) : Thread nD τ := V d (cV i) (jV i)

abbrev b6 : Memref sig .scVector .vmem S512 .i32 := Memref.whole cc0_scratch0
abbrev b7 : Memref sig .scVector .vmem S512 .i32 := Memref.whole cc0_scratch1
abbrev b8 : Memref sig .scVector .vmem S512 .i32 := Memref.whole cc0_scratch2
abbrev b9 : Memref sig .scVector .vmem S512 .i32 := Memref.whole cc0_scratch3
abbrev b10 : Memref sig .scVector .vmem S512x16 .f32 := Memref.whole cc0_scratch4
abbrev b11 : Memref sig .scVector .vmem S512x16 .f32 := Memref.whole cc0_scratch5
abbrev b12 : Memref sig .scVector .vmem S2048 .f32 := Memref.whole cc0_scratch6

variable [FloatOps F]

section
variable (d : Dev nD) (i : grid0.Coords) (Q : PUnit.{1} → sProp (MT nD τ sig (HIx 1) (Elt F) ℕ UU ℕ)) (K : TileProg F i)

abbrev pts6 (f : S512.Idx → BitVec 32) : sProp 𝕄 := (thr d i).loc cc0_scratch0 ↦{fullShare} (f : Buf (Elt F) ((thr d i).loc cc0_scratch0))
abbrev pts7 (f : S512.Idx → BitVec 32) : sProp 𝕄 := (thr d i).loc cc0_scratch1 ↦{fullShare} (f : Buf (Elt F) ((thr d i).loc cc0_scratch1))
abbrev pts8 (f : S512.Idx → BitVec 32) : sProp 𝕄 := (thr d i).loc cc0_scratch2 ↦{fullShare} (f : Buf (Elt F) ((thr d i).loc cc0_scratch2))
abbrev pts9 (f : S512.Idx → BitVec 32) : sProp 𝕄 := (thr d i).loc cc0_scratch3 ↦{fullShare} (f : Buf (Elt F) ((thr d i).loc cc0_scratch3))
abbrev pts10 (f : S512x16.Idx → F .f32) : sProp 𝕄 := (thr d i).loc cc0_scratch4 ↦{fullShare} (f : Buf (Elt F) ((thr d i).loc cc0_scratch4))
abbrev pts11 (f : S512x16.Idx → F .f32) : sProp 𝕄 := (thr d i).loc cc0_scratch5 ↦{fullShare} (f : Buf (Elt F) ((thr d i).loc cc0_scratch5))
abbrev pts12 (f : S2048.Idx → F .f32) : sProp 𝕄 := (thr d i).loc cc0_scratch6 ↦{fullShare} (f : Buf (Elt F) ((thr d i).loc cc0_scratch6))

/-- One more group shifted: the list is shifted a group further. -/
theorem shift_step (c : ℕ) (hc : c < 32) (f g w : S512.Idx → BitVec 32)
    (hin : ∀ x, w ((rectA c hc).emb x) = shw (f ((rectA c hc).emb x))) (hout : ∀ y, y ∉ (rectA c hc).set → w y = g y)
    (hg : ∀ y : S512.Idx, (y 0).val < 16 * c → g y = shw (f y)) (y : S512.Idx) (hy : (y 0).val < 16 * c + 16) : w y = shw (f y) := by
  by_cases hlt : (y 0).val < 16 * c
  · exact (hout y (not_mem_group _ _ y hlt)).trans (hg y hlt)
  · obtain ⟨x, hx, -⟩ := mem_group (16 * c) (inbA c hc) y (by omega) (by omega)
    subst hx
    exact hin x

/-- One step of the first loop. -/
theorem wp_stepA (f0 f1 f8 f9 : S512.Idx → BitVec 32) (c : ℕ) (hc : c < 32)
    (h8 : ∀ y : S512.Idx, (y 0).val < 16 * c → f8 y = shw (f0 y)) (h9 : ∀ y : S512.Idx, (y 0).val < 16 * c → f9 y = shw (f1 y)) :
    iprop(pts6 d i f0 ∗ pts7 d i f1 ∗ pts8 d i f8 ∗ pts9 d i f9)
      ⊢ iprop((∀ w8, ∀ w9, ⌜(∀ y : S512.Idx, (y 0).val < 16 * c + 16 → w8 y = shw (f0 y)) ∧ (∀ y : S512.Idx, (y 0).val < 16 * c + 16 → w9 y = shw (f1 y))⌝
            -∗ (pts6 d i f0 ∗ pts7 d i f1 ∗ pts8 d i w8 ∗ pts9 d i w9)
            -∗ wp frame (wpE (defs₀ (F := F)) 𝒱₀ (thr d i) none) Set.univ K Q)
          -∗ wp frame (wpE (defs₀ (F := F)) 𝒱₀ (thr d i) none) Set.univ (stepA i b6 b7 b8 b9 c hc K) Q) := by
  obtain ⟨w8, h8w⟩ : ∃ w : S512.Idx → BitVec 32, w = (b8.access (rectA c hc)).write (Elt F) f8
    (shr2 ((b6.access (rectA c hc)).read (Elt F) f0)) Finset.univ := ⟨_, rfl⟩
  obtain ⟨w9, h9w⟩ : ∃ w : S512.Idx → BitVec 32, w = (b9.access (rectA c hc)).write (Elt F) f9
    (shr2 ((b7.access (rectA c hc)).read (Elt F) f1)) Finset.univ := ⟨_, rfl⟩
  have e8 : ∀ y : S512.Idx, (y 0).val < 16 * c + 16 → w8 y = shw (f0 y) := fun y hy =>
    shift_step c hc f0 f8 w8 (fun x => h8w ▸ store_in (b := cc0_scratch2) (Val := Elt F) f8 (rectA c hc) _ x)
      (fun y hy => h8w ▸ store_out (b := cc0_scratch2) (Val := Elt F) f8 (rectA c hc) _ y hy) h8 y hy
  have e9 : ∀ y : S512.Idx, (y 0).val < 16 * c + 16 → w9 y = shw (f1 y) := fun y hy =>
    shift_step c hc f1 f9 w9 (fun x => h9w ▸ store_in (b := cc0_scratch3) (Val := Elt F) f9 (rectA c hc) _ x)
      (fun y hy => h9w ▸ store_out (b := cc0_scratch3) (Val := Elt F) f9 (rectA c hc) _ y hy) h9 y hy
  iintro ⟨H6, H7, H8, H9⟩ Hk
  unfold stepA
  iapply (wp_load_rect 𝒱₀ (thr d i) none Set.univ (m := b6) (r := rectA c hc) (Finset.subset_univ _)) $$ H6
  iintro H6
  iapply (wp_load_rect 𝒱₀ (thr d i) none Set.univ (m := b8) (r := rectA c hc) (Finset.subset_univ _)) $$ H8
  iintro H8
  iapply (wp_store 𝒱₀ (thr d i) none Set.univ (m := b8) (r := rectA c hc) (Finset.subset_univ _)) $$ H8
  iintro H8
  iapply (wp_load_rect 𝒱₀ (thr d i) none Set.univ (m := b7) (r := rectA c hc) (Finset.subset_univ _)) $$ H7
  iintro H7
  iapply (wp_load_rect 𝒱₀ (thr d i) none Set.univ (m := b9) (r := rectA c hc) (Finset.subset_univ _)) $$ H9
  iintro H9
  iapply (wp_store 𝒱₀ (thr d i) none Set.univ (m := b9) (r := rectA c hc) (Finset.subset_univ _)) $$ H9
  iintro H9
  iapply Hk $$ %w8 %w9 %(And.intro e8 e9)
  isplitl [H6]; · iexact H6
  isplitl [H7]; · iexact H7
  isplitl [H8]; · rw [h8w]; iexact H8
  rw [h9w]; iexact H9

/-- The first loop: both lists divided by four. -/
theorem wp_loopA (f0 f1 : S512.Idx → BitVec 32) (n : ℕ) : ∀ (h : n ≤ 32) (f8 f9 : S512.Idx → BitVec 32),
    (∀ y : S512.Idx, (y 0).val < 16 * (32 - n) → f8 y = shw (f0 y)) → (∀ y : S512.Idx, (y 0).val < 16 * (32 - n) → f9 y = shw (f1 y)) →
    iprop(pts6 d i f0 ∗ pts7 d i f1 ∗ pts8 d i f8 ∗ pts9 d i f9)
      ⊢ iprop(((pts6 d i f0 ∗ pts7 d i f1 ∗ pts8 d i (fun y => shw (f0 y)) ∗ pts9 d i (fun y => shw (f1 y)))
            -∗ wp frame (wpE (defs₀ (F := F)) 𝒱₀ (thr d i) none) Set.univ K Q)
          -∗ wp frame (wpE (defs₀ (F := F)) 𝒱₀ (thr d i) none) Set.univ (loopA i b6 b7 b8 b9 K n h) Q) := by
  induction n with
  | zero =>
    intro h f8 f9 h8 h9
    have e8 : f8 = fun y => shw (f0 y) := funext fun y => h8 y (show (y 0).val < 512 from (y 0).isLt)
    have e9 : f9 = fun y => shw (f1 y) := funext fun y => h9 y (show (y 0).val < 512 from (y 0).isLt)
    subst e8 e9
    iintro H Hk
    iapply Hk; iexact H
  | succ n ih =>
    intro h f8 f9 h8 h9
    have hn : n ≤ 32 := by omega
    have hA : 31 - n < 32 := by omega
    unfold loopA
    iintro H Hk
    iapply (wp_stepA d i Q (loopA i b6 b7 b8 b9 K n hn) f0 f1 f8 f9 (31 - n) hA (fun y hy => h8 y (by omega)) (fun y hy => h9 y (by omega))) $$ H
    iintro %w8 %w9 %hw H
    iapply (ih hn w8 w9 (fun y hy => hw.1 y (by omega)) (fun y hy => hw.2 y (by omega))) $$ H Hk

/-- What group `t` stores is the block's results there. -/
theorem prod_step (t : ℕ) (ht : t < 128) (f0 f1 : S512.Idx → BitVec 32) (g0 g1 : S512x16.Idx → F .f32)
    (h1 : k0_chk1 (rowT t)) (h2 : k0_chk2 (rowT t) (colT (pick (F := F) f0 t h1))) (h3 : k0_chk2 (rowT t) (colT (pick (F := F) f1 t h1)))
    (y : S2048.Idx) (x : S16.Idx) (hy : (y 0).val = 16 * t + (x 0).val) :
    (mulf (loadIdx g0 ![rowT t, colT (pick (F := F) f0 t h1)] (k0_idx3_inb _ _ h2) : Vec F S16 .f32)
        (loadIdx g1 ![rowT t, colT (pick (F := F) f1 t h1)] (k0_idx3_inb _ _ h3) : Vec F S16 .f32) : FVec F S16 .f32) x
      = prodAt f0 f1 g0 g1 y := by
  have hx := lane_lt x
  have hp : ∀ f : S512.Idx → BitVec 32, (pick (F := F) f t h1 : IVec S16 32) x = f (pos y) := fun f =>
    congrArg f (funext fun a => match a with
      | 0 => Fin.ext (show (rowT t x).toNat = (y 0).val / 4 by rw [rowT_toNat t ht]; omega))
  have hc : ∀ (f : S512.Idx → BitVec 32) (hk : k0_chk2 (rowT t) (colT (pick (F := F) f t h1))),
      idxAt (s := S512x16) ![rowT t, colT (pick (F := F) f t h1)] (k0_idx3_inb _ _ hk) x = cell f y := fun f hk =>
    funext fun a => match a with
      | 0 => Fin.ext (show (rowT t x).toNat = (y 0).val / 4 by rw [rowT_toNat t ht]; omega)
      | 1 => Fin.ext (show (colT (pick (F := F) f t h1) x).toNat = colN (f (pos y)) (y 0).val by
          rw [colT_toNat, hp]; unfold colN; omega)
  show FloatOps.mulf (g0 (idxAt _ _ x)) (g1 (idxAt _ _ x)) = FloatOps.mulf (g0 (cell f0 y)) (g1 (cell f1 y))
  rw [hc f0 h2, hc f1 h3]

/-- One step of the second loop. -/
theorem wp_stepB (f0 f1 : S512.Idx → BitVec 32) (g0 g1 : S512x16.Idx → F .f32) (f12 : S2048.Idx → F .f32) (t : ℕ) (ht : t < 128)
    (h12 : ∀ y : S2048.Idx, (y 0).val < 16 * t → f12 y = prodAt f0 f1 g0 g1 y) :
    iprop(pts6 d i f0 ∗ pts7 d i f1 ∗ pts10 d i g0 ∗ pts11 d i g1 ∗ pts12 d i f12)
      ⊢ iprop((∀ w12, ⌜∀ y : S2048.Idx, (y 0).val < 16 * t + 16 → w12 y = prodAt f0 f1 g0 g1 y⌝
            -∗ (pts6 d i f0 ∗ pts7 d i f1 ∗ pts10 d i g0 ∗ pts11 d i g1 ∗ pts12 d i w12)
            -∗ wp frame (wpE (defs₀ (F := F)) 𝒱₀ (thr d i) none) Set.univ K Q)
          -∗ wp frame (wpE (defs₀ (F := F)) 𝒱₀ (thr d i) none) Set.univ (stepB i b6 b7 b10 b11 b12 t ht K) Q) := by
  obtain ⟨w12, hw⟩ : ∃ w : S2048.Idx → F .f32, w = (b12.access (rectB t ht)).write (Elt F) f12
    (mulf (loadIdx g0 ![rowT t, colT (pick (F := F) f0 t (chk1 _ ht))] (k0_idx3_inb _ _ (chk2 _ ht _)) : Vec F S16 .f32)
      (loadIdx g1 ![rowT t, colT (pick (F := F) f1 t (chk1 _ ht))] (k0_idx3_inb _ _ (chk2 _ ht _)) : Vec F S16 .f32) : FVec F S16 .f32)
    Finset.univ := ⟨_, rfl⟩
  have e12 : ∀ y : S2048.Idx, (y 0).val < 16 * t + 16 → w12 y = prodAt f0 f1 g0 g1 y := by
    intro y hy
    by_cases hlt : (y 0).val < 16 * t
    · exact (hw ▸ store_out (b := cc0_scratch6) (Val := Elt F) f12 (rectB t ht) _ y (not_mem_group _ _ y hlt) : w12 y = f12 y).trans (h12 y hlt)
    · obtain ⟨x, hx, hv⟩ := mem_group (16 * t) (inbB t ht) y (by omega) (by omega)
      subst hx
      exact (congrFun hw _).trans ((store_in (b := cc0_scratch6) (Val := Elt F) f12 (rectB t ht) _ x).trans
        (prod_step t ht f0 f1 g0 g1 (chk1 _ ht) (chk2 _ ht _) (chk2 _ ht _) _ x hv))
  iintro ⟨H6, H7, H10, H11, H12⟩ Hk
  unfold stepB
  iapply (wp_assume 𝒱₀ (thr d i) none Set.univ (chk1 _ ht))
  iapply (wp_load_whole 𝒱₀ (thr d i) none Set.univ (f := f0)) $$ H6
  iintro H6
  iapply (wp_load_whole 𝒱₀ (thr d i) none Set.univ (f := f1)) $$ H7
  iintro H7
  iapply (wp_assume 𝒱₀ (thr d i) none Set.univ (chk2 _ ht _))
  iapply (wp_load_whole 𝒱₀ (thr d i) none Set.univ (f := g0)) $$ H10
  iintro H10
  iapply (wp_assume 𝒱₀ (thr d i) none Set.univ (chk2 _ ht _))
  iapply (wp_load_whole 𝒱₀ (thr d i) none Set.univ (f := g1)) $$ H11
  iintro H11
  iapply (wp_load_rect 𝒱₀ (thr d i) none Set.univ (m := b12) (r := rectB t ht) (f := f12) (Finset.subset_univ _)) $$ H12
  iintro H12
  iapply (wp_store 𝒱₀ (thr d i) none Set.univ (m := b12) (r := rectB t ht) (f := f12) (Finset.subset_univ _)) $$ H12
  iintro H12
  iapply Hk $$ %w12 %e12
  isplitl [H6]; · iexact H6
  isplitl [H7]; · iexact H7
  isplitl [H10]; · iexact H10
  isplitl [H11]; · iexact H11
  rw [hw]; iexact H12

/-- The second loop: the block's results. -/
theorem wp_loopB (f0 f1 : S512.Idx → BitVec 32) (g0 g1 : S512x16.Idx → F .f32) (n : ℕ) : ∀ (h : n ≤ 128) (f12 : S2048.Idx → F .f32),
    (∀ y : S2048.Idx, (y 0).val < 16 * (128 - n) → f12 y = prodAt f0 f1 g0 g1 y) →
    iprop(pts6 d i f0 ∗ pts7 d i f1 ∗ pts10 d i g0 ∗ pts11 d i g1 ∗ pts12 d i f12)
      ⊢ iprop(((pts6 d i f0 ∗ pts7 d i f1 ∗ pts10 d i g0 ∗ pts11 d i g1 ∗ pts12 d i (prodAt f0 f1 g0 g1))
            -∗ wp frame (wpE (defs₀ (F := F)) 𝒱₀ (thr d i) none) Set.univ K Q)
          -∗ wp frame (wpE (defs₀ (F := F)) 𝒱₀ (thr d i) none) Set.univ (loopB i b6 b7 b10 b11 b12 K n h) Q) := by
  induction n with
  | zero =>
    intro h f12 h12
    have e12 : f12 = prodAt f0 f1 g0 g1 := funext fun y => h12 y (show (y 0).val < 2048 from (y 0).isLt)
    subst e12
    iintro H Hk
    iapply Hk; iexact H
  | succ n ih =>
    intro h f12 h12
    have hn : n ≤ 128 := by omega
    have ht : 127 - n < 128 := by omega
    unfold loopB
    iintro H Hk
    iapply (wp_stepB d i Q (loopB i b6 b7 b10 b11 b12 K n hn) f0 f1 g0 g1 f12 (127 - n) ht (fun y hy => h12 y (by omega))) $$ H
    iintro %w12 %hw H
    iapply (ih hn w12 (fun y hy => hw y (by omega))) $$ H Hk

end

end Cert.Proof.Loops

end
-- ==== Proof.Tile.lean ====
module

public import proofs.«01_k».proof.Proof.Loops

@[expose] public section

noncomputable section

/-! # One vector subcore's task

The fetches of the two index lists, the two loops, the gathers of the table's rows, and the write-out of the block. -/

namespace Cert.Proof.Tile

open Cert.KernelIdeal Cert.KernelIdeal.Gen
open Idealize.ShloMosaic
open Idealize.ShloMosaic.SparseCore (S V)
open Idealize.ShloMosaic.SparseCore.Cfg (HIx Pay ownSems0 ownBufs ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)
open Cert.Proof.Body Cert.Proof.Setup Cert.Proof.Loops

variable {F : FTy → Type}

local notation "𝕄" => MT nD τ sig (HIx 1) (Elt F) ℕ UU ℕ

abbrev mT : Memref sig .scVector .hbm S14604x16 .f32 := Memref.whole main_v4_scv
abbrev mA : Memref sig .scVector .hbm S16384 .i32 := Memref.whole main_v1_scv
abbrev mB : Memref sig .scVector .hbm S16384 .i32 := Memref.whole main_v3_scv
abbrev mO : Memref sig .scVector .hbm S65536 .f32 := Memref.whole main_v5_scv

/-! ## Where a subcore's part lies -/

/-- The number of a subcore: which part of the lists and of the results is its. -/
def wid (i : grid0.Coords) : ℕ := (i 1).val * 2 + (i 0).val
theorem i0_lt (i : grid0.Coords) : (i 0).val < 2 := (i 0).isLt
theorem i1_lt (i : grid0.Coords) : (i 1).val < 16 := (i 1).isLt
theorem wid_lt (i : grid0.Coords) : wid i < 32 := by
  have := i0_lt i; have := i1_lt i; unfold wid; omega

theorem off1_eq (i : grid0.Coords) : k0_off1 i = ![wid i * 512] := by
  have h0 := i0_lt i; have h1 := i1_lt i
  funext a
  match a with
  | 0 =>
    show (((BitVec.ofNat 32 (i 1).val * 2#32) + BitVec.ofNat 32 (i 0).val) * 512#32).toNat = wid i * 512
    rw [BitVec.toNat_mul, BitVec.toNat_add, BitVec.toNat_mul, BitVec.toNat_ofNat, BitVec.toNat_ofNat]
    show (((i 1).val % 2 ^ 32 * 2 % 2 ^ 32 + (i 0).val % 2 ^ 32) % 2 ^ 32 * 512) % 2 ^ 32 = ((i 1).val * 2 + (i 0).val) * 512
    omega
theorem off2_eq (i : grid0.Coords) : k0_off2 i = ![wid i * 2048] := by
  have h0 := i0_lt i; have h1 := i1_lt i
  funext a
  match a with
  | 0 =>
    show (((BitVec.ofNat 32 (i 1).val * 2#32) + BitVec.ofNat 32 (i 0).val) * 2048#32).toNat = wid i * 2048
    rw [BitVec.toNat_mul, BitVec.toNat_add, BitVec.toNat_mul, BitVec.toNat_ofNat, BitVec.toNat_ofNat]
    show (((i 1).val % 2 ^ 32 * 2 % 2 ^ 32 + (i 0).val % 2 ^ 32) % 2 ^ 32 * 2048) % 2 ^ 32 = ((i 1).val * 2 + (i 0).val) * 2048
    omega

abbrev rectL (i : grid0.Coords) : Rect S16384 := Rect.unit (s := S16384) (k0_off1 i) S512.size (k0_off1_inb i)
abbrev rectO (i : grid0.Coords) : Rect S65536 := Rect.unit (s := S65536) (k0_off2 i) S2048.size (k0_off2_inb i)

theorem part_lt (i : grid0.Coords) (y : S512.Idx) : wid i * 512 + (y 0).val < 16384 := by
  have := wid_lt i; have : (y 0).val < 512 := (y 0).isLt; omega
theorem out_lt (i : grid0.Coords) (y : S2048.Idx) : wid i * 2048 + (y 0).val < 65536 := by
  have := wid_lt i; have : (y 0).val < 2048 := (y 0).isLt; omega

/-- A subcore's part of a list. -/
def part (i : grid0.Coords) (x : S16384.Idx → BitVec 32) : S512.Idx → BitVec 32 :=
  fun y => x (ix1 (n := 16384) ⟨wid i * 512 + (y 0).val, part_lt i y⟩)

theorem rectL_emb (i : grid0.Coords) (y : S512.Idx) : (rectL i).emb y = ix1 (n := 16384) ⟨wid i * 512 + (y 0).val, part_lt i y⟩ := by
  refine Rect.emb_eq_of_coords _ _ _ fun a => ?_
  match a with
  | 0 => show wid i * 512 + (y 0).val = k0_off1 i 0 + 1 * (y 0).val; rw [off1_eq]; show _ = wid i * 512 + 1 * (y 0).val; omega
theorem rectO_emb (i : grid0.Coords) (y : S2048.Idx) : (rectO i).emb y = ix1 (n := 65536) ⟨wid i * 2048 + (y 0).val, out_lt i y⟩ := by
  refine Rect.emb_eq_of_coords _ _ _ fun a => ?_
  match a with
  | 0 => show wid i * 2048 + (y 0).val = k0_off2 i 0 + 1 * (y 0).val; rw [off2_eq]; show _ = wid i * 2048 + 1 * (y 0).val; omega

variable [FloatOps F]

section
variable (m : (ℓ : Loc nD τ sig) → Buf (Elt F) ℓ)
variable (d : Dev nD) (i : grid0.Coords) (Q : PUnit.{1} → sProp (MT nD τ sig (HIx 1) (Elt F) ℕ UU ℕ)) (K : TileProg F i)

abbrev ptsA (q : PosShare TreeShare) (f : S16384.Idx → BitVec 32) : sProp 𝕄 := aLoc d ↦{q} (f : Buf (Elt F) (aLoc d))
abbrev ptsB (q : PosShare TreeShare) (f : S16384.Idx → BitVec 32) : sProp 𝕄 := bLoc d ↦{q} (f : Buf (Elt F) (bLoc d))
abbrev ptsT (q : PosShare TreeShare) (f : S14604x16.Idx → F .f32) : sProp 𝕄 := tLoc d ↦{q} (f : Buf (Elt F) (tLoc d))
/-- A subcore's block of the results. -/
abbrev ptsO (f : S65536.Idx → F .f32) : sProp 𝕄 := oLoc d ↦[(rectO i).set]{fullShare} (f : Buf (Elt F) (oLoc d))

abbrev sm (s : DmaSems sig S_) : sProp 𝕄 := semVal ((thr d i, SemLoc.dma s.sem) : GSem nD τ sig) 0

theorem write_all {κ : Kind} {b : Ref sig κ} (f w : b.ty.Contents (Elt F)) : (Memref.whole b).view.write (Elt F) f w Finset.univ = w := by
  exact View.write_whole_univ ..

theorem read_part (x : S16384.Idx → BitVec 32) :
    ((lst i mA).view.read (Elt F) (x : Buf (Elt F) (aLoc d)) : S512.Idx → BitVec 32) = part i x :=
  funext fun y => congrArg x (rectL_emb i y)
theorem read_part' (x : S16384.Idx → BitVec 32) :
    ((lst i mB).view.read (Elt F) (x : Buf (Elt F) (bLoc d)) : S512.Idx → BitVec 32) = part i x :=
  funext fun y => congrArg x (rectL_emb i y)

/-- The fetches of the two lists' parts. -/
theorem wp_head (q : PosShare TreeShare) (xa xb : S16384.Idx → BitVec 32) (f6 f7 : S512.Idx → BitVec 32)
    (O : CellTallies nD τ sig (HIx 1)) (W : Waits sig (HIx 1)) :
    iprop(Transfers.MayWaits (thr d i) (default : HIx 1) O ∗ ptsA d q xa ∗ ptsB d q xb ∗ pts6 d i f6 ∗ pts7 d i f7
        ∗ sm d i cc0_scoped0 ∗ sm d i cc0_scoped1 ∗ owes (thr d i) O W)
      ⊢ iprop(((ptsA d q xa ∗ ptsB d q xb ∗ pts6 d i (part i xa) ∗ pts7 d i (part i xb)
            ∗ sm d i cc0_scoped0 ∗ sm d i cc0_scoped1
            ∗ owes (thr d i) O (insert (SemLoc.dma cc0_scoped1.sem, none) (insert (SemLoc.dma cc0_scoped0.sem, none) W)))
            -∗ wp frame (wpE (defs₀ (F := F)) 𝒱₀ (thr d i) none) Set.univ K Q)
          -∗ wp frame (wpE (defs₀ (F := F)) 𝒱₀ (thr d i) none) Set.univ
            (headP i mA mB b6 (Memref.isWhole_whole _) b7 (Memref.isWhole_whole _) cc0_scoped0 cc0_scoped1 K) Q) := by
  iintro ⟨#Hmw, Ha, Hb, H6, H7, HsA, HsB, HO⟩ Hk
  ihave Ha' := (Entails.of_eq (show (ptsA d q xa : sProp 𝕄) = (mA.view.loc (thr d i) ↦{q} (xa : Buf (Elt F) (aLoc d))) from rfl)) $$ Ha
  ihave Hb' := (Entails.of_eq (show (ptsB d q xb : sProp 𝕄) = (mB.view.loc (thr d i) ↦{q} (xb : Buf (Elt F) (bLoc d))) from rfl)) $$ Hb
  ihave H6' := (Entails.of_eq (show (pts6 d i f6 : sProp 𝕄) = (b6.view.loc (thr d i) ↦{fullShare} (f6 : Buf (Elt F) ((thr d i).loc cc0_scratch0))) from rfl)) $$ H6
  ihave H7' := (Entails.of_eq (show (pts7 d i f7 : sProp 𝕄) = (b7.view.loc (thr d i) ↦{fullShare} (f7 : Buf (Elt F) ((thr d i).loc cc0_scratch1))) from rfl)) $$ H7
  unfold headP
  sl_exec
  have e6 : View.write (Elt F) b6.view f6 (wp_head.sl.dma0 i xa) Finset.univ = part i xa := (write_all (b := cc0_scratch0) _ _).trans (read_part i xa)
  have e7 : View.write (Elt F) b7.view f7 (wp_head.sl.dma0_1 i xb) Finset.univ = part i xb := (write_all (b := cc0_scratch1) _ _).trans (read_part' i xb)
  rw [e6, e7]
  iapply Hk
  isplitl [Ha']; · iexact Ha'
  isplitl [Hb']; · iexact Hb'
  isplitl [H6']; · iexact H6'
  isplitl [H7']; · iexact H7'
  isplitl [HsA]; · iexact HsA
  isplitl [HsB]; · iexact HsB
  iexact HO

/-- The table's rows a list names. -/
def rowsOf (t : S14604x16.Idx → F .f32) (f : S512.Idx → BitVec 32) : S512x16.Idx → F .f32 := fun j =>
  t (ix2 (n0 := 14604) (n1 := 16) ⟨(f (ix1 (n := 512) (j 0))).toNat % 14604, Nat.mod_lt _ (by decide)⟩ (j 1))

theorem payload_eq (t : S14604x16.Idx → F .f32) (f : S512.Idx → BitVec 32) (hf : ∀ y, (f y).toNat < 14604)
    (hn : S512.numel = S512x16.size gathers_S14604x16_S512x16.axis') (hin : ∀ x, (f x).toNat < S14604x16.size gathers_S14604x16_S512x16.axis) :
    SparseCore.gatherPayload (F := F) (e := .f32) gathers_S14604x16_S512x16 t (SparseCore.rows (F := F) (si := S512) f hn hin) = rowsOf t f := by
  funext j
  show t _ = t _
  refine congrArg t (funext fun a => ?_)
  match a with
  | 0 =>
    refine Fin.ext ?_
    show (f (S512.rowMajor.symm (Fin.cast _ (j 0)))).toNat = (f (ix1 (n := 512) (j 0))).toNat % 14604
    rw [Nat.mod_eq_of_lt (hf _)]
    refine congrArg (fun y => (f y).toNat) ?_
    refine (Equiv.symm_apply_eq _).mpr (Fin.ext ?_)
    rw [Shape.rowMajor_val_one]; rfl
  | 1 => rfl

theorem read_tbl (t : S14604x16.Idx → F .f32) :
    ((tbl mT).view.read (Elt F) (t : Buf (Elt F) (tLoc d)) : S14604x16.Idx → F .f32) = t :=
  funext fun y => congrArg t (Rect.emb_eq_of_coords _ _ _ fun a => by
    match a with
    | 0 => show (y 0).val = 0 + 1 * (y 0).val; omega
    | 1 => show (y 1).val = 0 + 1 * (y 1).val; omega)

theorem credit_sum (b : Memref sig .scVector .vmem S512x16 .f32) : ∀ h : S14604x16.Gathers 0 S512x16,
    ∑ j, (b.slice (S512x16.rowRect h.axis' j) (S512x16.stride_rowRect h.axis' j)).view.dmaCredit = b.view.dmaCredit := by
  intro h
  exact SparseCore.sum_rowCredit_eq_dmaCredit b h.axis' fun _ => rfl

/-- The two gathers of rows, in flight together. -/
theorem wp_gathers (q : PosShare TreeShare) (t : S14604x16.Idx → F .f32) (f8 f9 : S512.Idx → BitVec 32) (g0 g1 : S512x16.Idx → F .f32)
    (h8 : ∀ y, (f8 y).toNat < 14604) (h9 : ∀ y, (f9 y).toNat < 14604)
    (O : CellTallies nD τ sig (HIx 1)) (W : Waits sig (HIx 1)) :
    iprop(Transfers.MayWaits (thr d i) (default : HIx 1) O ∗ ptsT d q t ∗ pts8 d i f8 ∗ pts9 d i f9 ∗ pts10 d i g0 ∗ pts11 d i g1
        ∗ sm d i cc0_scratch7 ∗ sm d i cc0_scratch8 ∗ owes (thr d i) O W)
      ⊢ iprop(((ptsT d q t ∗ pts8 d i f8 ∗ pts9 d i f9 ∗ pts10 d i (rowsOf t f8) ∗ pts11 d i (rowsOf t f9)
            ∗ sm d i cc0_scratch7 ∗ sm d i cc0_scratch8
            ∗ owes (thr d i) O (insert (SemLoc.dma cc0_scratch8.sem, none) (insert (SemLoc.dma cc0_scratch7.sem, none) W)))
            -∗ wp frame (wpE (defs₀ (F := F)) 𝒱₀ (thr d i) none) Set.univ K Q)
          -∗ wp frame (wpE (defs₀ (F := F)) 𝒱₀ (thr d i) none) Set.univ
            (gathers i mT b8 b9 b10 (Memref.isWhole_whole _) b11 (Memref.isWhole_whole _) cc0_scratch7 cc0_scratch8 K) Q) := by
  have hs8 : b8.view.set = Finset.univ := View.set_whole _
  have hs9 : b9.view.set = Finset.univ := View.set_whole _
  have hs10 : b10.view.set = Finset.univ := View.set_whole _
  have hs11 : b11.view.set = Finset.univ := View.set_whole _
  have hst : (tbl mT).view.set = Finset.univ := by
    refine Finset.eq_univ_iff_forall.mpr fun y => ?_
    show y ∈ ((View.whole main_v4_scv).slice _).set
    rw [View.set_slice_whole]
    refine Rect.mem_set_unit.mpr fun a => ?_
    match a with
    | 0 => exact ⟨Nat.zero_le _, by show (y 0).val < 0 + 14604; have : (y 0).val < 14604 := (y 0).isLt; omega⟩
    | 1 => exact ⟨Nat.zero_le _, by show (y 1).val < 0 + 16; have : (y 1).val < 16 := (y 1).isLt; omega⟩
  iintro ⟨#Hmw, Ht, H8, H9, H10, H11, HsA, HsB, HO⟩ Hk
  ihave Ht' := (pointsTo_share (PosShare.mem_left_op_right q)).1 $$ Ht
  icases Ht' with ⟨HtA, HtB⟩
  ihave HtA' := (Entails.of_eq (show (ptsT d q.left t : sProp 𝕄) = ((tbl mT).view.loc (thr d i) ↦[(tbl mT).view.set]{q.left} (t : Buf (Elt F) (tLoc d))) by rw [hst])) $$ HtA
  ihave HtB' := (Entails.of_eq (show (ptsT d q.right t : sProp 𝕄) = ((tbl mT).view.loc (thr d i) ↦[(tbl mT).view.set]{q.right} (t : Buf (Elt F) (tLoc d))) by rw [hst])) $$ HtB
  ihave H8' := (Entails.of_eq (show (pts8 d i f8 : sProp 𝕄) = (b8.view.loc (thr d i) ↦[b8.view.set]{fullShare} (f8 : Buf (Elt F) ((thr d i).loc cc0_scratch2))) by rw [hs8])) $$ H8
  ihave H9' := (Entails.of_eq (show (pts9 d i f9 : sProp 𝕄) = (b9.view.loc (thr d i) ↦[b9.view.set]{fullShare} (f9 : Buf (Elt F) ((thr d i).loc cc0_scratch3))) by rw [hs9])) $$ H9
  ihave H10' := (Entails.of_eq (show (pts10 d i g0 : sProp 𝕄) = (b10.view.loc (thr d i) ↦[b10.view.set]{fullShare} (g0 : Buf (Elt F) ((thr d i).loc cc0_scratch4))) by rw [hs10])) $$ H10
  ihave H11' := (Entails.of_eq (show (pts11 d i g1 : sProp 𝕄) = (b11.view.loc (thr d i) ↦[b11.view.set]{fullShare} (g1 : Buf (Elt F) ((thr d i).loc cc0_scratch5))) by rw [hs11])) $$ H11
  unfold gathers
  iapply (SparseCore.wp_indirectGatherLocal countersEmb 𝒱₀ (thr d i) none (hg := gathers_S14604x16_S512x16) (default : HIx 1)
      b10.view.dmaCredit (credit_sum b10 _) (by decide) (show ∀ x, (b8.view.read (Elt F) f8 x).toNat < S14604x16.size gathers_S14604x16_S512x16.axis from h8)) $$ [HtA' H10' H8' HsA]
  · isplitl [HtA']; · iexact HtA'
    isplitl [H10']; · iexact H10'
    isplitl [H8']; · iexact H8'
    iexact HsA
  iintro HflA
  iapply (SparseCore.wp_indirectGatherLocal countersEmb 𝒱₀ (thr d i) none (hg := gathers_S14604x16_S512x16) (default : HIx 1)
      b11.view.dmaCredit (credit_sum b11 _) (by decide) (show ∀ x, (b9.view.read (Elt F) f9 x).toNat < S14604x16.size gathers_S14604x16_S512x16.axis from h9)) $$ [HtB' H11' H9' HsB]
  · isplitl [HtB']; · iexact HtB'
    isplitl [H11']; · iexact H11'
    isplitl [H9']; · iexact H9'
    iexact HsB
  iintro HflB
  iapply (Transfers.wp_waitLocalO countersEmb 𝒱₀ (thr d i) none (default : HIx 1) (rfl : b10.view.dmaCredit = _)) $$ [HflA HO]
  · isplitl [HflA]; · iexact HflA
    isplitl [HO]; · iexact HO
    iapply (Transfers.MayWaits.elim (SemLoc.dma cc0_scratch7.sem)) $$ Hmw
  iintro ⟨⟨H10, HtA, H8⟩, HsA, HO⟩
  iapply (Transfers.wp_waitLocalO countersEmb 𝒱₀ (thr d i) none (default : HIx 1) (rfl : b11.view.dmaCredit = _)) $$ [HflB HO]
  · isplitl [HflB]; · iexact HflB
    isplitl [HO]; · iexact HO
    iapply (Transfers.MayWaits.elim (SemLoc.dma cc0_scratch8.sem)) $$ Hmw
  iintro ⟨⟨H11, HtB, H9⟩, HsB, HO⟩
  have eA : View.write (Elt F) b10.view g0 (SparseCore.gatherPayload gathers_S14604x16_S512x16 (View.read (Elt F) (tbl mT).view t)
      (SparseCore.rows (View.read (Elt F) b8.view f8) rfl h8)) Finset.univ = rowsOf t f8 :=
    (write_all (b := cc0_scratch4) _ _).trans ((congrArg (fun u => SparseCore.gatherPayload gathers_S14604x16_S512x16 u
      (SparseCore.rows (F := F) (si := S512) f8 rfl h8)) (read_tbl t)).trans (payload_eq t f8 h8 rfl h8))
  have eB : View.write (Elt F) b11.view g1 (SparseCore.gatherPayload gathers_S14604x16_S512x16 (View.read (Elt F) (tbl mT).view t)
      (SparseCore.rows (View.read (Elt F) b9.view f9) rfl h9)) Finset.univ = rowsOf t f9 :=
    (write_all (b := cc0_scratch5) _ _).trans ((congrArg (fun u => SparseCore.gatherPayload gathers_S14604x16_S512x16 u
      (SparseCore.rows (F := F) (si := S512) f9 rfl h9)) (read_tbl t)).trans (payload_eq t f9 h9 rfl h9))
  rw [eA, eB, hs8, hs9, hs10, hs11, hst]
  ihave Ht := (pointsTo_share (PosShare.mem_left_op_right q)).2 $$ [HtA HtB]
  · isplitl [HtA]; · iexact HtA
    iexact HtB
  iapply Hk
  isplitl [Ht]; · iexact Ht
  isplitl [H8]; · iexact H8
  isplitl [H9]; · iexact H9
  isplitl [H10]; · iexact H10
  isplitl [H11]; · iexact H11
  isplitl [HsA]; · iexact HsA
  isplitl [HsB]; · iexact HsB
  iexact HO

omit [FloatOps F] in
theorem read_of_eq {κ : Kind} {sp : Space} {s : Shape} {e : EltTy} (v : View sig κ sp s e) (f u : v.ty.Contents (Elt F)) (p : s.Idx → Elt F e)
    (hu : u = v.writes (Elt F) f [⟨Rect.whole s, p⟩]) : v.read (Elt F) u = p := by
  subst hu; exact View.read_writes_whole v f p

theorem block_eq (u w : S65536.Idx → F .f32) (p : S2048.Idx → F .f32) (h1 : (outp i mO).view.read (Elt F) u = p)
    (hw : ∀ y : S2048.Idx, w (ix1 (n := 65536) ⟨wid i * 2048 + (y 0).val, out_lt i y⟩) = p y) : ∀ j ∈ (rectO i).set, u j = w j := by
  intro j hj
  rw [← Rect.map_emb_univ] at hj
  obtain ⟨y, -, rfl⟩ := Finset.mem_map.mp hj
  have h2 : u ((rectO i).emb y) = p y := congrFun h1 y
  refine h2.trans ((hw y).symm.trans (congrArg w (rectO_emb i y).symm))

/-- The write-out of the block. -/
theorem wp_tail (f w : S65536.Idx → F .f32) (p : S2048.Idx → F .f32)
    (hw : ∀ y : S2048.Idx, w (ix1 (n := 65536) ⟨wid i * 2048 + (y 0).val, out_lt i y⟩) = p y)
    (O : CellTallies nD τ sig (HIx 1)) (W : Waits sig (HIx 1)) :
    iprop(Transfers.MayWaits (thr d i) (default : HIx 1) O ∗ ptsO d i f ∗ pts12 d i p ∗ sm d i cc0_scoped2 ∗ owes (thr d i) O W)
      ⊢ iprop(((ptsO d i w ∗ pts12 d i p ∗ sm d i cc0_scoped2 ∗ owes (thr d i) O (insert (SemLoc.dma cc0_scoped2.sem, none) W)) -∗ Q ⟨⟩)
          -∗ wp frame (wpE (defs₀ (F := F)) 𝒱₀ (thr d i) none) Set.univ
            (tailP i mO b12 (Memref.isWhole_whole _) cc0_scoped2) Q) := by
  have hso : (outp i mO).view.set = (rectO i).set := View.set_slice_whole _ _
  iintro ⟨#Hmw, Ho, H12, Hs, HO⟩ Hk
  ihave Ho' := (Entails.of_eq (show (ptsO d i f : sProp 𝕄) = ((outp i mO).view.loc (thr d i) ↦[(outp i mO).view.set]{fullShare} (f : Buf (Elt F) (oLoc d))) by rw [hso])) $$ Ho
  ihave H12' := (Entails.of_eq (show (pts12 d i p : sProp 𝕄) = (b12.view.loc (thr d i) ↦{fullShare} (p : Buf (Elt F) ((thr d i).loc cc0_scratch6))) from rfl)) $$ H12
  unfold tailP
  sl_exec
  sl_step
  iapply Hk
  isplitl [Ho']
  · have h0 : wp_tail.sl.dma0 p = p := rfl
    rw [h0]
    obtain ⟨u, hu⟩ : ∃ u : S65536.Idx → F .f32, u = (outp i mO).view.writes (Elt F) f [⟨Rect.whole S2048, p⟩] := ⟨_, rfl⟩
    have h1 : (outp i mO).view.read (Elt F) u = p := read_of_eq (outp i mO).view f u p hu
    have e : ∀ j ∈ (rectO i).set, u j = w j := block_eq i u w p h1 hw
    rw [← hu, hso]
    iapply (Entails.of_eq (show (oLoc d ↦[(rectO i).set]{fullShare} (u : Buf (Elt F) (oLoc d)) : sProp 𝕄) = ptsO d i w from pointsTo_congr e)) $$ Ho'
  isplitl [H12']; · iexact H12'
  isplitl [Hs]; · iexact Hs
  iexact HO

/-! ## A subcore's own cells and buffers -/

theorem take_list {I : Type} [DecidableEq I] (l : List I) : ∀ (s : Finset I) (Φ : I → sProp 𝕄), (∀ x ∈ l, x ∈ s) → l.Nodup →
    bigSep s Φ = l.foldr (fun x R => iprop(Φ x ∗ R)) (bigSep (s \ l.toFinset) Φ) := by
  induction l with
  | nil => intro s Φ _ _; rw [List.toFinset_nil, Finset.sdiff_empty]; rfl
  | cons x l ih =>
    intro s Φ hs hl
    have hx := (List.nodup_cons.mp hl).1
    rw [SparseCore.bigSep_erase' (hs x (List.mem_cons_self ..)),
      ih (s.erase x) Φ (fun y hy => Finset.mem_erase.mpr ⟨fun e => hx (e ▸ hy), hs y (List.mem_cons_of_mem _ hy)⟩) (List.nodup_cons.mp hl).2]
    have e : s.erase x \ l.toFinset = s \ (x :: l).toFinset := by
      ext y; simp only [Finset.mem_sdiff, Finset.mem_erase, List.mem_toFinset, List.mem_cons]; tauto
    rw [e]; rfl

abbrev semList : List (DmaSem sig) := [cc0_scratch7.sem, cc0_scratch8.sem, cc0_scoped0.sem, cc0_scoped1.sem, cc0_scoped2.sem]
abbrev gsemList : List (GSem nD τ sig) := semList.map fun s => (thr d i, SemLoc.dma s)
abbrev refList : List (Ref sig .scVector) :=
  [cc0_scratch0, cc0_scratch1, cc0_scratch2, cc0_scratch3, cc0_scratch4, cc0_scratch5, cc0_scratch6]
abbrev drefList : List (DevRef τ sig) := refList.map fun b => (Proc.scVector (cV i) (jV i)).devRef b

theorem semList_scoped : ∀ s ∈ semList, (SemLoc.dma s : SemLoc sig).isScoped .scVector = true := by decide
theorem semList_nodup : semList.Nodup := by decide
theorem refList_nodup : refList.Nodup := by decide

theorem ownSems0_V :
    (ownSems0 (thr d i) : sProp 𝕄)
      = iprop(sm d i cc0_scratch7 ∗ sm d i cc0_scratch8 ∗ sm d i cc0_scoped0 ∗ sm d i cc0_scoped1 ∗ sm d i cc0_scoped2
          ∗ bigSep (ownCells (thr d i) \ (gsemList d i).toFinset) fun g => semVal g 0) := by
  unfold SparseCore.Cfg.ownSems0
  refine (take_list (gsemList d i) _ _ (fun g hg => ?_) ?_).trans rfl
  · obtain ⟨s, hs, rfl⟩ := List.mem_map.mp hg
    refine mem_ownCells.mpr ⟨rfl, ?_⟩
    exact semList_scoped s hs
  · refine List.Nodup.map (fun s s' e => ?_) semList_nodup
    exact SemLoc.dma.inj (congrArg Prod.snd e)

theorem ownBufs_V :
    (ownBufs (thr d i) : sProp 𝕄)
      = iprop((∃ f, pts6 d i f) ∗ (∃ f, pts7 d i f) ∗ (∃ f, pts8 d i f) ∗ (∃ f, pts9 d i f) ∗ (∃ f, pts10 d i f) ∗ (∃ f, pts11 d i f) ∗ (∃ f, pts12 d i f)
          ∗ bigSep (ownRefs (τ := τ) (.scVector (cV i) (jV i)) \ (drefList i).toFinset) fun b => iprop(∃ f, ((d, b) : Loc nD τ sig) ↦{fullShare} f)) := by
  unfold SparseCore.Cfg.ownBufs
  refine (take_list (drefList i) _ _ (fun b hb => ?_) ?_).trans rfl
  · obtain ⟨r, hr, rfl⟩ := List.mem_map.mp hb
    refine SparseCore.Cfg.mem_ownRefs_of_owner (p := Proc.scVector (cV i) (jV i)) ?_
    fin_cases hr <;> rfl
  · exact List.Nodup.map (Proc.devRef_injective _) refList_nodup

/-! ## The task -/

variable {m} in
theorem vO_part (y : S2048.Idx) :
    vO m d (ix1 (n := 65536) ⟨wid i * 2048 + (y 0).val, out_lt i y⟩)
      = prodAt (part i (vA m d)) (part i (vB m d)) (rowsOf (vT m d) fun z => shw (part i (vA m d) z)) (rowsOf (vT m d) fun z => shw (part i (vB m d) z)) y := by
  have key : ∀ x : S16384.Idx → BitVec 32, factor x (vT m d) (ix1 (n := 65536) ⟨wid i * 2048 + (y 0).val, out_lt i y⟩)
      = rowsOf (vT m d) (fun z => shw (part i x z)) (cell (part i x) y) := by
    intro x
    have hp : fpos (ix1 (n := 65536) ⟨wid i * 2048 + (y 0).val, out_lt i y⟩) = ix1 (n := 16384) ⟨wid i * 512 + (pos y 0).val, part_lt i (pos y)⟩ := by
      refine congrArg (ix1 (n := 16384)) (Fin.ext ?_)
      show (wid i * 2048 + (y 0).val) / 4 = wid i * 512 + (y 0).val / 4
      omega
    show vT m d _ = vT m d _
    refine congrArg (vT m d) (funext fun a => ?_)
    match a with
    | 0 => exact Fin.ext (congrArg (fun p => (shw (x p)).toNat % 14604) hp)
    | 1 =>
      refine Fin.ext ?_
      show colN (x (fpos _)) (wid i * 2048 + (y 0).val) = colN (part i x (pos y)) (y 0).val
      rw [hp]
      show colN (x _) _ = colN (x _) _
      unfold colN
      omega
  show FloatOps.mulf _ _ = FloatOps.mulf _ _
  rw [key, key]

/-- The share of the table and of the lists a subcore reads. -/
abbrev qOf : PosShare TreeShare := ShareLeaves.leaf 5 fullShare ⟨wid i, wid_lt i⟩

/-- What a subcore is handed: its shares of the table and of the lists, and its block at `f`. -/
abbrev handed (f : S65536.Idx → F .f32) : sProp 𝕄 :=
  iprop(ptsT d (qOf i) (vT m d) ∗ ptsA d (qOf i) (vA m d) ∗ ptsB d (qOf i) (vB m d) ∗ ptsO d i f)

theorem tile_body (hF : (Setup.K (F := F)).Facts) (hpre : PreOK m) (O : CellTallies nD τ sig (HIx 1)) (W : Waits sig (HIx 1)) (hO : ∀ g, O g none = 0) :
    iprop(levAts (Setup.K (F := F)).L (Setup.K (F := F)).lev ∗ emp ∗ handed m d i (m (oLoc d))
        ∗ scopedBufs (thr d i) ∗ scopedSems0 (thr d i) ∗ owes (thr d i) O W)
      ⊢ wp frame (wpE (defs₀ (F := F)) 𝒱₀ (thr d i) none) Set.univ
          (cc0__sc_gather_body i mT (Memref.isWhole_whole _) mA (Memref.isWhole_whole _) mB (Memref.isWhole_whole _) mO (Memref.isWhole_whole _)
            b6 (Memref.isWhole_whole _) b7 (Memref.isWhole_whole _) b8 (Memref.isWhole_whole _) b9 (Memref.isWhole_whole _)
            b10 (Memref.isWhole_whole _) b11 (Memref.isWhole_whole _) b12 (Memref.isWhole_whole _)
            cc0_scratch7 cc0_scratch8 cc0_scoped0 cc0_scoped1 cc0_scoped2)
          fun _ => iprop(handed m d i (vO m d) ∗ scopedBufs (thr d i) ∗ scopedSems0 (thr d i)
            ∗ ∃ W', ⌜∀ p ∈ W', p ∈ W ∨ p.2 = none⌝ ∗ owes (thr d i) O W') := by
  rw [body_eq]
  rw [(Setup.K (F := F)).scopedBufs_V hF d (cV i) (jV i), SparseCore.Cfg.scopedSems0_V (Val := Elt F) d (cV i) (jV i), ownSems0_V, ownBufs_V]
  iintro ⟨#Hlv, -, ⟨Ht, Ha, Hb, Ho⟩, ⟨⟨%f6, H6⟩, ⟨%f7, H7⟩, ⟨%f8, H8⟩, ⟨%f9, H9⟩, ⟨%f10, H10⟩, ⟨%f11, H11⟩, ⟨%f12, H12⟩, Hbufs⟩,
    ⟨Hs7, Hs8, Hr0, Hr1, Hr2, Hsems⟩, HO⟩
  ihave #Hmw := (show levAts (Setup.K (F := F)).L (Setup.K (F := F)).lev ⊢ Transfers.MayWaits (thr d i) (default : HIx 1) O from
    (Setup.K (F := F)).mayWaits_none (thr := thr d i) hO) $$ Hlv
  have hA : ∀ z, (shw (part i (vA m d) z)).toNat < 14604 := fun z => by
    have h := vA_lt hpre d (ix1 (n := 16384) ⟨wid i * 512 + (z 0).val, part_lt i z⟩)
    show (shw (vA m d _)).toNat < _
    rw [shw_toNat h]; omega
  have hB : ∀ z, (shw (part i (vB m d) z)).toNat < 14604 := fun z => by
    have h := vB_lt hpre d (ix1 (n := 16384) ⟨wid i * 512 + (z 0).val, part_lt i z⟩)
    show (shw (vB m d _)).toNat < _
    rw [shw_toNat h]; omega
  unfold bodyP
  iapply (wp_head d i _ _ (qOf i) (vA m d) (vB m d) f6 f7 O W) $$ [Ha Hb H6 H7 Hr0 Hr1 HO]
  · isplitr; · iexact Hmw
    isplitl [Ha]; · iexact Ha
    isplitl [Hb]; · iexact Hb
    isplitl [H6]; · iexact H6
    isplitl [H7]; · iexact H7
    isplitl [Hr0]; · iexact Hr0
    isplitl [Hr1]; · iexact Hr1
    iexact HO
  iintro ⟨Ha, Hb, H6, H7, Hr0, Hr1, HO⟩
  iapply (wp_loopA d i _ _ (part i (vA m d)) (part i (vB m d)) 32 le_rfl f8 f9 (fun y hy => absurd hy (by omega)) (fun y hy => absurd hy (by omega))) $$ [H6 H7 H8 H9]
  · isplitl [H6]; · iexact H6
    isplitl [H7]; · iexact H7
    isplitl [H8]; · iexact H8
    iexact H9
  iintro ⟨H6, H7, H8, H9⟩
  iapply (wp_gathers d i _ _ (qOf i) (vT m d) (fun z => shw (part i (vA m d) z)) (fun z => shw (part i (vB m d) z)) f10 f11 hA hB O _) $$ [Ht H8 H9 H10 H11 Hs7 Hs8 HO]
  · isplitr; · iexact Hmw
    isplitl [Ht]; · iexact Ht
    isplitl [H8]; · iexact H8
    isplitl [H9]; · iexact H9
    isplitl [H10]; · iexact H10
    isplitl [H11]; · iexact H11
    isplitl [Hs7]; · iexact Hs7
    isplitl [Hs8]; · iexact Hs8
    iexact HO
  iintro ⟨Ht, H8, H9, H10, H11, Hs7, Hs8, HO⟩
  iapply (wp_loopB d i _ _ (part i (vA m d)) (part i (vB m d)) (rowsOf (vT m d) fun z => shw (part i (vA m d) z))
    (rowsOf (vT m d) fun z => shw (part i (vB m d) z)) 128 le_rfl f12 (fun y hy => absurd hy (by omega))) $$ [H6 H7 H10 H11 H12]
  · isplitl [H6]; · iexact H6
    isplitl [H7]; · iexact H7
    isplitl [H10]; · iexact H10
    isplitl [H11]; · iexact H11
    iexact H12
  iintro ⟨H6, H7, H10, H11, H12⟩
  iapply (wp_tail d i _ (m (oLoc d)) (vO m d) _ (fun y => vO_part d i y) O _) $$ [Ho H12 Hr2 HO]
  · isplitr; · iexact Hmw
    isplitl [Ho]; · iexact Ho
    isplitl [H12]; · iexact H12
    isplitl [Hr2]; · iexact Hr2
    iexact HO
  iintro ⟨Ho, H12, Hr2, HO⟩
  isplitl [Ht Ha Hb Ho]
  · isplitl [Ht]; · iexact Ht
    isplitl [Ha]; · iexact Ha
    isplitl [Hb]; · iexact Hb
    iexact Ho
  isplitl [H6 H7 H8 H9 H10 H11 H12 Hbufs]
  · isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iexact Hbufs
  isplitl [Hs7 Hs8 Hr0 Hr1 Hr2 Hsems]
  · isplitl [Hs7]; · iexact Hs7
    isplitl [Hs8]; · iexact Hs8
    isplitl [Hr0]; · iexact Hr0
    isplitl [Hr1]; · iexact Hr1
    isplitl [Hr2]; · iexact Hr2
    iexact Hsems
  iexists _; isplitr
  swap; · iexact HO
  ipureintro; intro p hp
  simp only [Finset.mem_insert] at hp
  rcases hp with rfl | rfl | rfl | rfl | rfl | hp
  all_goals first | exact .inr rfl | exact .inl hp

end

end Cert.Proof.Tile

end
-- ==== Proof.Launch.lean ====
module

public import proofs.«01_k».proof.Proof.Tile
public import proofs.«01_k».proof.Proof.Gen.KernelIdeal.Launch

@[expose] public section

noncomputable section

/-! # What the launch hands the vector subcores

Each subcore is handed a share of the table and of the two lists and its own block of the results; a core is handed what
its subcores are. All of it together is the four arrays whole, before and after. -/

namespace Cert.Proof.Launch

open Cert.KernelIdeal Cert.KernelIdeal.Gen
open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)
open Cert.Proof.Body Cert.Proof.Setup Cert.Proof.Tile

variable {F : FTy → Type}

local notation "𝕄" => MT nD τ sig (HIx 1) (Elt F) ℕ UU ℕ

/-! ## The subcores by number -/

/-- The grid point of a core and a subcore. -/
def at2 (c : Fin 2) (s : Fin 16) : grid0.Coords :=
  fun | 0 => c | 1 => s | ⟨_ + 2, h⟩ => absurd h (Nat.not_lt.2 (Nat.le_add_left _ _))

theorem wid_at2 (c : Fin 2) (s : Fin 16) : wid (at2 c s) = s.val * 2 + c.val := rfl

/-- A core and a subcore against the number of the part that is theirs. -/
def parts : Fin 2 × Fin 16 ≃ Fin (2 ^ 5) where
  toFun p := ⟨p.2.val * 2 + p.1.val, by have := p.1.isLt; have := p.2.isLt; norm_num; omega⟩
  invFun w := (⟨w.val % 2, Nat.mod_lt _ (by decide)⟩, ⟨w.val / 2, by have := w.isLt; norm_num at this; omega⟩)
  left_inv p := by
    have := p.1.isLt; have := p.2.isLt
    refine Prod.ext (Fin.ext ?_) (Fin.ext ?_)
    · show (p.2.val * 2 + p.1.val) % 2 = p.1.val; omega
    · show (p.2.val * 2 + p.1.val) / 2 = p.2.val; omega
  right_inv w := Fin.ext (by show w.val / 2 * 2 + w.val % 2 = w.val; omega)

/-- Pieces kept for all numbers are pieces kept for all cores' subcores. -/
theorem pieces (Φ : Fin (2 ^ 5) → sProp 𝕄) :
    bigSep Finset.univ Φ = bigSep Finset.univ fun c : Fin 2 => bigSep Finset.univ fun s : Fin 16 => Φ (parts (c, s)) := by
  rw [bigSep_univ_equiv parts Φ, bigSep_univ_prod]

/-- An array held whole is a share of it for every subcore. -/
theorem shares (ℓ : Loc nD τ sig) (f : Buf (Elt F) ℓ) :
    (ℓ ↦{fullShare} f : sProp 𝕄)
      = bigSep Finset.univ fun c : Fin 2 => bigSep Finset.univ fun s : Fin 16 => ℓ ↦{qOf (at2 c s)} f := by
  exact (ShareLeaves.pointsTo_leaves Finset.univ f 5 fullShare).trans (pieces fun w => (ℓ ↦{ShareLeaves.leaf 5 fullShare w} f : sProp 𝕄))

/-- The block of the results that is the part numbered `w`. -/
def blk (w : Fin (2 ^ 5)) : Finset (S65536.Idx) := Finset.univ.filter fun k => (k 0).val / 2048 = w.val

theorem blk_eq (c : Fin 2) (s : Fin 16) : (rectO (at2 c s)).set = blk (parts (c, s)) := by
  refine Finset.ext fun k => ?_
  have hk : (k 0).val < 65536 := (k 0).isLt
  rw [show (k ∈ (rectO (at2 c s)).set) = _ from propext Rect.mem_set_unit, blk, Finset.mem_filter, off2_eq]
  constructor
  · intro h
    have h0 := h 0
    refine ⟨Finset.mem_univ _, ?_⟩
    have h1 : (s.val * 2 + c.val) * 2048 ≤ (k 0).val ∧ (k 0).val < (s.val * 2 + c.val) * 2048 + 2048 := h0
    show (k 0).val / 2048 = s.val * 2 + c.val
    omega
  · rintro ⟨-, h⟩ a
    have h' : (k 0).val / 2048 = s.val * 2 + c.val := h
    match a with
    | 0 =>
      show (s.val * 2 + c.val) * 2048 ≤ (k 0).val ∧ (k 0).val < (s.val * 2 + c.val) * 2048 + 2048
      omega

theorem blk_disjoint : ∀ w ∈ (Finset.univ : Finset (Fin (2 ^ 5))), ∀ w' ∈ (Finset.univ : Finset (Fin (2 ^ 5))), w ≠ w' → Disjoint (blk w) (blk w') := by
  intro w _ w' _ hne
  rw [Finset.disjoint_left]
  intro k h h'
  exact hne (Fin.ext ((Finset.mem_filter.1 h).2.symm.trans (Finset.mem_filter.1 h').2))

theorem blk_cover : (Finset.univ : Finset (Fin (2 ^ 5))).biUnion blk = Finset.univ := by
  ext k
  have hk : (k 0).val < 65536 := (k 0).isLt
  simp only [Finset.mem_biUnion, Finset.mem_univ, true_and, iff_true]
  exact ⟨⟨(k 0).val / 2048, by norm_num; omega⟩, Finset.mem_filter.2 ⟨Finset.mem_univ _, rfl⟩⟩

/-- The results held whole are a block for every subcore. -/
theorem blocks (d : Dev nD) (f : S65536.Idx → F .f32) :
    (oLoc d ↦{fullShare} (f : Buf (Elt F) (oLoc d)) : sProp 𝕄)
      = bigSep Finset.univ fun c : Fin 2 => bigSep Finset.univ fun s : Fin 16 => ptsO d (at2 c s) f := by
  have h1 : (oLoc d ↦{fullShare} (f : Buf (Elt F) (oLoc d)) : sProp 𝕄)
      = bigSep Finset.univ fun w : Fin (2 ^ 5) => oLoc d ↦[blk w]{fullShare} (f : Buf (Elt F) (oLoc d)) := by
    rw [← pointsTo_biUnion Finset.univ (ℓ := oLoc d) blk blk_disjoint, blk_cover]; try rfl
  rw [h1, pieces]
  refine bigSep_congr fun c _ => bigSep_congr fun s _ => ?_
  rw [← blk_eq]

variable [FloatOps F] (m : (ℓ : Loc nD τ sig) → Buf (Elt F) ℓ) (d : Dev nD)

/-- The four arrays whole: the table, the two lists, and the results at `f`. -/
abbrev whole4 (f : S65536.Idx → F .f32) : sProp 𝕄 :=
  iprop((tLoc d ↦{fullShare} (vT m d : Buf (Elt F) (tLoc d))) ∗ (aLoc d ↦{fullShare} (vA m d : Buf (Elt F) (aLoc d)))
    ∗ (bLoc d ↦{fullShare} (vB m d : Buf (Elt F) (bLoc d))) ∗ oLoc d ↦{fullShare} (f : Buf (Elt F) (oLoc d)))

/-- What a core's subcores are handed. -/
def dealt (f : S65536.Idx → F .f32) (c : Fin 2) : sProp 𝕄 := bigSep Finset.univ fun s : Fin 16 => handed m d (at2 c s) f

theorem whole4_eq (f : S65536.Idx → F .f32) : whole4 m d f = bigSep Finset.univ fun c : Fin 2 => dealt m d f c := by
  unfold dealt whole4 handed
  rw [shares (tLoc d), shares (aLoc d), shares (bLoc d), blocks]
  simp only [bigSep_sep']

instance dealt_storable (f : S65536.Idx → F .f32) (c : Fin 2) : BI.Storable (upEmb : UEmb _ 𝕄) (dealt m d f c) := by
  unfold dealt; infer_instance

/-- The one call's payloads. -/
def P : Pay (nD := nD) (Val := Elt F) (Name := ℕ) (U := UU) (Setup.K (F := F)) where
  st := fun q d c => match q with | 0 => dealt m d (m (oLoc d)) c
  dn := fun q d c => match q with | 0 => dealt m d (vO m d) c
  go := fun q d c i => match q with | 0 => handed m d (at2 c i) (m (oLoc d))
  td := fun q d c i => match q with | 0 => handed m d (at2 c i) (vO m d)
  x _ _ := iprop(emp)

instance P_storable : (P m).IsStorable where
  st q d c := match q with | 0 => dealt_storable m d (m (oLoc d)) c
  dn q d c := match q with | 0 => dealt_storable m d (vO m d) c
  go q d c i := match q with | 0 => (inferInstance : BI.Storable (upEmb : UEmb _ 𝕄) (handed m d (at2 c i) (m (oLoc d))))
  td q d c i := match q with | 0 => (inferInstance : BI.Storable (upEmb : UEmb _ 𝕄) (handed m d (at2 c i) (vO m d)))

theorem st_eq : (bigSep Finset.univ fun c : Fin ((Setup.K (F := F)).nCore 0) => (P m).st 0 d c) = whole4 m d (m (oLoc d)) :=
  (whole4_eq m d _).symm
theorem dn_eq : (bigSep Finset.univ fun c : Fin ((Setup.K (F := F)).nCore 0) => (P m).dn 0 d c) = whole4 m d (vO m d) :=
  (whole4_eq m d _).symm

theorem vecSplit : (Setup.K (F := F)).VecSplit' (P m) 0 := by
  intro d c
  show dealt m d (m (oLoc d)) c ⊢ |={Set.univ}=> iprop(dealt m d (m (oLoc d)) c ∗ (dealt m d (vO m d) c -∗ dealt m d (vO m d) c))
  iintro H; imodintro
  isplitl [H]; · iexact H
  iintro H; iexact H

/-! ## The subcores' obligation -/

theorem defs₀_vector (c : Fin τ.nSC) (s : Fin τ.nSub) :
    defs₀ (F := F) (.scVector c s) 0 ()
      = SparseCore.onTile hcore0 hsub0 (fun c s => cc0__sc_gather_body (at2 c s)
          mT (Memref.isWhole_whole _) mA (Memref.isWhole_whole _) mB (Memref.isWhole_whole _) mO (Memref.isWhole_whole _)
          Loops.b6 (Memref.isWhole_whole _) Loops.b7 (Memref.isWhole_whole _) Loops.b8 (Memref.isWhole_whole _) Loops.b9 (Memref.isWhole_whole _)
          Loops.b10 (Memref.isWhole_whole _) Loops.b11 (Memref.isWhole_whole _) Loops.b12 (Memref.isWhole_whole _)
          cc0_scratch7 cc0_scratch8 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

attribute [local irreducible] cc0__sc_gather_body vO vT vA vB wp scopedBufs scopedSems0 owes in
set_option maxRecDepth 16384 in
/-- A subcore's task, of the subcore named by its core and number. -/
theorem tile_at (hF : (Setup.K (F := F)).Facts) (hpre : PreOK m) (c : Fin τ.nSC) (s : Fin τ.nSub)
    (hc : c.val < grid0.bound 0) (hs : s.val < grid0.bound 1) (O : CellTallies nD τ sig (HIx 1)) (W : Waits sig (HIx 1))
    (hO : ∀ g, O g none = 0) :
    iprop(levAts (Setup.K (F := F)).L (Setup.K (F := F)).lev ∗ emp ∗ handed m d (at2 ⟨c.val, hc⟩ ⟨s.val, hs⟩) (m (oLoc d))
        ∗ scopedBufs (V d c s) ∗ scopedSems0 (V d c s) ∗ owes (V d c s) O W)
      ⊢ wp frame (wpE (defs₀ (F := F)) 𝒱₀ (V d c s) none) Set.univ
          (cc0__sc_gather_body (at2 ⟨c.val, hc⟩ ⟨s.val, hs⟩) mT (Memref.isWhole_whole _) mA (Memref.isWhole_whole _) mB (Memref.isWhole_whole _) mO (Memref.isWhole_whole _)
            Loops.b6 (Memref.isWhole_whole _) Loops.b7 (Memref.isWhole_whole _) Loops.b8 (Memref.isWhole_whole _) Loops.b9 (Memref.isWhole_whole _)
            Loops.b10 (Memref.isWhole_whole _) Loops.b11 (Memref.isWhole_whole _) Loops.b12 (Memref.isWhole_whole _)
            cc0_scratch7 cc0_scratch8 cc0_scoped0 cc0_scoped1 cc0_scoped2)
          fun _ => iprop(handed m d (at2 ⟨c.val, hc⟩ ⟨s.val, hs⟩) (vO m d) ∗ scopedBufs (V d c s) ∗ scopedSems0 (V d c s)
            ∗ ∃ W', ⌜∀ p ∈ W', p ∈ W ∨ p.2 = none ∨ p.2 = some (0 : Fin 1)⌝ ∗ owes (V d c s) O W') := by
  have h := tile_body m d (at2 ⟨c.val, hc⟩ ⟨s.val, hs⟩) hF hpre O W hO
  have ht : Loops.thr d (at2 ⟨c.val, hc⟩ ⟨s.val, hs⟩) = V d c s := rfl
  exact BI.Entails.trans h (wp_mono frame _ _ fun _ => obl_post)

attribute [local irreducible] cc0__sc_gather_body vO vT vA vB wp scopedBufs scopedSems0 owes in
set_option maxRecDepth 16384 in
theorem tileObl (hF : (Setup.K (F := F)).Facts) (hpre : PreOK m) : (Setup.K (F := F)).TileObl (D (F := F)) 𝒱 (P m) v₀ 0 := by
  intro d c i O W hO _ _
  simp only [show (P m).ox = fun _ _ => 0 from rfl, add_zero]
  have hci : ((Setup.K (F := F)).core 0 c).val < grid0.bound 0 ∧ ((Setup.K (F := F)).sub 0 i).val < grid0.bound 1 := ⟨c.isLt, i.isLt⟩
  change _ ⊢ wp _ _ _ (Pipeline.liftProg (defs₀ (F := F) (.scVector ((Setup.K (F := F)).core 0 c) ((Setup.K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_at m d hF hpre _ _ hci.1 hci.2 O W hO

/-! ## The ghost state at the launch -/

def u₀ : UU := (initOf (Setup.K (F := F)).hsCells (Setup.K (F := F)).hsToks,
  (initOf (Pipeline.cells (nD := nD) (τ := τ) cfgs cellOf_inj) (Pipeline.launchToks cfgs cellOf_inj), 1))

/-- What the launch keeps for a device's dense pipeline: its cells' rounds and its transfers' tokens. -/
abbrev pipeGhost (d : Dev nD) : sProp 𝕄 :=
  iprop(Pipeline.cellsGhost (nD := nD) (τ := τ) cfgs EP 0 d ∗ Pipeline.toksInit (nD := nD) (τ := τ) cfgs EP 0 d)

theorem pipeGhosts : BI.own (((Emb.inl : Emb UP (UP × Counters)).trans (embR (A := UH) (B := UP × Counters)) : Emb UP 𝕄) (initOf (Pipeline.cells (nD := nD) (τ := τ) cfgs cellOf_inj) (Pipeline.launchToks cfgs cellOf_inj)))
    ⊢ iprop(|==> bigSep Finset.univ fun d : Dev nD => (pipeGhost d : sProp 𝕄)) := by
  refine (Pipeline.fund_ghost cfgs EP cellOf_inj).trans (BI.bupd_mono ?_)
  rw [bigSep_sep']
  refine Entails.of_eq (congrArg₂ (fun a b : sProp 𝕄 => iprop(a ∗ b)) ?_ ?_) <;>
    exact bigSep_congr fun _ _ => bigSep_univ_of_subsingleton (0 : Fin 1)

theorem hu₀ : (ownU (u₀ (F := F)) : sProp 𝕄)
    ⊢ |={Set.univ}=> iprop(BI.own (EH (initOf (Setup.K (F := F)).hsCells (Setup.K (F := F)).hsToks)) ∗ (bigSep Finset.univ fun d : Dev nD => pipeGhost d)
        ∗ bigSep Finset.univ fun thr : Thread nD τ => bigSep Finset.univ fun q : Fin 1 => (P m).x q thr) := by
  unfold u₀
  iintro Hu
  ihave H := (ownU_pair (initOf (Setup.K (F := F)).hsCells (Setup.K (F := F)).hsToks) _) $$ Hu
  icases H with ⟨HH, HR⟩
  ihave HR2 := (own_pair_emb (embR (A := UH) (B := UP × Counters)) _ _) $$ HR
  icases HR2 with ⟨HP, -⟩
  ihave HP2 := (show _ ⊢ _ from pipeGhosts (F := F)) $$ HP
  imod HP2
  imodintro
  isplitl [HH]; · iexact HH
  isplitl [HP2]; · iexact HP2
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), show (bigSep Finset.univ fun _ : Thread nD τ => iprop(emp)) = (iprop(emp) : sProp 𝕄) from bigSep_emp_const _]
  iempintro

end Cert.Proof.Launch

end
-- ==== Proof.Region.lean ====
module

public import proofs.«01_k».proof.Proof.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.Value
public import Idealize.ShloMosaic.Lib.Pipeline.RegionsLoop
public import Idealize.ShloMosaic.Lib.Tactic

@[expose] public section

noncomputable section

/-! # The dense layers' launch

The TensorCore's grid of eight blocks: what its body leaves in the block of results, the data of the pipeline from any
contents of the arrays, and the launch as one step between two states of the arrays. -/

namespace Cert.Proof.Region

open Cert.KernelIdeal Cert.KernelIdeal.Gen
open Idealize.ShloMosaic
open Idealize.ShloMosaic.SparseCore.Cfg (HIx Pay)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2)
open Cert.Proof.Setup

variable {F : FTy → Type} [FloatOps F]

local notation "𝕄" => MT nD τ sig (HIx 1) (Elt F) ℕ UU ℕ

/-! ## The body -/

theorem zero2 : (![0, 0] : Fin 2 → Nat) = fun _ => 0 := funext fun a => by fin_cases a <;> rfl

/-- One staging buffer of core `c`, held whole. -/
abbrev full (c : Dev nD) {sp : Space} {s : Shape} {e : EltTy} (M : Memref sig .tc sp s e) (f : Buf (Elt F) (M.view.loc (c : Thread nD τ))) : sProp 𝕄 :=
  M.view.loc (c : Thread nD τ) ↦{fullShare} f

/-- A buffer held whole is owned through a memref that is all of it, at what the memref reads. -/
theorem owns_full (c : Dev nD) {sp : Space} {s : Shape} {e : EltTy} (M : Memref sig .tc sp s e) (h : M.IsWhole) (X : s.Idx → Elt F e) :
    (owns (c : Thread nD τ) M fullShare X : sProp 𝕄) = iprop(∃ f, ⌜M.view.read (Elt F) f = X⌝ ∗ full c M f) := by
  unfold owns; rw [h.set_eq_univ]

section body

variable (c : Dev nD) (i : grid1.Coords)
  (M1 : Memref sig .tc .vmem S2048x4 .f32) (h1 : M1.IsWhole) (M2 : Memref sig .tc .vmem S4x64 .f32) (h2 : M2.IsWhole)
  (M3 : Memref sig .tc .vmem S1x64 .f32) (h3 : M3.IsWhole) (M4 : Memref sig .tc .vmem S64x32 .f32) (h4 : M4.IsWhole)
  (M5 : Memref sig .tc .vmem S1x32 .f32) (h5 : M5.IsWhole) (M6 : Memref sig .tc .vmem S32x2 .f32) (h6 : M6.IsWhole)
  (M7 : Memref sig .tc .vmem S1x2 .f32) (h7 : M7.IsWhole) (M8 : Memref sig .tc .vmem S2048x2 .f32) (h8 : M8.IsWhole)

include h1 h2 h3 h4 h5 h6 h7 h8 in
/-- The body reads its seven operands and leaves the dense layers of them in the eighth buffer. -/
theorem body_run (f1 : Buf (Elt F) (M1.view.loc (c : Thread nD τ))) (f2 : Buf (Elt F) (M2.view.loc (c : Thread nD τ)))
    (f3 : Buf (Elt F) (M3.view.loc (c : Thread nD τ))) (f4 : Buf (Elt F) (M4.view.loc (c : Thread nD τ)))
    (f5 : Buf (Elt F) (M5.view.loc (c : Thread nD τ))) (f6 : Buf (Elt F) (M6.view.loc (c : Thread nD τ)))
    (f7 : Buf (Elt F) (M7.view.loc (c : Thread nD τ))) (f8 : Buf (Elt F) (M8.view.loc (c : Thread nD τ)))
    (Q : PUnit.{1} → sProp (MT nD τ sig (HIx 1) (Elt F) ℕ UU ℕ)) :
    iprop(full c M1 f1 ∗ full c M2 f2 ∗ full c M3 f3 ∗ full c M4 f4 ∗ full c M5 f5 ∗ full c M6 f6 ∗ full c M7 f7 ∗ full c M8 f8
        ∗ (∀ f, iprop(full c M1 f1 ∗ full c M2 f2 ∗ full c M3 f3 ∗ full c M4 f4 ∗ full c M5 f5 ∗ full c M6 f6 ∗ full c M7 f7
            ∗ ⌜M8.view.read (Elt F) f = k1_pay1 (M1.view.read (Elt F) f1) (M2.view.read (Elt F) f2) (M3.view.read (Elt F) f3)
                (M4.view.read (Elt F) f4) (M5.view.read (Elt F) f5) (M6.view.read (Elt F) f6) (M7.view.read (Elt F) f7)⌝
            ∗ full c M8 f) -∗ Q ⟨⟩))
      ⊢ wp frame (wpE (defs₀ (F := F)) Variants.none c none) Set.univ (cc1__mlp_body i M1 h1 M2 h2 M3 h3 M4 h4 M5 h5 M6 h6 M7 h7 M8 h8) Q := by
  rw [cc1__mlp_body_eq_skeleton]
  unfold cc1__mlp_body_skel
  iintro ⟨H1, H2, H3, H4, H5, H6, H7, H8, Hk⟩
  sl_exec!
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitr; swap; · iexact H8
  ipureintro
  unfold body_run.sl.H8_1
  rw [View.read_writes_junk_eq_canon, View.canon_unit_zero zero2]
  simp only [View.readAt_eq_ld]
  rw [View.ld_unit_zero (S := S2048x4) zero2, View.ld_unit_zero (S := S4x64) zero2, View.ld_unit_zero (S := S1x64) zero2,
    View.ld_unit_zero (S := S64x32) zero2, View.ld_unit_zero (S := S1x32) zero2, View.ld_unit_zero (S := S32x2) zero2,
    View.ld_unit_zero (S := S1x2) zero2]

/-- The same, said of what is read through the memrefs. -/
theorem body_owns (X1 : S2048x4.Idx → F .f32) (X2 : S4x64.Idx → F .f32) (X3 : S1x64.Idx → F .f32) (X4 : S64x32.Idx → F .f32)
    (X5 : S1x32.Idx → F .f32) (X6 : S32x2.Idx → F .f32) (X7 : S1x2.Idx → F .f32) (X8 : S2048x2.Idx → F .f32)
    (Q : PUnit.{1} → sProp (MT nD τ sig (HIx 1) (Elt F) ℕ UU ℕ)) :
    iprop(owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare X5 ∗ owns (c : Thread nD τ) M6 fullShare X6
        ∗ owns (c : Thread nD τ) M7 fullShare X7 ∗ owns (c : Thread nD τ) M8 fullShare X8
        ∗ (iprop(owns (c : Thread nD τ) M1 fullShare X1 ∗ owns (c : Thread nD τ) M2 fullShare X2 ∗ owns (c : Thread nD τ) M3 fullShare X3
          ∗ owns (c : Thread nD τ) M4 fullShare X4 ∗ owns (c : Thread nD τ) M5 fullShare X5 ∗ owns (c : Thread nD τ) M6 fullShare X6
          ∗ owns (c : Thread nD τ) M7 fullShare X7 ∗ owns (c : Thread nD τ) M8 fullShare (k1_pay1 X1 X2 X3 X4 X5 X6 X7)) -∗ Q ⟨⟩))
      ⊢ wp frame (wpE (defs₀ (F := F)) Variants.none c none) Set.univ (cc1__mlp_body i M1 h1 M2 h2 M3 h3 M4 h4 M5 h5 M6 h6 M7 h7 M8 h8) Q := by
  rw [owns_full c M1 h1, owns_full c M2 h2, owns_full c M3 h3, owns_full c M4 h4, owns_full c M5 h5, owns_full c M6 h6,
    owns_full c M7 h7, owns_full c M8 h8, owns_full c M8 h8]
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, -, H8⟩, Hk⟩
  subst e1 e2 e3 e4 e5 e6 e7
  iapply (body_run c i M1 h1 M2 h2 M3 h3 M4 h4 M5 h5 M6 h6 M7 h7 M8 h8 f1 f2 f3 f4 f5 f6 f7 f8)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro %f ⟨H1, H2, H3, H4, H5, H6, H7, %e8, H8⟩
  iapply Hk
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  isplitl [H7]; · iexists f7; isplitr; (· ipureintro; rfl); iexact H7
  iexists f; isplitr; (· ipureintro; exact e8); iexact H8

end body

/-! ## The pipeline's data, from any contents of the arrays -/

variable (V : (c : Dev nD) → (b : Ref sig .tc) → Buf (Elt F) ((c : Thread nD τ).loc b)) (b : ℕ)

/-- Window `w`'s block at point `t`, of the arrays the launch finds. -/
abbrev blkOf (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of results at point `t`. -/
def outOf (c : Dev nD) (t : Fin cfg1.N) : S2048x2.Idx → F .f32 :=
  k1_pay1 (blkOf V c 0 t) (blkOf V c 1 t) (blkOf V c 2 t) (blkOf V c 3 t) (blkOf V c 4 t) (blkOf V c 5 t) (blkOf V c 6 t)

/-- The pairs of a cell and an index the core's waits may have recorded. -/
abbrev under (c : Dev nD) : Set (SemLoc sig × HIx 1) := {p | (K (F := F)).lev ((c : Thread nD τ), p.1) p.2 ≤ b}

def dat (c : Dev nD) : Dat τ (Elt F) (HIx 1) ℕ UU ℕ cfg1 c where
  A w := V c (Pipeline.arrRef spec1 w)
  after w t := match w with
    | ⟨0, _⟩ => blkOf V c 0 t
    | ⟨1, _⟩ => blkOf V c 1 t
    | ⟨2, _⟩ => blkOf V c 2 t
    | ⟨3, _⟩ => blkOf V c 3 t
    | ⟨4, _⟩ => blkOf V c 4 t
    | ⟨5, _⟩ => blkOf V c 5 t
    | ⟨6, _⟩ => blkOf V c 6 t
    | ⟨7, _⟩ => outOf V c t
  Φ _ := BI.emp
  q _ := fullShare
  owed _ := 0
  recorded _ := under (F := F) b c

theorem before_0 (c : Dev nD) (t : Fin cfg1.N) (d) : (dat V b c).before 0 t d = blkOf V c 0 t :=
  (dat V b c).before_in_eq_fetched 0 rfl (fun _ => rfl) (fun _ _ _ => rfl) (fun _ => rfl) t d
theorem before_1 (c : Dev nD) (t : Fin cfg1.N) (d) : (dat V b c).before 1 t d = blkOf V c 1 t :=
  (dat V b c).before_in_eq_fetched 1 rfl (fun _ => rfl) (fun _ _ _ => rfl) (fun _ => rfl) t d
theorem before_2 (c : Dev nD) (t : Fin cfg1.N) (d) : (dat V b c).before 2 t d = blkOf V c 2 t :=
  (dat V b c).before_in_eq_fetched 2 rfl (fun _ => rfl) (fun _ _ _ => rfl) (fun _ => rfl) t d
theorem before_3 (c : Dev nD) (t : Fin cfg1.N) (d) : (dat V b c).before 3 t d = blkOf V c 3 t :=
  (dat V b c).before_in_eq_fetched 3 rfl (fun _ => rfl) (fun _ _ _ => rfl) (fun _ => rfl) t d
theorem before_4 (c : Dev nD) (t : Fin cfg1.N) (d) : (dat V b c).before 4 t d = blkOf V c 4 t :=
  (dat V b c).before_in_eq_fetched 4 rfl (fun _ => rfl) (fun _ _ _ => rfl) (fun _ => rfl) t d
theorem before_5 (c : Dev nD) (t : Fin cfg1.N) (d) : (dat V b c).before 5 t d = blkOf V c 5 t :=
  (dat V b c).before_in_eq_fetched 5 rfl (fun _ => rfl) (fun _ _ _ => rfl) (fun _ => rfl) t d
theorem before_6 (c : Dev nD) (t : Fin cfg1.N) (d) : (dat V b c).before 6 t d = blkOf V c 6 t :=
  (dat V b c).before_in_eq_fetched 6 rfl (fun _ => rfl) (fun _ _ _ => rfl) (fun _ => rfl) t d

/-- Window `w`'s staging buffer at point `t`, owned at `X`. -/
abbrev staged (c : Dev nD) (t : Fin cfg1.N) (w : Fin cfg1.W) (X : (cfg1.win w).block.Idx → Elt F (cfg1.win w).elt) : sProp 𝕄 :=
  owns (c : Thread nD τ) ((cfg1.win w).stage (cfg1.slots t w)) fullShare X

/-- One point: the blocks found in the staging buffers, the block of results left in the last. -/
theorem point_run (c : Dev nD) (t : Fin cfg1.N) (W : sProp (MT nD τ sig (HIx 1) (Elt F) ℕ UU ℕ)) :
    iprop(BI.emp ∗ W ∗ (∃ d, staged c t 0 ((dat V b c).before 0 t d)) ∗ (∃ d, staged c t 1 ((dat V b c).before 1 t d))
        ∗ (∃ d, staged c t 2 ((dat V b c).before 2 t d)) ∗ (∃ d, staged c t 3 ((dat V b c).before 3 t d))
        ∗ (∃ d, staged c t 4 ((dat V b c).before 4 t d)) ∗ (∃ d, staged c t 5 ((dat V b c).before 5 t d))
        ∗ (∃ d, staged c t 6 ((dat V b c).before 6 t d)) ∗ (∃ d, staged c t 7 ((dat V b c).before 7 t d)))
      ⊢ wp frame (wpE (defs₀ (F := F)) 𝒱₀ c none) Set.univ (bodyAt1 t) fun _ =>
        iprop(BI.emp ∗ W ∗ staged c t 0 (blkOf V c 0 t) ∗ staged c t 1 (blkOf V c 1 t) ∗ staged c t 2 (blkOf V c 2 t)
          ∗ staged c t 3 (blkOf V c 3 t) ∗ staged c t 4 (blkOf V c 4 t) ∗ staged c t 5 (blkOf V c 5 t) ∗ staged c t 6 (blkOf V c 6 t)
          ∗ staged c t 7 (outOf V c t)) := by
  simp only [before_0, before_1, before_2, before_3, before_4, before_5, before_6]
  iintro ⟨-, HW, ⟨%d0, H0⟩, ⟨%d1, H1⟩, ⟨%d2, H2⟩, ⟨%d3, H3⟩, ⟨%d4, H4⟩, ⟨%d5, H5⟩, ⟨%d6, H6⟩, ⟨%d7, H7⟩⟩
  iapply (body_owns c (grid1.coords t) (win1_0.stage (cfg1.slots t 0)) (hstage1_0 ((cfg1.slots t 0).cast nbuf1_0)) (win1_1.stage (cfg1.slots t 1)) (hstage1_1 ((cfg1.slots t 1).cast nbuf1_1))
    (win1_2.stage (cfg1.slots t 2)) (hstage1_2 ((cfg1.slots t 2).cast nbuf1_2)) (win1_3.stage (cfg1.slots t 3)) (hstage1_3 ((cfg1.slots t 3).cast nbuf1_3))
    (win1_4.stage (cfg1.slots t 4)) (hstage1_4 ((cfg1.slots t 4).cast nbuf1_4)) (win1_5.stage (cfg1.slots t 5)) (hstage1_5 ((cfg1.slots t 5).cast nbuf1_5))
    (win1_6.stage (cfg1.slots t 6)) (hstage1_6 ((cfg1.slots t 6).cast nbuf1_6)) (win1_7.stage (cfg1.slots t 7)) (hstage1_7 ((cfg1.slots t 7).cast nbuf1_7))
    (blkOf V c 0 t) (blkOf V c 1 t) (blkOf V c 2 t) (blkOf V c 3 t) (blkOf V c 4 t) (blkOf V c 5 t) (blkOf V c 6 t) ((dat V b c).before 7 t d7))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitr; · iempintro
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

attribute [local irreducible] wp owns cc1__mlp_body in
theorem point (c : Dev nD) : BodyObligation (dat V b c) (defs₀ (F := F)) 𝒱₀ none Set.univ := fun t => by
  rw [bigSep_W1, bigSep_W1]
  exact point_run V b c t ((dat V b c).owesAt none t.castSucc)

/-! ## What the launch leaves in its result -/

theorem row_lt (i : S16384x2.Idx) : (i 0).val / 2048 < 8 := by have : (i 0).val < 16384 := (i 0).isLt; omega
theorem col_lt (i : S16384x2.Idx) : (i 0).val % 2048 < 2048 := Nat.mod_lt _ (by decide)
theorem in_rows {t : ℕ} (ht : t < 8) (j : S2048x4.Idx) : 2048 * t + (j 0).val < 16384 := by have : (j 0).val < 2048 := (j 0).isLt; omega

/-- Rows `2048 t` to `2048 t + 2047`. -/
def rows (x : S16384x4.Idx → F .f32) (t : ℕ) (ht : t < 8) : S2048x4.Idx → F .f32 :=
  fun j => x (ix2 (n0 := 16384) (n1 := 4) ⟨2048 * t + (j 0).val, in_rows ht j⟩ (j 1))

/-- The dense layers of every row, block by block. -/
def layers (x : S16384x4.Idx → F .f32) (w1 : S4x64.Idx → F .f32) (b1 : S1x64.Idx → F .f32) (w2 : S64x32.Idx → F .f32)
    (b2 : S1x32.Idx → F .f32) (w3 : S32x2.Idx → F .f32) (b3 : S1x2.Idx → F .f32) : S16384x2.Idx → F .f32 := fun i =>
  k1_pay1 (rows x ((i 0).val / 2048) (row_lt i)) w1 b1 w2 b2 w3 b3 (ix2 (n0 := 2048) (n1 := 2) ⟨(i 0).val % 2048, col_lt i⟩ (i 1))

/-- The result's array after the launch. -/
def result (c : Dev nD) : Buf (Elt F) ((c : Thread nD τ).loc main_v10) :=
  layers (V c main_v6) (V c main_arg2) (V c main_v7) (V c main_arg4) (V c main_v8) (V c main_arg6) (V c main_v9)

theorem t_lt (t : Fin cfg1.N) : t.val < 8 := lt_of_lt_of_eq t.isLt N_1
theorem at_0 (t : Fin cfg1.N) : win1_0.index t 0 = t.val ∧ win1_0.index t 1 = 0 := by
  rcases fin_N1 t with rfl | rfl | rfl | rfl | rfl | rfl | rfl | rfl <;> decide +kernel
theorem at_7 (t : Fin cfg1.N) : win1_7.index t 0 = t.val ∧ win1_7.index t 1 = 0 := by
  rcases fin_N1 t with rfl | rfl | rfl | rfl | rfl | rfl | rfl | rfl <;> decide +kernel

theorem blk_0 (c : Dev nD) (t : Fin cfg1.N) : blkOf V c 0 t = rows (V c main_v6) t.val (t_lt t) := by
  funext j
  show V c main_v6 ((win1_0.rect t).emb j) = V c main_v6 _
  refine congrArg (V c main_v6) (funext fun a => Fin.ext ?_)
  rw [win1_0.rect_emb_val t]
  match a with
  | ⟨0, _⟩ => show win1_0.index t 0 * 2048 + (j 0).val = 2048 * t.val + (j 0).val; rw [(at_0 t).1]; omega
  | ⟨1, _⟩ => show win1_0.index t 1 * 4 + (j 1).val = (j 1).val; rw [(at_0 t).2]; omega

theorem blk_1 (c : Dev nD) (t : Fin cfg1.N) : blkOf V c 1 t = V c main_arg2 := by
  funext j
  show V c main_arg2 ((win1_1.rect t).emb j) = V c main_arg2 j
  exact congrArg (V c main_arg2) (funext fun a => Fin.ext (Window.rect_emb_val_of_index_zero win1_1 t a (by fin_cases a <;> rfl) j))
theorem blk_2 (c : Dev nD) (t : Fin cfg1.N) : blkOf V c 2 t = V c main_v7 := by
  funext j
  show V c main_v7 ((win1_2.rect t).emb j) = V c main_v7 j
  exact congrArg (V c main_v7) (funext fun a => Fin.ext (Window.rect_emb_val_of_index_zero win1_2 t a (by fin_cases a <;> rfl) j))
theorem blk_3 (c : Dev nD) (t : Fin cfg1.N) : blkOf V c 3 t = V c main_arg4 := by
  funext j
  show V c main_arg4 ((win1_3.rect t).emb j) = V c main_arg4 j
  exact congrArg (V c main_arg4) (funext fun a => Fin.ext (Window.rect_emb_val_of_index_zero win1_3 t a (by fin_cases a <;> rfl) j))
theorem blk_4 (c : Dev nD) (t : Fin cfg1.N) : blkOf V c 4 t = V c main_v8 := by
  funext j
  show V c main_v8 ((win1_4.rect t).emb j) = V c main_v8 j
  exact congrArg (V c main_v8) (funext fun a => Fin.ext (Window.rect_emb_val_of_index_zero win1_4 t a (by fin_cases a <;> rfl) j))
theorem blk_5 (c : Dev nD) (t : Fin cfg1.N) : blkOf V c 5 t = V c main_arg6 := by
  funext j
  show V c main_arg6 ((win1_5.rect t).emb j) = V c main_arg6 j
  exact congrArg (V c main_arg6) (funext fun a => Fin.ext (Window.rect_emb_val_of_index_zero win1_5 t a (by fin_cases a <;> rfl) j))
theorem blk_6 (c : Dev nD) (t : Fin cfg1.N) : blkOf V c 6 t = V c main_v9 := by
  funext j
  show V c main_v9 ((win1_6.rect t).emb j) = V c main_v9 j
  exact congrArg (V c main_v9) (funext fun a => Fin.ext (Window.rect_emb_val_of_index_zero win1_6 t a (by fin_cases a <;> rfl) j))

theorem outOf_eq (c : Dev nD) (t : Fin cfg1.N) : outOf V c t = k1_pay1 (rows (V c main_v6) t.val (t_lt t)) (V c main_arg2) (V c main_v7)
    (V c main_arg4) (V c main_v8) (V c main_arg6) (V c main_v9) := by
  unfold outOf; rw [blk_0, blk_1, blk_2, blk_3, blk_4, blk_5, blk_6]

attribute [local irreducible] k1_pay1 in
theorem flushed_eq (c : Dev nD) (t : Fin cfg1.N) :
    (dat V b c).flushed 7 t = ((cfg1.win 7).blk t).view.read (Elt F) (result V c) := by
  show outOf V c t = _
  rw [outOf_eq]
  funext j
  have hj : (j 0).val < 2048 := (j 0).isLt
  have e0 : ((win1_7.rect t).emb j 0).val = 2048 * t.val + (j 0).val := by
    rw [win1_7.rect_emb_val t]; show win1_7.index t 0 * 2048 + (j 0).val = _; rw [(at_7 t).1]; omega
  have e1 : ((win1_7.rect t).emb j 1).val = (j 1).val := by
    rw [win1_7.rect_emb_val t]; show win1_7.index t 1 * 2 + (j 1).val = _; rw [(at_7 t).2]; omega
  show _ = layers _ _ _ _ _ _ _ ((win1_7.rect t).emb j)
  unfold layers
  have hd : ((win1_7.rect t).emb j 0).val / 2048 = t.val := by omega
  have hr : rows (V c main_v6) (((win1_7.rect t).emb j 0).val / 2048) (row_lt _) = rows (V c main_v6) t.val (t_lt t) := by
    congr 1
  rw [hr]
  refine congrArg _ (funext fun a => Fin.ext ?_)
  match a with
  | ⟨0, _⟩ => show (j 0).val = ((win1_7.rect t).emb j 0).val % 2048; omega
  | ⟨1, _⟩ => exact e1.symm

theorem cover (i : S16384x2.Idx) : ∃ t : Fin cfg1.N, (cfg1.win 7).flush t = true ∧ i ∈ ((cfg1.win 7).blk t).view.set := by
  have hi := row_lt i
  have h1 : (i 1).val < 2 := (i 1).isLt
  refine ⟨⟨(i 0).val / 2048, lt_of_lt_of_eq hi N_1.symm⟩, flush1_7 _, ?_⟩
  generalize ht : (⟨(i 0).val / 2048, lt_of_lt_of_eq hi N_1.symm⟩ : Fin cfg1.N) = t
  have hv : t.val = (i 0).val / 2048 := by rw [← ht]
  show i ∈ ((View.whole main_v10).slice (win1_7.rect t)).set
  rw [View.set_slice_whole, Rect.mem_set_unit]
  intro a
  match a with
  | ⟨0, _⟩ => show win1_7.index t 0 * 2048 ≤ (i 0).val ∧ (i 0).val < win1_7.index t 0 * 2048 + 2048
              rw [(at_7 t).1]; omega
  | ⟨1, _⟩ => show win1_7.index t 1 * 2 ≤ (i 1).val ∧ (i 1).val < win1_7.index t 1 * 2 + 2
              rw [(at_7 t).2]; omega

theorem final (c : Dev nD) : (dat V b c).arrAt 7 cfg1.N = result V c :=
  (dat V b c).arrAt_eq_of_cover 7 (result V c) (fun t _ => flushed_eq V b c t) cover

/-! ## The launch as a step -/

abbrev adm : (p : Fin 1) → (pcfgs (F := F) p).Adm := fun p => (cfgs p).toPCfg_adm
def pdats : (p : Fin 1) → (c : Dev nD) → Dat τ (Elt F) (HIx 1) ℕ UU ℕ (Pipeline.pin (pcfgs (F := F)) adm p) c
  | ⟨0, _⟩ => fun c => dat V b c

/-- The arrays after the launch. -/
def next (c : Dev nD) : (r : Ref sig .tc) → Buf (Elt F) ((c : Thread nD τ).loc r) := Function.update (V c) main_v10 (result V c)

theorem next_self (c : Dev nD) : next V c main_v10 = result V c := Function.update_self _ _ _
theorem next_ne (c : Dev nD) {r : Ref sig .tc} (h : r ≠ main_v10) : next V c r = V c r := Function.update_of_ne h _ _

/-- The core owes nothing, and its waits were recorded at levels up to `b`. -/
abbrev idle (c : Dev nD) : sProp 𝕄 :=
  iprop(∃ W, ⌜(K (F := F)).WBelow (c : Thread nD τ) W b⌝ ∗ owes (c : Thread nD τ) (0 : CellTallies nD τ sig (HIx 1)) W)

set_option backward.isDefEq.respectTransparency.types false in
def seg : Pipeline.RegionSeg (pcfgs (F := F)) adm (pdats V b) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (point V b c).loose
  hwaits := Pipeline.hwaits_of_owed_zero _ _ _ _ (K (F := F)).L (K (F := F)).lev 0 fun _ _ => rfl
  pre c := iprop(unscopedBufs c (V c) ∗ idle (F := F) b c)
  post c := iprop(unscopedBufs c (next V c) ∗ idle (F := F) b c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V b) launch1.win launch1.arr_whole c
      ((pdats V b 0 c).share_full fun _ => rfl) (V c) fun _ => rfl
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (pdats V b 0 c).Φ 0 = BI.emp from rfl]
    iintro ⟨-, -, -⟩; iempintro
  hout c := by
    rw [Pipeline.ownSems0_none, show (pdats V b 0 c).Φ (Fin.last _) = BI.emp from rfl]
    iintro -
    isplitr; · iempintro
    isplitr; · iempintro
    iapply (Entails.of_eq (scopedRest1_eq c).symm); iempintro
  hexit c := by
    have hjoin := Pipeline.unscopedBufs_of_arrays (p := 0) (pcfgs (F := F)) adm (Ix := HIx 1) (Name := ℕ) (U := UU) (Lvl := ℕ) launch1.win launch1.arr_whole c
      (pdats V b) ((pdats V b 0 c).share_full fun _ => rfl) (V c) (next V c) ((pdats V b 0 c).arrAt · cfg1.N)
      (fun w => by
        fin_cases w
        · exact ((dat V b c).arrAt_in 0 rfl _).trans (next_ne V c (r := main_v6) (by decide)).symm
        · exact ((dat V b c).arrAt_in 1 rfl _).trans (next_ne V c (r := main_arg2) (by decide)).symm
        · exact ((dat V b c).arrAt_in 2 rfl _).trans (next_ne V c (r := main_v7) (by decide)).symm
        · exact ((dat V b c).arrAt_in 3 rfl _).trans (next_ne V c (r := main_arg4) (by decide)).symm
        · exact ((dat V b c).arrAt_in 4 rfl _).trans (next_ne V c (r := main_v8) (by decide)).symm
        · exact ((dat V b c).arrAt_in 5 rfl _).trans (next_ne V c (r := main_arg6) (by decide)).symm
        · exact ((dat V b c).arrAt_in 6 rfl _).trans (next_ne V c (r := main_v9) (by decide)).symm
        · exact (final V b c).trans (next_self V c).symm)
      (fun r hr => next_ne V c fun h => hr (h ▸ Finset.mem_image.mpr ⟨7, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr; swap; · iexact HO
    ipureintro
    intro p hp
    rcases hW hp with h | ⟨_, _, h⟩
    · exact h
    · subst h; exact Nat.zero_le b

end Cert.Proof.Region
-- ==== Proof.Main.lean ====
module

public import proofs.«01_k».proof.Proof.Region

@[expose] public section

noncomputable section

/-! # The program from its arguments to its result

The host's slices and reshapes, the SparseCore launch, the reshapes after it, and the dense layers; then the whole run:
the arguments at their launch contents, the result at the dense layers of the products, every semaphore at zero. -/

namespace Cert.Proof.Main

open Cert.KernelIdeal Cert.KernelIdeal.Gen
open Idealize.ShloMosaic
open Idealize.ShloMosaic.SparseCore (S V)
open Idealize.ShloMosaic.SparseCore.Cfg (HIx Pay)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after wp_hlo_within)
open Cert.Proof.Setup Cert.Proof.Launch

variable {F : FTy → Type} [FloatOps F]

local notation "𝕄" => MT nD τ sig (HIx 1) (Elt F) ℕ UU ℕ

variable (m : (ℓ : Loc nD τ sig) → Buf (Elt F) ℓ) (ρ : Dev nD → PrngReg)

/-! ## The host's operations -/

abbrev op0 : HloOp τ sig (Elt F) := StableHlo.unary main_arg0 main_v0 ((extractStridedSlice S16384x1 ![0, 0] · slices_S16384x2_S16384x1_0_0) : (⟨S16384x2, .i32⟩ : BufTy).Contents (Elt F) → (⟨S16384x1, .i32⟩ : BufTy).Contents (Elt F))
abbrev op1 : HloOp τ sig (Elt F) := StableHlo.reshape main_v0 main_v1 (rfl : (.i32 : EltTy) = .i32) shapeCasts_S16384x1_S16384
abbrev op2 : HloOp τ sig (Elt F) := StableHlo.unary main_arg0 main_v2 ((extractStridedSlice S16384x1 ![0, 1] · slices_S16384x2_S16384x1_0_1) : (⟨S16384x2, .i32⟩ : BufTy).Contents (Elt F) → (⟨S16384x1, .i32⟩ : BufTy).Contents (Elt F))
abbrev op3 : HloOp τ sig (Elt F) := StableHlo.reshape main_v2 main_v3 (rfl : (.i32 : EltTy) = .i32) shapeCasts_S16384x1_S16384
abbrev op4 : HloOp τ sig (Elt F) := StableHlo.reshape main_arg1 main_v4 (rfl : (.f32 : EltTy) = .f32) shapeCasts_S58416x4_S14604x16
abbrev op6 : HloOp τ sig (Elt F) := StableHlo.reshape main_v5 main_v6 (rfl : (.f32 : EltTy) = .f32) shapeCasts_S65536_S16384x4
abbrev op7 : HloOp τ sig (Elt F) := StableHlo.reshape main_arg3 main_v7 (rfl : (.f32 : EltTy) = .f32) shapeCasts_S64_S1x64
abbrev op8 : HloOp τ sig (Elt F) := StableHlo.reshape main_arg5 main_v8 (rfl : (.f32 : EltTy) = .f32) shapeCasts_S32_S1x32
abbrev op9 : HloOp τ sig (Elt F) := StableHlo.reshape main_arg7 main_v9 (rfl : (.f32 : EltTy) = .f32) shapeCasts_S2_S1x2

abbrev opsA : List (HloOp τ sig (Elt F)) := [op0, op1, op2, op3, op4]
abbrev opsB : List (HloOp τ sig (Elt F)) := [op6, op7, op8, op9]

abbrev U : Finset (DevRef τ sig) := Pipeline.ucRefs τ sig
/-- The four arrays of the SparseCore launch. -/
abbrev U4 : Finset (DevRef τ sig) := {Proc.devRef .tc main_v4, Proc.devRef .tc main_v1, Proc.devRef .tc main_v3, Proc.devRef .tc main_v5}

theorem U4_sub : U4 ⊆ U := by decide

theorem subU (op : HloOp τ sig (Elt F)) (h : op.bufs ⊆ StableHlo.tcRefs τ sig) : op.bufs ⊆ U := fun b hb =>
  Finset.mem_filter.mpr ⟨h hb, fun h' => Bool.false_ne_true ((op.no_scoped b hb).symm.trans h')⟩

/-! ## The arrays' contents, stretch by stretch -/

def V0 (d : Dev nD) : Valuation τ sig (Elt F) := fun b => m (d, b)
def V1 (d : Dev nD) : Valuation τ sig (Elt F) := after opsA (V0 m d)
def V2 (d : Dev nD) : Valuation τ sig (Elt F) := Function.update (V1 m d) (Proc.devRef .tc main_v5) (vO m d)
def V3 (d : Dev nD) : Valuation τ sig (Elt F) := after opsB (V2 m d)

/-- The column of a two-column list, sliced off and flattened. -/
theorem column (x : S16384x2.Idx → BitVec 32) (k : Fin 2) (o : Fin 2 → ℕ) (ho : o = ![0, k.val]) (hs) (hc) :
    shapeCast S16384 (extractStridedSlice S16384x1 o x hs) hc = fun j => x (ValueIdx.ix2 (n0 := 16384) (n1 := 2) (j 0) k) := by
  subst ho
  funext j
  rw [shapeCast_apply _ hc j (ValueIdx.ix2 (n0 := 16384) (n1 := 1) (j 0) 0)]
  · refine extractStridedSlice_apply (t := S16384x1) _ _ hs _ (ValueIdx.ix2 (n0 := 16384) (n1 := 2) (j 0) k) ?_
    intro a
    match a with
    | ⟨0, _⟩ => show (j 0).val = 0 + (j 0).val; omega
    | ⟨1, _⟩ => show k.val = k.val + 0; omega
  · rw [Shape.rowMajor_val_two, Shape.rowMajor_val_one]
    show (j 0).val * 1 + 0 = (j 0).val
    omega

theorem V1_v1 (d : Dev nD) : V1 m d (Proc.devRef .tc main_v1) = vA m d := by
  unfold V1 opsA
  after_results
  exact column _ 0 _ rfl _ _

theorem V1_v3 (d : Dev nD) : V1 m d (Proc.devRef .tc main_v3) = vB m d := by
  unfold V1 opsA
  after_results
  exact column _ 1 _ rfl _ _

theorem V1_v4 (d : Dev nD) : V1 m d (Proc.devRef .tc main_v4) = vT m d := by
  unfold V1 opsA
  after_results
  rfl

theorem V1_v5 (d : Dev nD) : V1 m d (Proc.devRef .tc main_v5) = m (oLoc d) := by
  unfold V1 opsA
  after_results
  rfl

theorem V2_v5 (d : Dev nD) : V2 m d (Proc.devRef .tc main_v5) = vO m d := Function.update_self _ _ _
theorem V2_ne (d : Dev nD) {b : DevRef τ sig} (h : b ≠ Proc.devRef .tc main_v5) : V2 m d b = V1 m d b := Function.update_of_ne h _ _

theorem held_U4 (d : Dev nD) (W : Valuation τ sig (Elt F)) :
    (held (SparseCore.T d : Thread nD τ) U4 W : sProp 𝕄)
      = iprop((tLoc d ↦{fullShare} W (Proc.devRef .tc main_v4)) ∗ (aLoc d ↦{fullShare} W (Proc.devRef .tc main_v1))
          ∗ (bLoc d ↦{fullShare} W (Proc.devRef .tc main_v3)) ∗ oLoc d ↦{fullShare} W (Proc.devRef .tc main_v5)) := by
  unfold held
  rw [SparseCore.bigSep_insert' (by decide), SparseCore.bigSep_insert' (by decide), SparseCore.bigSep_insert' (by decide), bigSep_singleton]

/-- Before the launch: its four arrays, and the rest. -/
theorem held_V1 (d : Dev nD) : (held (SparseCore.T d : Thread nD τ) U (V1 m d) : sProp 𝕄)
    = iprop(whole4 m d (m (oLoc d)) ∗ held (SparseCore.T d : Thread nD τ) (U \ U4) (V1 m d)) := by
  rw [StableHlo.held_sub_split _ U4_sub, held_U4, V1_v1, V1_v3, V1_v4, V1_v5]

/-- After it: the same, the products in the fourth. -/
theorem held_V2 (d : Dev nD) : (held (SparseCore.T d : Thread nD τ) U (V2 m d) : sProp 𝕄)
    = iprop(whole4 m d (vO m d) ∗ held (SparseCore.T d : Thread nD τ) (U \ U4) (V1 m d)) := by
  rw [StableHlo.held_sub_split _ U4_sub, held_U4, V2_v5, V2_ne m d (by decide), V2_ne m d (by decide), V2_ne m d (by decide), V1_v1, V1_v3, V1_v4,
    StableHlo.held_congr _ (V := V2 m d) (V' := V1 m d) fun b hb => V2_ne m d fun e => (Finset.mem_sdiff.mp hb).2 (e ▸ by decide)]

/-! ## The dense layers as the host enters them -/

/-- The contents the dense layers start from. -/
abbrev VR (c : Dev nD) (b : Ref sig .tc) : Buf (Elt F) ((c.tc : Thread nD τ).loc b) := V3 m c (Proc.devRef .tc b)

set_option backward.isDefEq.respectTransparency.types false in
attribute [local irreducible] cc0__sc_gather_body cc1__mlp_body k1_pay1 vO vT vA vB wp scopedBufs scopedSems0 owes in
theorem region (b : ℕ) (d : Dev nD) (Q : PUnit.{1} → sProp (MT nD τ sig (HIx 1) (Elt F) ℕ UU ℕ)) :
    iprop((iprop(boundary (SparseCore.T d : Thread nD τ) ∗ unscopedBufs d (Region.next (VR m) d) ∗ Region.idle (F := F) b d)
          -∗ wp frame (wpE (D (F := F)) 𝒱 (SparseCore.T d : Thread nD τ) none) Set.univ (.ret ⟨⟩) Q)
        ∗ boundary (SparseCore.T d : Thread nD τ) ∗ (unscopedBufs d (VR m d) ∗ Region.idle (F := F) b d)
        ∗ levAts (Setup.K (F := F)).L (Setup.K (F := F)).lev ∗ pipeGhost d)
      ⊢ wp frame (wpE (D (F := F)) 𝒱 (SparseCore.T d : Thread nD τ) none) Set.univ (.op (.customCall (Pipeline.entry 0) ()) .ret) Q :=
  Pipeline.RegionSeg.wp pcfgs Region.adm (Region.pdats (VR m) b) none cellOf_inj EP defs₀ 𝒱₀ (Setup.K (F := F)).L (Setup.K (F := F)).lev
    (Region.seg (VR m) b) d none (fun _ h => nomatch h) .ret Q

attribute [local irreducible] cc0__sc_gather_body cc1__mlp_body k1_pay1 vO vT vA vB wp scopedBufs scopedSems0 owes in
theorem enter (b : ℕ) (d : Dev nD) (Q : PUnit.{1} → sProp (MT nD τ sig (HIx 1) (Elt F) ℕ UU ℕ)) :
    iprop(levAts (Setup.K (F := F)).L (Setup.K (F := F)).lev ∗ boundary (SparseCore.T d : Thread nD τ) ∗ unscopedBufs d (VR m d) ∗ Region.idle (F := F) b d ∗ pipeGhost d
        ∗ (iprop(boundary (SparseCore.T d : Thread nD τ) ∗ unscopedBufs d (Region.next (VR m) d) ∗ Region.idle (F := F) b d) -∗ Q ⟨⟩))
      ⊢ wp frame (wpE ((Setup.K (F := F)).defs (D (F := F))) 𝒱 (SparseCore.T d : Thread nD τ) none) Set.univ
          (Prog.lift (.customCall (SparseCore.inner (Pipeline.entry 0)) ())) Q := by
  have h := (region m b d Q).trans ((Setup.K (F := F)).wp_liftProg (D (F := F)) 𝒱 (SparseCore.T d : Thread nD τ) Set.univ none
    (.op (.customCall (Pipeline.entry 0) ()) .ret) Q)
  iintro ⟨Hlev, Hb, Hu, Hi, Hg, Hk⟩
  iapply h
  isplitl [Hk]
  · iintro ⟨Hb, Hu, Hi⟩
    rw [wp_ret]; imodintro
    iapply Hk
    isplitl [Hb]; · iexact Hb
    isplitl [Hu]; · iexact Hu
    iexact Hi
  isplitl [Hb]; · iexact Hb
  isplitl [Hu Hi]
  · isplitl [Hu]; · iexact Hu
    iexact Hi
  isplitl [Hlev]; · iexact Hlev
  iexact Hg

/-! ## The whole of it -/

/-- What of the handshakes' state stays aside while the dense layers run. -/
abbrev aside (d : Dev nD) : sProp 𝕄 :=
  iprop(atPos EH ((Setup.K (F := F)).doneCell d) 1 ∅ 0 ∗ reached EH ((Setup.K (F := F)).doneCell d) 1
    ∗ (bigSep Finset.univ fun c : Fin τ.nSC => reached EH ((Setup.K (F := F)).startCell d c) ((Setup.K (F := F)).sRank c 1))
    ∗ bigSep (SparseCore.Cfg.callsFrom 1) fun q => bigSep Finset.univ fun c : Fin ((Setup.K (F := F)).nCore q) =>
        iprop(dutyTok EH ((Setup.K (F := F)).startCell d ((Setup.K (F := F)).core q c)) ((Setup.K (F := F)).sRank ((Setup.K (F := F)).core q c) q.val) 0
          ∗ cred (tallyAt ((Setup.K (F := F)).doneCell d) (some ((inferInstance : SparseCore.Cfg.Blocks 1 1).last q)) 1)))

theorem tcSt_one (d : Dev nD) : ((Setup.K (F := F)).tcSt EH d 1 : sProp 𝕄)
    = iprop(Region.idle (F := F) (8 * (inferInstance : SparseCore.Cfg.Blocks 1 1).fst 1) d ∗ aside d) := by
  unfold SparseCore.Cfg.tcSt Region.idle
  rw [(Setup.K (F := F)).Otc_end d (le_refl 1)]

/-- What the program leaves: every array, the result at the dense layers. -/
abbrev FIN (d : Dev nD) : sProp 𝕄 := unscopedBufs d (Region.next (VR m) d)

theorem unscoped_held (d : Dev nD) : (unscopedBufs d (fun b => m ((SparseCore.T d : Thread nD τ).loc b)) : sProp 𝕄) = held (SparseCore.T d : Thread nD τ) U (V0 m d) :=
  Pipeline.unscopedBufs_held d (V0 m d)

attribute [local irreducible] cc0__sc_gather_body cc1__mlp_body k1_pay1 vO vT vA vB wp scopedBufs scopedSems0 owes in
theorem hmain (κ : GSem nD τ sig → ℕ) (d : Dev nD) :
    iprop((Setup.K (F := F)).ctx EH (P m) κ ∗ (Setup.K (F := F)).tcSt EH d 0 ∗ (Setup.K (F := F)).tcRes m ρ d ∗ pipeGhost d)
      ⊢ wp frame (wpE ((Setup.K (F := F)).defs (D (F := F))) 𝒱 (SparseCore.T d : Thread nD τ) none) Set.univ (main d)
          fun _ => iprop((Setup.K (F := F)).tcSt EH d 1 ∗ FIN m d ∗ (Setup.K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, Hg⟩
  ihave #Hlev := (SparseCore.Cfg.ctx_levAts (K := Setup.K (F := F)) κ) $$ Hctx
  iapply (wp_hlo_within 𝒱 (SparseCore.T d : Thread nD τ) none Set.univ (op := op0) (S := U) (subU _ (StableHlo.unary_bufs_sub ..)) (V := V0 m d)) $$ [Hb Hheld]
  · isplitl [Hb]; · iexact Hb
    iexact Hheld
  iintro ⟨Hb, Hheld⟩
  rw [wp_ret]; imodintro
  iapply (wp_hlo_within 𝒱 (SparseCore.T d : Thread nD τ) none Set.univ (op := op1) (S := U) (subU _ (StableHlo.reshape_bufs_sub ..)) (V := after [op0] (V0 m d))) $$ [Hb Hheld]
  · isplitl [Hb]; · iexact Hb
    iexact Hheld
  iintro ⟨Hb, Hheld⟩
  rw [wp_ret]; imodintro
  iapply (wp_hlo_within 𝒱 (SparseCore.T d : Thread nD τ) none Set.univ (op := op2) (S := U) (subU _ (StableHlo.unary_bufs_sub ..)) (V := after [op0, op1] (V0 m d))) $$ [Hb Hheld]
  · isplitl [Hb]; · iexact Hb
    iexact Hheld
  iintro ⟨Hb, Hheld⟩
  rw [wp_ret]; imodintro
  iapply (wp_hlo_within 𝒱 (SparseCore.T d : Thread nD τ) none Set.univ (op := op3) (S := U) (subU _ (StableHlo.reshape_bufs_sub ..)) (V := after [op0, op1, op2] (V0 m d))) $$ [Hb Hheld]
  · isplitl [Hb]; · iexact Hb
    iexact Hheld
  iintro ⟨Hb, Hheld⟩
  rw [wp_ret]; imodintro
  iapply (wp_hlo_within 𝒱 (SparseCore.T d : Thread nD τ) none Set.univ (op := op4) (S := U) (subU _ (StableHlo.reshape_bufs_sub ..)) (V := after [op0, op1, op2, op3] (V0 m d))) $$ [Hb Hheld]
  · isplitl [Hb]; · iexact Hb
    iexact Hheld
  iintro ⟨Hb, Hheld⟩
  rw [wp_ret]; imodintro
  ihave Hh := (Entails.of_eq (show held (SparseCore.T d : Thread nD τ) U (op4.result (after [op0, op1, op2, op3] (V0 m d))) = _ from held_V1 (F := F) m d)) $$ Hheld
  icases Hh with ⟨H4, Hrest⟩
  iapply ((Setup.K (F := F)).wp_run (D (F := F)) 𝒱 (EH := EH) (P := P m) κ d 0) $$ [Hst H4 Hb Hrest Hts Hg]
  isplitr; · iexact Hctx
  isplitl [Hst]; · iexact Hst
  isplitl [H4]
  · rw [st_eq]; iexact H4
  iintro ⟨Hst, Hdn⟩
  ihave Hdn' := (Entails.of_eq (dn_eq m d)) $$ Hdn
  iapply (wp_hlo_within 𝒱 (SparseCore.T d : Thread nD τ) none Set.univ (op := op6) (S := U) (subU _ (StableHlo.reshape_bufs_sub ..)) (V := V2 m d)) $$ [Hb Hdn' Hrest]
  · isplitl [Hb]; · iexact Hb
    rw [held_V2]
    isplitl [Hdn'] <;> iassumption
  iintro ⟨Hb, Hheld⟩
  rw [wp_ret]; imodintro
  iapply (wp_hlo_within 𝒱 (SparseCore.T d : Thread nD τ) none Set.univ (op := op7) (S := U) (subU _ (StableHlo.reshape_bufs_sub ..)) (V := after [op6] (V2 m d))) $$ [Hb Hheld]
  · isplitl [Hb]; · iexact Hb
    iexact Hheld
  iintro ⟨Hb, Hheld⟩
  rw [wp_ret]; imodintro
  iapply (wp_hlo_within 𝒱 (SparseCore.T d : Thread nD τ) none Set.univ (op := op8) (S := U) (subU _ (StableHlo.reshape_bufs_sub ..)) (V := after [op6, op7] (V2 m d))) $$ [Hb Hheld]
  · isplitl [Hb]; · iexact Hb
    iexact Hheld
  iintro ⟨Hb, Hheld⟩
  rw [wp_ret]; imodintro
  iapply (wp_hlo_within 𝒱 (SparseCore.T d : Thread nD τ) none Set.univ (op := op9) (S := U) (subU _ (StableHlo.reshape_bufs_sub ..)) (V := after [op6, op7, op8] (V2 m d))) $$ [Hb Hheld]
  · isplitl [Hb]; · iexact Hb
    iexact Hheld
  iintro ⟨Hb, Hheld⟩
  rw [wp_ret]; imodintro
  ihave Hu := (Entails.of_eq (show held (SparseCore.T d : Thread nD τ) U (op9.result (after [op6, op7, op8] (V2 m d))) = _ from (Pipeline.unscopedBufs_held d (V3 m d)).symm)) $$ Hheld
  ihave Hst' := (Entails.of_eq (show (Setup.K (F := F)).tcSt EH d ((0 : Fin 1).val + 1) = _ from tcSt_one (F := F) d)) $$ Hst
  icases Hst' with ⟨Hi, Hst⟩
  iapply (enter m (8 * (inferInstance : SparseCore.Cfg.Blocks 1 1).fst 1) d _)
  isplitr; · iexact Hlev
  isplitl [Hb]; · iexact Hb
  isplitl [Hu]; · iexact Hu
  isplitl [Hi]; · iexact Hi
  isplitl [Hg]; · iexact Hg
  iintro ⟨Hb, Hu, Hi⟩
  imodintro
  isplitl [Hi Hst]
  · iapply (Entails.of_eq (tcSt_one (F := F) d).symm)
    isplitl [Hi] <;> iassumption
  isplitl [Hu]; · iexact Hu
  isplitl [Hb] <;> iassumption

/-! ## What the run leaves -/

/-- Every array on device `d` ends as the program leaves it. -/
def fq (d : Dev nD) (s' : Phys nD τ sig (Elt F)) : Prop :=
  ∀ b : Ref sig .tc, ¬ b.isScoped → s'.mem.mem ((SparseCore.T d : Thread nD τ).loc b) = Region.next (VR m) d b

attribute [local irreducible] V3 vO in
theorem hfin (d : Dev nD) (s' : Phys nD τ sig (Elt F)) : iprop(FIN m d ∗ SI s') ⊢ (⌜fq m d s'⌝ : sProp 𝕄) := by
  have one (b : Ref sig .tc) (hb : ¬ b.isScoped) :
      iprop(FIN m d ∗ SI s') ⊢ (⌜s'.mem.mem ((SparseCore.T d : Thread nD τ).loc b) = Region.next (VR m) d b⌝ : sProp 𝕄) := by
    have hel : FIN m d ⊢ ((SparseCore.T d : Thread nD τ).loc b ↦{fullShare} Region.next (VR m) d b : sProp 𝕄) :=
      bigSep_elim (Finset.mem_filter.mpr ⟨Finset.mem_univ b, hb⟩)
    iintro ⟨HF, HSI⟩
    ihave Hp := hel $$ HF
    ihave H := (SI_pointsTo_agree (st := s') (ℓ := (SparseCore.T d : Thread nD τ).loc b) (I := Finset.univ) (q := fullShare) (f := Region.next (VR m) d b)) $$ [HSI Hp]
    · isplitl [HSI] <;> iassumption
    icases H with %h
    ipureintro; exact funext fun i => h i (Finset.mem_univ i)
  exact (forall_intro fun b => (forall_intro fun hb => one b hb).trans pure_forall.2).trans pure_forall.2

/-- The arguments are never written. -/
theorem V3_arg (d : Dev nD) {b : DevRef τ sig} (hA : ∀ op ∈ opsA (F := F), b ∉ op.writes) (hB : ∀ op ∈ opsB (F := F), b ∉ op.writes)
    (h5 : b ≠ Proc.devRef .tc main_v5) : V3 m d b = m (d, b) := by
  unfold V3
  rw [StableHlo.after_of_forall_not_mem _ _ hB, V2_ne m d h5]
  exact StableHlo.after_of_forall_not_mem _ _ hA

attribute [local irreducible] vO in
theorem next_arg (d : Dev nD) {r : Ref sig .tc} (hr : r ∈ [main_arg0, main_arg1, main_arg2, main_arg3, main_arg4, main_arg5, main_arg6, main_arg7]) :
    Region.next (VR m) d r = m ((SparseCore.T d : Thread nD τ).loc r) := by
  have hne : r ∉ [main_v0, main_v1, main_v2, main_v3, main_v4, main_v5, main_v6, main_v7, main_v8, main_v9, main_v10] := by
    revert r; decide
  simp only [List.mem_cons, List.not_mem_nil, or_false, not_or] at hne
  obtain ⟨h0, h1, h2, h3, h4, h5, h6, h7, h8, h9, h10⟩ := hne
  rw [Region.next_ne _ _ h10]
  have w {r y : Ref sig .tc} (h : r ≠ y) : Proc.devRef (τ := τ) .tc r ∉ ({Proc.devRef .tc y} : Finset (DevRef τ sig)) :=
    fun e => h (Proc.devRef_injective _ (Finset.mem_singleton.mp e))
  refine V3_arg m d ?_ ?_ fun e => h5 (Proc.devRef_injective _ e)
  · intro op hop
    simp only [List.mem_cons, List.not_mem_nil, or_false] at hop
    rcases hop with rfl | rfl | rfl | rfl | rfl
    exacts [w h0, w h1, w h2, w h3, w h4]
  · intro op hop
    simp only [List.mem_cons, List.not_mem_nil, or_false] at hop
    rcases hop with rfl | rfl | rfl | rfl
    exacts [w h6, w h7, w h8, w h9]

theorem run_main [∀ e, Nonempty (Elt F e)] (hpre : PreOK m) :
    θ_run (Cert.KernelIdeal.defs (F := F)) (Cert.KernelIdeal.threads (F := F)) ⟨m, fun _ => 0, ρ⟩
      (fun r => (∀ (d : Dev nD) (b : Ref sig .tc), ¬ b.isScoped → r.2.mem ((SparseCore.T d : Thread nD τ).loc b) = Region.next (VR m) d b) ∧ r.2.sem = fun _ => 0) :=
  SparseCore.Cfg.θ_run_sc_quiescent (K := Setup.K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun d => pipeGhost d) (FIN m) (u₀ (F := F)) (sep_elim_left.trans (hu₀ m)) (hmain m ρ) (fq m) (hfin m) _ (fun _ h hz => ⟨h, hz⟩)

end Cert.Proof.Main
-- ==== Proof.Frames.lean ====
module

public import proofs.«01_k».proof.Proof.Main
public import proofs.«01_k».proof.Defs
public import proofs.«01_k».proof.Proof.Gen.Kernel
public import proofs.«01_k».proof.Proof.Gen.KernelIdeal
public import Idealize.ShloMosaic.Lib.ReduceAll

@[expose] public section

noncomputable section

/-! # The precondition read off, and the kernel's frames -/

namespace Cert.Proof.Frames

open Idealize.ShloMosaic Idealize.SL.Sem
open Cert.Proof.Setup Cert.Proof.Main

variable {F : FTy → Type} [FloatOps F]

/-- A word at least zero and below 58416, both signed, is its own value below 58416. -/
theorem word_lt (v : BitVec 32) (e : IntOp.andi (IntOp.cmpi .sge v 0#32) (IntOp.cmpi .slt v 58416#32) = 1#1) : v.toNat < 58416 := by
  have both (p q : Bool) : IntOp.andi (BitVec.ofBool p) (BitVec.ofBool q) = BitVec.ofBool (p && q) := by
    cases p <;> cases q <;> decide
  have one (p : Bool) : (BitVec.ofBool p = 1#1) ↔ p = true := by cases p <;> decide
  simp only [IntOp.cmpi, both, one, Bool.and_eq_true, BitVec.sle_eq_decide, BitVec.slt_eq_decide, decide_eq_true_eq,
    BitVec.toInt_eq_toNat_cond, BitVec.toNat_ofNat, Nat.reducePow, Nat.reduceMod] at e
  omega

/-- The predicate holds only of index arrays whose every word is below the table's row count. -/
theorem rows_lt [Cert.Pre_rows_in_range.Facts] (x : IVec Cert.Pre_rows_in_range.S16384x2 32) (a1 a2 a3 a4 a5 a6 a7)
    (h : Cert.Pre_rows_in_range.fn (F := F) x a1 a2 a3 a4 a5 a6 a7 = fun _ => 1#1) (j : Cert.Pre_rows_in_range.S16384x2.Idx) : (x j).toNat < 58416 := by
  have e := congrFun h (fun a => a.elim0)
  haveI : Subsingleton Cert.Pre_rows_in_range.S_.Idx := ⟨fun a b => funext fun i => i.elim0⟩
  exact word_lt _ (Host.reduce_andi_all _ _ _ _ _ e j)

theorem ok_ideal [Cert.Pre_rows_in_range.Facts] (m : (ℓ : Loc Cert.KernelIdeal.nD Cert.KernelIdeal.τ Cert.KernelIdeal.sig) → Buf (Elt Ideal) ℓ)
    (h : Cert.Pre_KernelIdeal m) : PreOK (F := Ideal) m := fun d j => rows_lt (F := Ideal) _ _ _ _ _ _ _ _ (h d) j

theorem ok_bits [Cert.Pre_rows_in_range.Facts] (m : (ℓ : Loc Cert.KernelIdeal.nD Cert.KernelIdeal.τ Cert.KernelIdeal.sig) → Buf (Elt Bits) ℓ)
    (h : Cert.Pre_Kernel m) : PreOK (F := Bits) m := fun d j => rows_lt (F := Bits) _ _ _ _ _ _ _ _ (h d) j

theorem args (m : (ℓ : Loc Cert.KernelIdeal.nD Cert.KernelIdeal.τ Cert.KernelIdeal.sig) → Buf (Elt F) ℓ)
    {r : (ℓ : Loc Cert.KernelIdeal.nD Cert.KernelIdeal.τ Cert.KernelIdeal.sig) → Buf (Elt F) ℓ}
    (h : ∀ (d : Dev Cert.KernelIdeal.nD) (b : Ref Cert.KernelIdeal.sig .tc), ¬ b.isScoped →
      r ((SparseCore.T d : Thread Cert.KernelIdeal.nD Cert.KernelIdeal.τ).loc b) = Region.next (VR m) d b) (d : Dev Cert.KernelIdeal.nD) :
    (∀ b ∈ [Cert.KernelIdeal.main_arg0, Cert.KernelIdeal.main_arg1, Cert.KernelIdeal.main_arg2, Cert.KernelIdeal.main_arg3,
      Cert.KernelIdeal.main_arg4, Cert.KernelIdeal.main_arg5, Cert.KernelIdeal.main_arg6, Cert.KernelIdeal.main_arg7],
      r ((SparseCore.T d : Thread Cert.KernelIdeal.nD Cert.KernelIdeal.τ).loc b) = m ((SparseCore.T d : Thread Cert.KernelIdeal.nD Cert.KernelIdeal.τ).loc b)) :=
  fun b hb => (h d b (by revert b; decide)).trans (next_arg m d hb)

open Cert.KernelIdeal.Gen

/-- The idealised kernel's frame. -/
theorem frame_ideal [Cert.Pre_rows_in_range.Facts] : Cert.quiescent_KernelIdeal := fun m ρ hpre =>
  (θ_run Cert.KernelIdeal.defs _ _).mono
    (fun _ h => ⟨fun c => ⟨args m h.1 c _ (by decide), args m h.1 c _ (by decide), args m h.1 c _ (by decide), args m h.1 c _ (by decide),
      args m h.1 c _ (by decide), args m h.1 c _ (by decide), args m h.1 c _ (by decide), args m h.1 c _ (by decide)⟩, h.2⟩)
    (run_main (F := Ideal) m ρ (ok_ideal m hpre))

/-- The two programs are one text: their kernels' bodies, -/
theorem bodies [Cert.Kernel.Facts] : Cert.Kernel.defs₀ (F := F) = Cert.KernelIdeal.defs₀ (F := F) := by
  funext p l a
  match p, l, a with
  | .tc, 0, _ => rfl
  | .tc, 1, (t, s) => rfl
  | .scScalar _, 0, _ => rfl
  | .scScalar _, 1, _ => rfl
  | .scVector _ _, 1, _ => rfl
  | .scVector c s, 0, _ => rfl

/-- and so their body tables. -/
theorem tables [Cert.Kernel.Facts] : Cert.Kernel.defs (F := F) = Cert.KernelIdeal.defs (F := F) :=
  congrArg (fun D => Cert.KernelIdeal.sc.defs (Pipeline.defs Cert.KernelIdeal.pcfgs D)) bodies

/-- The kernel's frame. -/
theorem frame_kernel [Cert.Kernel.Facts] [Cert.Pre_rows_in_range.Facts] : Cert.quiescent_Kernel := fun m ρ hpre =>
  (congrArg (fun D => θ_run D (Cert.KernelIdeal.threads (F := Bits)) ⟨m, fun _ => 0, ρ⟩ _) (tables (F := Bits))).mpr
    ((θ_run Cert.KernelIdeal.defs _ _).mono
      (fun _ h => ⟨fun c => ⟨args m h.1 c _ (by decide), args m h.1 c _ (by decide), args m h.1 c _ (by decide), args m h.1 c _ (by decide),
        args m h.1 c _ (by decide), args m h.1 c _ (by decide), args m h.1 c _ (by decide), args m h.1 c _ (by decide)⟩, h.2⟩)
      (run_main (F := Bits) m ρ (ok_bits m hpre)))

end Cert.Proof.Frames
-- ==== Proof.Reference.lean ====
module

public import proofs.«01_k».proof.Proof.Frames
public import proofs.«01_k».proof.Proof.Gen.ReferenceIdeal
public import proofs.«01_k».proof.Proof.Gen.ReferenceIdeal.Run
public import Idealize.ShloMosaic.Lib.Pointwise
public import Idealize.ShloMosaic.Lib.Pointwise.IndexBridge
public import Idealize.ShloMosaic.Lib.Routing.Ops

@[expose] public section

set_option maxRecDepth 16384

noncomputable section

/-! # The reference: its frames, and its result read at an index -/

namespace Cert.Proof.Reference

open Cert.ReferenceIdeal Cert.ReferenceIdeal.Gen
open Idealize.ShloMosaic Idealize.SL.Sem

/-! ## Frames -/

theorem frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_pre [Cert.Pre_rows_in_range.Facts] : Cert.quiescent_ReferenceIdeal_pre_rows_in_range := fun m ρ _ =>
  frame m ρ trivial

/-! ## The rows a list of indices names -/

variable {F : FTy → Type} [FloatOps F]

/-- The list with its negative words moved up by the row count, as a column. -/
def wrapped (x : IVec S16384 32) : IVec S16384x1 32 :=
  broadcastInDim S16384x1 ![0] bcast_S16384_S16384x1_0
    (select (cmpi .slt x (broadcastInDim S16384 ![] bcast_S_S16384 (constantI S_ 32 0#32)))
      (addi x (broadcastInDim S16384 ![] bcast_S_S16384 (constantI S_ 32 58416#32))) x)

/-- Whether each entry of a column is a row of the table. -/
def inside (y : IVec S16384x1 32) : IVec S16384 1 :=
  Host.reduce IntOp.andi
    (andi (cmpi .sge y (broadcastInDim S16384x1 ![] bcast_S_S16384x1 (constantI S_ 32 0#32)))
      (cmpi .sle y (broadcastInDim S16384x1 ![0, 1] bcast_S1x1_S16384x1_0_1 (broadcastInDim S1x1 ![1] bcast_S1_S1x1_1 (constantI S1 32 58415#32)))))
    (constantI S_ 1 1#1) reducesTo_S16384x1_S16384_d1 h_S_

/-- The rows a list names. -/
def taken (x : IVec S16384 32) (t : FVec F S58416x4 .f32) : FVec F S16384x4 .f32 :=
  select (broadcastInDim S16384x4 ![0] bcast_S16384_S16384x4_0 (inside (wrapped x)))
    (Host.gather gather_S58416x4_S16384x1_S16384x4_1_0_n_n_0_1_14 t (wrapped x))
    (broadcastInDim S16384x4 ![] bcast_S_S16384x4 (constant S_ .f32 0x7FC00000#32))

/-- The three dense layers. -/
def dense (x : FVec F S16384x4 .f32) (w1 : FVec F S4x64 .f32) (b1 : FVec F S64 .f32) (w2 : FVec F S64x32 .f32) (b2 : FVec F S32 .f32)
    (w3 : FVec F S32x2 .f32) (b3 : FVec F S2 .f32) : FVec F S16384x2 .f32 :=
  addf (Host.dotGeneral dot_S16384x32_S32x2_S16384x2_1_0_0_1_n_n none
    (maximumf (addf (Host.dotGeneral dot_S16384x64_S64x32_S16384x32_1_0_0_1_n_n none
      (maximumf (addf (Host.dotGeneral dot_S16384x4_S4x64_S16384x64_1_0_0_1_n_n none x w1)
          (broadcastInDim S16384x64 ![0, 1] bcast_S1x64_S16384x64_0_1 (broadcastInDim S1x64 ![1] bcast_S64_S1x64_1 b1)))
        (broadcastInDim S16384x64 ![] bcast_S_S16384x64 (constant S_ .f32 0x00000000#32))) w2)
          (broadcastInDim S16384x32 ![0, 1] bcast_S1x32_S16384x32_0_1 (broadcastInDim S1x32 ![1] bcast_S32_S1x32_1 b2)))
        (broadcastInDim S16384x32 ![] bcast_S_S16384x32 (constant S_ .f32 0x00000000#32))) w3)
          (broadcastInDim S16384x2 ![0, 1] bcast_S1x2_S16384x2_0_1 (broadcastInDim S1x2 ![1] bcast_S2_S1x2_1 b3))

/-- One column of the index array, as a list. -/
def first (x : IVec S16384x2 32) : IVec S16384 32 :=
  shapeCast _ (extractStridedSlice S16384x1 ![0, 0] x slices_S16384x2_S16384x1_0_0) shapeCasts_S16384x1_S16384
def second (x : IVec S16384x2 32) : IVec S16384 32 :=
  shapeCast _ (extractStridedSlice S16384x1 ![0, 1] x slices_S16384x2_S16384x1_0_1) shapeCasts_S16384x1_S16384

theorem res_eq (m : (ℓ : Loc nD τ sig) → Buf (Elt F) ℓ) (c : Dev nD) :
    Value.res_main_v20 m c = dense (mulf (taken (first (m ((c.tc : Thread nD τ).loc main_arg0))) (m ((c.tc : Thread nD τ).loc main_arg1)))
        (taken (second (m ((c.tc : Thread nD τ).loc main_arg0))) (m ((c.tc : Thread nD τ).loc main_arg1))))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := rfl

/-! ## A list of rows in range -/

theorem wrapped_apply (x : IVec S16384 32) (hx : ∀ j, (x j).toNat < 58416) (i : S16384x1.Idx) : wrapped x i = x (ix1 (i 0)) := by
  pointwise [wrapped]
  have h := hx (ix1 (i 0))
  have e : IntOp.cmpi .slt (x (ix1 (i 0))) 0#32 = 0#1 := by
    simp only [IntOp.cmpi, BitVec.slt_eq_decide, BitVec.toInt_eq_toNat_cond, BitVec.toNat_ofNat]
    rw [decide_eq_false (by omega)]; rfl
  rw [e]; rfl

theorem inside_apply (y : IVec S16384x1 32) (hy : ∀ i, (y i).toNat < 58416) (j : S16384.Idx) : inside y j = 1#1 := by
  unfold inside
  refine Host.reduce_andi_one _ _ _ _ _ rfl fun i => ?_
  pointwise
  have h := hy i
  have e1 : IntOp.cmpi .sge (y i) 0#32 = 1#1 := by
    simp only [IntOp.cmpi, BitVec.sle_eq_decide, BitVec.toInt_eq_toNat_cond, BitVec.toNat_ofNat]
    rw [decide_eq_true (by omega)]; rfl
  have e2 : IntOp.cmpi .sle (y i) 58415#32 = 1#1 := by
    simp only [IntOp.cmpi, BitVec.sle_eq_decide, BitVec.toInt_eq_toNat_cond, BitVec.toNat_ofNat]
    rw [decide_eq_true (by omega)]; rfl
  rw [e1, e2]; rfl

theorem taken_apply (x : IVec S16384 32) (hx : ∀ j, (x j).toNat < 58416) (t : FVec F S58416x4 .f32) (r : Fin 16384) (b : Fin 4) :
    taken x t (ix2 r b) = t (ix2 ⟨(x (ix1 r)).toNat, hx _⟩ b) := by
  have hw := wrapped_apply x hx
  pointwise [taken]
  rw [inside_apply _ (fun i => by rw [hw]; exact hx _)]
  show Host.gather _ _ _ _ = _
  rw [ix2_eq_valueIdx, ix2_eq_valueIdx]
  exact Routing.gather_row _ rfl rfl rfl rfl rfl t (wrapped x) r b ⟨_, hx _⟩ (by rw [hw]; simp) (by decide)

end Cert.Proof.Reference
-- ==== Proof.Algebra.lean ====
module

public import proofs.«01_k».proof.Proof.Reference

@[expose] public section

set_option maxRecDepth 16384

noncomputable section

/-! # The kernel's result is the reference's

The products the vector subcores leave are the products of the rows taken, and the dense layers of a block of rows are
the dense layers of all rows, read at those rows. -/

namespace Cert.Proof.Algebra

open Idealize.ShloMosaic Idealize.SL.Sem
open Cert.Proof.Setup Cert.Proof.Main

/-! ## The dense layers -/

/-- Three dense layers at one row and one column, the row given by its entries. -/
def net (x : Fin 4 → EReal) (w1 : Fin 4 → Fin 64 → EReal) (b1 : Fin 64 → EReal) (w2 : Fin 64 → Fin 32 → EReal) (b2 : Fin 32 → EReal)
    (w3 : Fin 32 → Fin 2 → EReal) (b3 : Fin 2 → EReal) (l : Fin 2) : EReal :=
  (∑ j, max ((∑ k, max ((∑ a, x a * w1 a k) + b1 k) 0 * w2 k j) + b2 j) 0 * w3 j l) + b3 l

theorem dense_apply (x : FVec Ideal Cert.ReferenceIdeal.S16384x4 .f32) (w1 b1 w2 b2 w3 b3) (r : Fin 16384) (l : Fin 2) :
    Reference.dense (F := Ideal) x w1 b1 w2 b2 w3 b3 (ix2 r l)
      = net (fun a => x (ix2 r a)) (fun a k => w1 (ix2 a k)) (fun k => b1 (ix1 k)) (fun k j => w2 (ix2 k j)) (fun j => b2 (ix1 j))
          (fun j l => w3 (ix2 j l)) (fun l => b3 (ix1 l)) l := by
  pointwise [Reference.dense, net]

theorem block_apply (x : FVec Ideal Cert.KernelIdeal.S2048x4 .f32) (w1 b1 w2 b2 w3 b3) (r : Fin 2048) (l : Fin 2) :
    Cert.KernelIdeal.Gen.k1_pay1 (F := Ideal) x w1 b1 w2 b2 w3 b3 (ix2 r l)
      = net (fun a => x (ix2 r a)) (fun a k => w1 (ix2 a k)) (fun k => b1 (ix2 0 k)) (fun k j => w2 (ix2 k j)) (fun j => b2 (ix2 0 j))
          (fun j l => w3 (ix2 j l)) (fun l => b3 (ix2 0 l)) l := by
  pointwise [Cert.KernelIdeal.Gen.k1_pay1, net]

theorem bias64 (b : FVec Ideal Cert.KernelIdeal.S64 .f32) (h) (k : Fin 64) : shapeCast Cert.KernelIdeal.S1x64 b h (ix2 0 k) = b (ix1 k) := by pointwise
theorem bias32 (b : FVec Ideal Cert.KernelIdeal.S32 .f32) (h) (k : Fin 32) : shapeCast Cert.KernelIdeal.S1x32 b h (ix2 0 k) = b (ix1 k) := by pointwise
theorem bias2 (b : FVec Ideal Cert.KernelIdeal.S2 .f32) (h) (k : Fin 2) : shapeCast Cert.KernelIdeal.S1x2 b h (ix2 0 k) = b (ix1 k) := by pointwise

/-- A row of the block it lies in. -/
theorem rows_apply (x : FVec Ideal Cert.KernelIdeal.S16384x4 .f32) (r : Fin 16384) (h) (a : Fin 4) :
    Region.rows (F := Ideal) x (r.val / 2048) h (ix2 ⟨r.val % 2048, Nat.mod_lt _ (by decide)⟩ a) = x (ix2 r a) := by
  have hr := r.isLt
  have e : (⟨2048 * (r.val / 2048) + r.val % 2048, by omega⟩ : Fin 16384) = r := Fin.ext (by show 2048 * (r.val / 2048) + r.val % 2048 = r.val; omega)
  refine Eq.trans ?_ (congrArg (fun q => x (ix2 q a)) e)
  rw [ix2_eq_valueIdx, ix2_eq_valueIdx]
  rfl

/-- The dense layers block by block are the dense layers. -/
theorem layers_eq (x : FVec Ideal Cert.KernelIdeal.S16384x4 .f32) (w1 b1 w2 b2 w3 b3) (h1 h2 h3) :
    Region.layers (F := Ideal) x w1 (shapeCast Cert.KernelIdeal.S1x64 b1 h1) w2 (shapeCast Cert.KernelIdeal.S1x32 b2 h2) w3
        (shapeCast Cert.KernelIdeal.S1x2 b3 h3)
      = Reference.dense (F := Ideal) x w1 b1 w2 b2 w3 b3 := by
  funext i
  obtain ⟨r, l, rfl⟩ : ∃ (r : Fin 16384) (l : Fin 2), i = ix2 r l := ⟨i 0, i 1, eq_ix2 i⟩
  rw [dense_apply]
  have hr := r.isLt
  have hb := block_apply (Region.rows (F := Ideal) x (r.val / 2048) (by omega)) w1 (shapeCast Cert.KernelIdeal.S1x64 b1 h1) w2
    (shapeCast Cert.KernelIdeal.S1x32 b2 h2) w3 (shapeCast Cert.KernelIdeal.S1x2 b3 h3) ⟨r.val % 2048, Nat.mod_lt _ (by decide)⟩ l
  simp only [bias64, bias32, bias2, rows_apply] at hb
  refine Eq.trans ?_ hb
  rw [ix2_eq_valueIdx, ix2_eq_valueIdx]
  rfl

/-! ## The products -/

section
variable {F : FTy → Type} [FloatOps F]
variable (m : (ℓ : Loc Cert.KernelIdeal.nD Cert.KernelIdeal.τ Cert.KernelIdeal.sig) → Buf (Elt F) ℓ)

/-- A row of sixteen holds four of the table's rows. -/
theorem table_apply (t : FVec F Cert.KernelIdeal.S58416x4 .f32) (h) (w : ℕ) (hw : w < 58416) (b : ℕ) (hb : b < 4) :
    shapeCast Cert.KernelIdeal.S14604x16 t h (ValueIdx.ix2 (n0 := 14604) (n1 := 16) ⟨w / 4, by omega⟩ ⟨4 * (w % 4) + b, by omega⟩)
      = t (ix2 ⟨w, hw⟩ ⟨b, hb⟩) := by
  refine shapeCast_apply _ h _ _ ?_
  rw [Shape.rowMajor_val_two, Shape.rowMajor_val_two]
  show w * 4 + b = w / 4 * 16 + (4 * (w % 4) + b)
  omega

/-- The factor of a product, by the row and the column it stands for. -/
theorem factor_apply (t : FVec F Cert.KernelIdeal.S58416x4 .f32) (h) (x : IVec Cert.KernelIdeal.S16384 32) (hx : ∀ j, (x j).toNat < 58416)
    (r : Fin 16384) (b : Fin 4) (k : Cert.KernelIdeal.S65536.Idx) (hk : (k 0).val = 4 * r.val + b.val) :
    factor x (shapeCast Cert.KernelIdeal.S14604x16 t h) k = t (ix2 ⟨(x (ix1 r)).toNat, hx _⟩ b) := by
  have hp : fpos k = ix1 r := by
    rw [ix1_eq_valueIdx]
    exact congrArg ValueIdx.ix1 (Fin.ext (by show (k 0).val / 4 = r.val; omega))
  have hw : x (fpos k) = x (ix1 r) := congrArg x hp
  have h0 := hx (ix1 r)
  rw [← table_apply t h _ h0 b.val b.isLt]
  unfold factor
  refine congrArg _ (congrArg₂ (ValueIdx.ix2 (n0 := 14604) (n1 := 16)) (Fin.ext ?_) (Fin.ext ?_))
  · show (shw (x (fpos k))).toNat % 14604 = (x (ix1 r)).toNat / 4
    rw [hw, shw_toNat h0]; omega
  · show colN (x (fpos k)) (k 0).val = 4 * ((x (ix1 r)).toNat % 4) + b.val
    rw [hw]; unfold colN; omega

theorem first_apply (x : IVec Cert.KernelIdeal.S16384x2 32) (r : Fin 16384) : Reference.first x (ix1 r) = x (ix2 r 0) := by
  pointwise [Reference.first]
theorem second_apply (x : IVec Cert.KernelIdeal.S16384x2 32) (r : Fin 16384) : Reference.second x (ix1 r) = x (ix2 r 1) := by
  pointwise [Reference.second]

theorem vA_eq (d : Dev Cert.KernelIdeal.nD) : vA m d = Reference.first (m (xLoc d)) := by
  funext j
  obtain ⟨r, rfl⟩ : ∃ r : Fin 16384, j = ix1 r := ⟨j 0, eq_ix1 j⟩
  rw [first_apply, ix2_eq_valueIdx]
  rfl
theorem vB_eq (d : Dev Cert.KernelIdeal.nD) : vB m d = Reference.second (m (xLoc d)) := by
  funext j
  obtain ⟨r, rfl⟩ : ∃ r : Fin 16384, j = ix1 r := ⟨j 0, eq_ix1 j⟩
  rw [second_apply, ix2_eq_valueIdx]
  rfl

/-- The products the vector subcores leave are the products of the rows taken. -/
theorem products_eq (hpre : PreOK m) (d : Dev Cert.KernelIdeal.nD) (h) :
    shapeCast Cert.KernelIdeal.S16384x4 (vO m d) h
      = mulf (Reference.taken (Reference.first (m (xLoc d))) (m (eLoc d))) (Reference.taken (Reference.second (m (xLoc d))) (m (eLoc d))) := by
  have ha := vA_lt hpre d
  have hb := vB_lt hpre d
  rw [vA_eq] at ha
  rw [vB_eq] at hb
  funext i
  obtain ⟨r, b, rfl⟩ : ∃ (r : Fin 16384) (b : Fin 4), i = ix2 r b := ⟨i 0, i 1, eq_ix2 i⟩
  have hr := r.isLt
  rw [shapeCast_apply _ h _ (ValueIdx.ix1 (n := 65536) ⟨4 * r.val + b.val, by omega⟩)
    (by rw [Shape.rowMajor_val_two, Shape.rowMajor_val_one]; show 4 * r.val + b.val = r.val * 4 + b.val; omega)]
  unfold vO vT
  rw [vA_eq, vB_eq, factor_apply _ _ _ ha r b _ rfl, factor_apply _ _ _ hb r b _ rfl]
  show _ = FloatOps.mulf _ _
  rw [Reference.taken_apply _ ha, Reference.taken_apply _ hb]

/-! ## The host's arrays before the dense layers -/

theorem V3_v6 (d : Dev Cert.KernelIdeal.nD) : VR m d Cert.KernelIdeal.main_v6 = shapeCast Cert.KernelIdeal.S16384x4 (vO m d) Cert.KernelIdeal.Gen.shapeCasts_S65536_S16384x4 := by
  show V3 m d _ = _
  unfold V3 opsB
  after_results
  rw [V2_v5]
  rfl

theorem V3_v7 (d : Dev Cert.KernelIdeal.nD) : VR m d Cert.KernelIdeal.main_v7
    = shapeCast Cert.KernelIdeal.S1x64 (m ((SparseCore.T d : Thread Cert.KernelIdeal.nD Cert.KernelIdeal.τ).loc Cert.KernelIdeal.main_arg3)) Cert.KernelIdeal.Gen.shapeCasts_S64_S1x64 := by
  show V3 m d _ = _
  unfold V3 opsB
  after_results
  rw [V2_ne m d (by decide)]
  unfold V1 opsA
  after_results
  rfl

theorem V3_v8 (d : Dev Cert.KernelIdeal.nD) : VR m d Cert.KernelIdeal.main_v8
    = shapeCast Cert.KernelIdeal.S1x32 (m ((SparseCore.T d : Thread Cert.KernelIdeal.nD Cert.KernelIdeal.τ).loc Cert.KernelIdeal.main_arg5)) Cert.KernelIdeal.Gen.shapeCasts_S32_S1x32 := by
  show V3 m d _ = _
  unfold V3 opsB
  after_results
  rw [V2_ne m d (by decide)]
  unfold V1 opsA
  after_results
  rfl

theorem V3_v9 (d : Dev Cert.KernelIdeal.nD) : VR m d Cert.KernelIdeal.main_v9
    = shapeCast Cert.KernelIdeal.S1x2 (m ((SparseCore.T d : Thread Cert.KernelIdeal.nD Cert.KernelIdeal.τ).loc Cert.KernelIdeal.main_arg7)) Cert.KernelIdeal.Gen.shapeCasts_S2_S1x2 := by
  show V3 m d _ = _
  unfold V3 opsB
  after_results
  rw [V2_ne m d (by decide)]
  unfold V1 opsA
  after_results
  rfl

theorem VR_arg (d : Dev Cert.KernelIdeal.nD) {r : Ref Cert.KernelIdeal.sig .tc}
    (hr : r ∈ [Cert.KernelIdeal.main_arg0, Cert.KernelIdeal.main_arg1, Cert.KernelIdeal.main_arg2, Cert.KernelIdeal.main_arg3, Cert.KernelIdeal.main_arg4, Cert.KernelIdeal.main_arg5, Cert.KernelIdeal.main_arg6, Cert.KernelIdeal.main_arg7]) :
    VR m d r = m ((SparseCore.T d : Thread Cert.KernelIdeal.nD Cert.KernelIdeal.τ).loc r) :=
  (Region.next_ne (VR m) d (by rintro rfl; revert hr; decide)).symm.trans (next_arg m d hr)

end

/-- The kernel's result is the reference's composed term. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (hpre : PreOK m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Value.res_main_v20 (F := Ideal) m' c = Region.next (VR m) c Cert.KernelIdeal.main_v10 := by
  rw [Region.next_self]
  unfold Region.result
  rw [V3_v6, V3_v7, V3_v8, V3_v9, VR_arg m c (r := Cert.KernelIdeal.main_arg2) (by decide), VR_arg m c (r := Cert.KernelIdeal.main_arg4) (by decide),
    VR_arg m c (r := Cert.KernelIdeal.main_arg6) (by decide), products_eq m hpre, Reference.res_eq, h0, h1, h2, h3, h4, h5, h6, h7]
  exact (layers_eq _ _ _ _ _ _ _ _ _ _).symm

theorem algebraic [Cert.Pre_rows_in_range.Facts] : Cert.algebraic_KernelIdeal_ReferenceIdeal := fun m g m' g' hpre harg =>
  ⟨fun c => Region.next (VR m) c Cert.KernelIdeal.main_v10,
    (θ_run Cert.KernelIdeal.defs _ _).mono
      (fun r h c => ⟨h.1 c Cert.KernelIdeal.main_v10 (by decide), Frames.args m h.1 c _ (by decide), Frames.args m h.1 c _ (by decide), Frames.args m h.1 c _ (by decide),
        Frames.args m h.1 c _ (by decide), Frames.args m h.1 c _ (by decide), Frames.args m h.1 c _ (by decide), Frames.args m h.1 c _ (by decide), Frames.args m h.1 c _ (by decide)⟩)
      (run_main m g (Frames.ok_ideal m hpre)),
    (θ_run Cert.ReferenceIdeal.defs _ _).mono
      (fun r h c => ⟨(h c).1.trans (result_eq m m' (Frames.ok_ideal m hpre) c (harg c).1 (harg c).2.1 (harg c).2.2.1 (harg c).2.2.2.1 (harg c).2.2.2.2.1
        (harg c).2.2.2.2.2.1 (harg c).2.2.2.2.2.2.1 (harg c).2.2.2.2.2.2.2), (h c).2⟩)
      (Cert.ReferenceIdeal.Value.run (F := Ideal) m' g')⟩

end Cert.Proof.Algebra
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_rows_in_range
public import proofs.«01_k».proof.Proof.Frames
public import proofs.«01_k».proof.Proof.Reference
public import proofs.«01_k».proof.Proof.Algebra

@[expose] public section

noncomputable section

namespace Cert.Proof

theorem claim : Cert.Claim :=
  ⟨Cert.Kernel.Gen.facts, Cert.KernelIdeal.Gen.facts, Cert.ReferenceIdeal.Gen.facts, Cert.Pre_rows_in_range.Gen.facts,
    Frames.frame_kernel, Frames.frame_ideal, Reference.frame, Reference.frame_pre, trivial, Algebra.algebraic⟩

end Cert.Proof

end
